-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v508)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v508) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v683) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S256x128 : Shape := ⟨2, ![256, 128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg19 : FVec F S64x10 .f32) (main_arg20 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x10 .f32 := Host.absf main_arg19
  let main_cst_20 : FVec F S_ .f32 := constant S_ .f32 0x7F800000#32
  let main_v55 : FVec F S64x10 .f32 := broadcastInDim S64x10 ![] bcast_S_S64x10 main_cst_20
  let main_v56 : IVec S64x10 1 := cmpf .olt main_v54 main_v55
  let main_c_21 : IVec S_ 1 := constantI S_ 1 1#1
  let main_v57 : IVec S_ 1 := (fun x v => Host.reduce IntOp.andi x v reducesTo_S64x10_S_d0_1 h_S_) main_v56 main_c_21
  let main_v58 : IVec S_ 1 := andi main_v53 main_v57
  let main_v59 : FVec F S10 .f32 := Host.absf main_arg20
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg15 : FVec F S256x128 .f32) (main_arg16 : FVec F S128 .f32) (main_arg17 : FVec F S128x64 .f32) (main_arg18 : FVec F S64 .f32) (main_arg19 : FVec F S64x10 .f32) (main_arg20 : FVec F S10 .f32) (main_v33 : IVec S_ 1) : IVec S_ 1 :=
  let main_v34 : FVec F S256x128 .f32 := Host.absf main_arg15
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg16
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg17
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg18
  let main_cst_18 : FVec F S_ .f32 := constant S_ .f32 0x7F800000#32
  let main_v50 : FVec F S64 .f32 := broadcastInDim S64 ![] bcast_S_S64 main_cst_18
  fn_part3 (F := F) main_arg19 main_arg20 main_v48 main_v49 main_v50

def fn_part1 {F : FTy → Type} [FloatOps F] (main_arg6 : FVec F S128 .f32) (main_arg7 : FVec F S128x128 .f32) (main_arg8 : FVec F S128 .f32) (main_arg15 : FVec F S256x128 .f32) (main_arg16 : FVec F S128 .f32) (main_arg17 : FVec F S128x64 .f32) (main_arg18 : FVec F S64 .f32) (main_arg19 : FVec F S64x10 .f32) (main_arg20 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg15 main_arg16 main_arg17 main_arg18 main_arg19 main_arg20 main_v33

def fn {F : FTy → Type} [FloatOps F] (main_arg0 : FVec F S10000x128 .f32) (main_arg1 : IVec S2x320000 32) (main_arg2 : IVec S10000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) (main_arg11 : FVec F S128x1 .f32) (main_arg12 : FVec F S1 .f32) (main_arg13 : FVec F S128x1 .f32) (main_arg14 : FVec F S1 .f32) (main_arg15 : FVec F S256x128 .f32) (main_arg16 : FVec F S128 .f32) (main_arg17 : FVec F S128x64 .f32) (main_arg18 : FVec F S64 .f32) (main_arg19 : FVec F S64x10 .f32) (main_arg20 : FVec F S10 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg15 main_arg16 main_arg17 main_arg18 main_arg19 main_arg20 main_v13 main_v16
-- ==== Kernel.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S256x128 : Shape := ⟨2, ![256, 128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x320000 : Shape := ⟨2, ![1, 320000]⟩
abbrev S320000 : Shape := ⟨1, ![320000]⟩
abbrev S_ : Shape := ⟨0, ![]⟩
abbrev S10000x1 : Shape := ⟨2, ![10000, 1]⟩
abbrev S1x128 : Shape := ⟨2, ![1, 128]⟩
abbrev S2000x128 : Shape := ⟨2, ![2000, 128]⟩
abbrev S320000x1 : Shape := ⟨2, ![320000, 1]⟩
abbrev S320000x128 : Shape := ⟨2, ![320000, 128]⟩
abbrev S2000x1 : Shape := ⟨2, ![2000, 1]⟩
abbrev S50x128 : Shape := ⟨2, ![50, 128]⟩
abbrev S50x1 : Shape := ⟨2, ![50, 1]⟩
abbrev S50x128x1 : Shape := ⟨3, ![50, 128, 1]⟩
abbrev S50x1x128 : Shape := ⟨3, ![50, 1, 128]⟩
abbrev S50x128x128 : Shape := ⟨3, ![50, 128, 128]⟩
abbrev S128x256 : Shape := ⟨2, ![128, 256]⟩
abbrev S64x128 : Shape := ⟨2, ![64, 128]⟩
abbrev S1x64 : Shape := ⟨2, ![1, 64]⟩
abbrev S128x10 : Shape := ⟨2, ![128, 10]⟩

abbrev nBuf : Space → Nat
  | .hbm => 690
  | .vmem => 83
  | .smem => 0
  | _ => 0

abbrev hbmTy0_0 (i : Nat) : BufTy := match i % 128 with
  | 0 => ⟨S10000x128, .f32⟩
  | 1 => ⟨S2x320000, .i32⟩
  | 2 => ⟨S10000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S128x1, .f32⟩
  | 12 => ⟨S1, .f32⟩
  | 13 => ⟨S128x1, .f32⟩
  | 14 => ⟨S1, .f32⟩
  | 15 => ⟨S256x128, .f32⟩
  | 16 => ⟨S128, .f32⟩
  | 17 => ⟨S128x64, .f32⟩
  | 18 => ⟨S64, .f32⟩
  | 19 => ⟨S64x10, .f32⟩
  | 20 => ⟨S10, .f32⟩
  | 21 => ⟨S1x320000, .i32⟩
  | 22 => ⟨S320000, .i32⟩
  | 23 => ⟨S1x320000, .i32⟩
  | 24 => ⟨S320000, .i32⟩
  | 25 => ⟨S_, .f32⟩
  | 26 => ⟨S10000, .f32⟩
  | 27 => ⟨S_, .f32⟩
  | 28 => ⟨S128, .f32⟩
  | 29 => ⟨S10000x1, .i32⟩
  | 30 => ⟨S128, .f32⟩
  | 31 => ⟨S_, .f32⟩
  | 32 => ⟨S_, .f32⟩
  | 33 => ⟨S128, .f32⟩
  | 34 => ⟨S128, .f32⟩
  | 35 => ⟨S128, .i32⟩
  | 36 => ⟨S10000x1, .i32⟩
  | 37 => ⟨S128, .i32⟩
  | 38 => ⟨S1x128, .i32⟩
  | 39 => ⟨S10000x128, .i32⟩
  | 40 => ⟨S10000x128, .i32⟩
  | 41 => ⟨S10000x128, .i1⟩
  | 42 => ⟨S10000x128, .f32⟩
  | 43 => ⟨S_, .f32⟩
  | 44 => ⟨S10000, .f32⟩
  | 45 => ⟨S_, .f32⟩
  | 46 => ⟨S320000, .f32⟩
  | 47 => ⟨S10000x128, .f32⟩
  | 48 => ⟨S_, .f32⟩
  | 49 => ⟨S10000, .f32⟩
  | 50 => ⟨S320000x1, .i32⟩
  | 51 => ⟨S10000, .f32⟩
  | 52 => ⟨S10000, .f32⟩
  | 53 => ⟨S_, .f32⟩
  | 54 => ⟨S10000, .f32⟩
  | 55 => ⟨S10000, .i1⟩
  | 56 => ⟨S_, .f32⟩
  | 57 => ⟨S_, .f32⟩
  | 58 => ⟨S10000, .f32⟩
  | 59 => ⟨S10000, .f32⟩
  | 60 => ⟨S10000, .f32⟩
  | 61 => ⟨S_, .i32⟩
  | 62 => ⟨S320000, .i32⟩
  | 63 => ⟨S320000, .i1⟩
  | 64 => ⟨S_, .i32⟩
  | 65 => ⟨S320000, .i32⟩
  | 66 => ⟨S320000, .i32⟩
  | 67 => ⟨S320000, .i32⟩
  | 68 => ⟨S320000x1, .i32⟩
  | 69 => ⟨S320000, .f32⟩
  | 70 => ⟨S320000, .f32⟩
  | 71 => ⟨S_, .i32⟩
  | 72 => ⟨S320000, .i32⟩
  | 73 => ⟨S320000, .i1⟩
  | 74 => ⟨S_, .i32⟩
  | 75 => ⟨S320000, .i32⟩
  | 76 => ⟨S320000, .i32⟩
  | 77 => ⟨S320000, .i32⟩
  | 78 => ⟨S320000x1, .i32⟩
  | 79 => ⟨S320000, .f32⟩
  | 80 => ⟨S320000, .f32⟩
  | 81 => ⟨S_, .i32⟩
  | 82 => ⟨S320000, .i32⟩
  | 83 => ⟨S320000, .i1⟩
  | 84 => ⟨S_, .i32⟩
  | 85 => ⟨S320000, .i32⟩
  | 86 => ⟨S320000, .i32⟩
  | 87 => ⟨S320000, .i32⟩
  | 88 => ⟨S320000x1, .i32⟩
  | 89 => ⟨S320000x128, .f32⟩
  | 90 => ⟨S320000x1, .f32⟩
  | 91 => ⟨S320000x128, .f32⟩
  | 92 => ⟨S320000x128, .f32⟩
  | 93 => ⟨S_, .f32⟩
  | 94 => ⟨S10000x128, .f32⟩
  | 95 => ⟨S320000x1, .i32⟩
  | 96 => ⟨S10000x128, .f32⟩
  | 97 => ⟨S10000, .f32⟩
  | 98 => ⟨S10000x1, .f32⟩
  | 99 => ⟨S10000x1, .f32⟩
  | 100 => ⟨S1x128, .f32⟩
  | 101 => ⟨S10000x128, .f32⟩
  | 102 => ⟨S10000x1, .f32⟩
  | 103 => ⟨S10000, .f32⟩
  | 104 => ⟨S_, .i32⟩
  | 105 => ⟨S320000, .i32⟩
  | 106 => ⟨S320000, .i1⟩
  | 107 => ⟨S_, .i32⟩
  | 108 => ⟨S320000, .i32⟩
  | 109 => ⟨S320000, .i32⟩
  | 110 => ⟨S320000, .i32⟩
  | 111 => ⟨S320000x1, .i32⟩
  | 112 => ⟨S320000, .f32⟩
  | 113 => ⟨S320000, .f32⟩
  | 114 => ⟨S_, .f32⟩
  | 115 => ⟨S10000, .f32⟩
  | 116 => ⟨S320000x1, .i32⟩
  | 117 => ⟨S10000, .f32⟩
  | 118 => ⟨S10000, .f32⟩
  | 119 => ⟨S10000, .f32⟩
  | 120 => ⟨S10000, .f32⟩
  | 121 => ⟨S_, .f32⟩
  | 122 => ⟨S10000, .f32⟩
  | 123 => ⟨S10000, .f32⟩
  | 124 => ⟨S10000, .f32⟩
  | 125 => ⟨S_, .f32⟩
  | 126 => ⟨S10000, .f32⟩
  | 127 => ⟨S10000, .i1⟩
  | _ => ⟨S10000x128, .f32⟩

abbrev hbmTy0_1 (i : Nat) : BufTy := match i % 128 with
  | 0 => ⟨S_, .f32⟩
  | 1 => ⟨S_, .f32⟩
  | 2 => ⟨S10000, .f32⟩
  | 3 => ⟨S10000, .f32⟩
  | 4 => ⟨S10000, .f32⟩
  | 5 => ⟨S10000, .i32⟩
  | 6 => ⟨S10000, .f32⟩
  | 7 => ⟨S10000, .i32⟩
  | 8 => ⟨S_, .i32⟩
  | 9 => ⟨S10000, .i32⟩
  | 10 => ⟨S10000, .i1⟩
  | 11 => ⟨S_, .i32⟩
  | 12 => ⟨S10000, .i32⟩
  | 13 => ⟨S10000, .i32⟩
  | 14 => ⟨S10000, .i32⟩
  | 15 => ⟨S10000x1, .i32⟩
  | 16 => ⟨S10000, .i32⟩
  | 17 => ⟨S10000, .i32⟩
  | 18 => ⟨S10000, .i32⟩
  | 19 => ⟨S10000, .i32⟩
  | 20 => ⟨S_, .i32⟩
  | 21 => ⟨S10000, .i32⟩
  | 22 => ⟨S10000, .i1⟩
  | 23 => ⟨S_, .i32⟩
  | 24 => ⟨S10000, .i32⟩
  | 25 => ⟨S10000, .i32⟩
  | 26 => ⟨S10000, .i32⟩
  | 27 => ⟨S10000x1, .i32⟩
  | 28 => ⟨S10000, .i32⟩
  | 29 => ⟨S10000, .i32⟩
  | 30 => ⟨S_, .i32⟩
  | 31 => ⟨S10000, .i32⟩
  | 32 => ⟨S_, .i32⟩
  | 33 => ⟨S10000, .i32⟩
  | 34 => ⟨S10000, .i1⟩
  | 35 => ⟨S_, .i32⟩
  | 36 => ⟨S10000, .i32⟩
  | 37 => ⟨S10000, .i32⟩
  | 38 => ⟨S10000, .i32⟩
  | 39 => ⟨S10000x1, .i32⟩
  | 40 => ⟨S10000, .i32⟩
  | 41 => ⟨S_, .i32⟩
  | 42 => ⟨S10000, .i32⟩
  | 43 => ⟨S10000, .i1⟩
  | 44 => ⟨S_, .i32⟩
  | 45 => ⟨S10000, .i32⟩
  | 46 => ⟨S10000, .i32⟩
  | 47 => ⟨S10000, .i32⟩
  | 48 => ⟨S10000x1, .i32⟩
  | 49 => ⟨S10000, .i32⟩
  | 50 => ⟨S10000, .i32⟩
  | 51 => ⟨S_, .i32⟩
  | 52 => ⟨S10000, .i32⟩
  | 53 => ⟨S10000, .i1⟩
  | 54 => ⟨S_, .i32⟩
  | 55 => ⟨S10000, .i32⟩
  | 56 => ⟨S10000, .i32⟩
  | 57 => ⟨S10000, .i32⟩
  | 58 => ⟨S10000x1, .i32⟩
  | 59 => ⟨S10000, .i32⟩
  | 60 => ⟨S_, .f32⟩
  | 61 => ⟨S128, .f32⟩
  | 62 => ⟨S10000x1, .i32⟩
  | 63 => ⟨S128, .f32⟩
  | 64 => ⟨S_, .f32⟩
  | 65 => ⟨S128, .f32⟩
  | 66 => ⟨S128, .f32⟩
  | 67 => ⟨S128, .f32⟩
  | 68 => ⟨S128, .i32⟩
  | 69 => ⟨S_, .i32⟩
  | 70 => ⟨S10000, .i32⟩
  | 71 => ⟨S10000, .i1⟩
  | 72 => ⟨S_, .i32⟩
  | 73 => ⟨S10000, .i32⟩
  | 74 => ⟨S10000, .i32⟩
  | 75 => ⟨S10000, .i32⟩
  | 76 => ⟨S10000x1, .i32⟩
  | 77 => ⟨S10000, .i32⟩
  | 78 => ⟨S10000, .i1⟩
  | 79 => ⟨S_, .f32⟩
  | 80 => ⟨S10000, .f32⟩
  | 81 => ⟨S10000, .i1⟩
  | 82 => ⟨S10000, .i1⟩
  | 83 => ⟨S10000, .f32⟩
  | 84 => ⟨S10000, .f32⟩
  | 85 => ⟨S10000x1, .f32⟩
  | 86 => ⟨S10000x128, .f32⟩
  | 87 => ⟨S10000x128, .f32⟩
  | 88 => ⟨S10000x1, .f32⟩
  | 89 => ⟨S10000x128, .f32⟩
  | 90 => ⟨S10000x128, .f32⟩
  | 91 => ⟨S_, .i32⟩
  | 92 => ⟨S320000, .i32⟩
  | 93 => ⟨S320000, .i1⟩
  | 94 => ⟨S_, .i32⟩
  | 95 => ⟨S320000, .i32⟩
  | 96 => ⟨S320000, .i32⟩
  | 97 => ⟨S320000, .i32⟩
  | 98 => ⟨S320000x1, .i32⟩
  | 99 => ⟨S320000, .f32⟩
  | 100 => ⟨S_, .i32⟩
  | 101 => ⟨S320000, .i32⟩
  | 102 => ⟨S320000, .i1⟩
  | 103 => ⟨S_, .i32⟩
  | 104 => ⟨S320000, .i32⟩
  | 105 => ⟨S320000, .i32⟩
  | 106 => ⟨S320000, .i32⟩
  | 107 => ⟨S320000x1, .i32⟩
  | 108 => ⟨S320000, .f32⟩
  | 109 => ⟨S320000, .f32⟩
  | 110 => ⟨S10000x1, .f32⟩
  | 111 => ⟨S128x128, .f32⟩
  | 112 => ⟨S128x128, .f32⟩
  | 113 => ⟨S1x128, .f32⟩
  | 114 => ⟨S_, .f32⟩
  | 115 => ⟨S128x128, .f32⟩
  | 116 => ⟨S128x128, .i1⟩
  | 117 => ⟨S_, .f32⟩
  | 118 => ⟨S_, .f32⟩
  | 119 => ⟨S128x128, .f32⟩
  | 120 => ⟨S128x128, .f32⟩
  | 121 => ⟨S128, .f32⟩
  | 122 => ⟨S_, .f32⟩
  | 123 => ⟨S128, .f32⟩
  | 124 => ⟨S128, .f32⟩
  | 125 => ⟨S128x1, .f32⟩
  | 126 => ⟨S128x128, .f32⟩
  | 127 => ⟨S128x128, .f32⟩
  | _ => ⟨S10000x128, .f32⟩

abbrev hbmTy0_2 (i : Nat) : BufTy := match i % 128 with
  | 0 => ⟨S128x256, .f32⟩
  | 1 => ⟨S10000x128, .f32⟩
  | 2 => ⟨S_, .f32⟩
  | 3 => ⟨S10000, .f32⟩
  | 4 => ⟨S320000x1, .i32⟩
  | 5 => ⟨S10000, .f32⟩
  | 6 => ⟨S10000, .f32⟩
  | 7 => ⟨S_, .f32⟩
  | 8 => ⟨S10000, .f32⟩
  | 9 => ⟨S10000, .i1⟩
  | 10 => ⟨S_, .f32⟩
  | 11 => ⟨S_, .f32⟩
  | 12 => ⟨S10000, .f32⟩
  | 13 => ⟨S10000, .f32⟩
  | 14 => ⟨S10000, .f32⟩
  | 15 => ⟨S_, .i32⟩
  | 16 => ⟨S320000, .i32⟩
  | 17 => ⟨S320000, .i1⟩
  | 18 => ⟨S_, .i32⟩
  | 19 => ⟨S320000, .i32⟩
  | 20 => ⟨S320000, .i32⟩
  | 21 => ⟨S320000, .i32⟩
  | 22 => ⟨S320000x1, .i32⟩
  | 23 => ⟨S320000, .f32⟩
  | 24 => ⟨S320000, .f32⟩
  | 25 => ⟨S_, .i32⟩
  | 26 => ⟨S320000, .i32⟩
  | 27 => ⟨S320000, .i1⟩
  | 28 => ⟨S_, .i32⟩
  | 29 => ⟨S320000, .i32⟩
  | 30 => ⟨S320000, .i32⟩
  | 31 => ⟨S320000, .i32⟩
  | 32 => ⟨S320000x1, .i32⟩
  | 33 => ⟨S320000, .f32⟩
  | 34 => ⟨S320000, .f32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S320000x128, .f32⟩
  | 44 => ⟨S320000x1, .f32⟩
  | 45 => ⟨S320000x128, .f32⟩
  | 46 => ⟨S320000x128, .f32⟩
  | 47 => ⟨S_, .f32⟩
  | 48 => ⟨S10000x128, .f32⟩
  | 49 => ⟨S320000x1, .i32⟩
  | 50 => ⟨S10000x128, .f32⟩
  | 51 => ⟨S10000, .f32⟩
  | 52 => ⟨S10000x1, .f32⟩
  | 53 => ⟨S10000x1, .f32⟩
  | 54 => ⟨S1x128, .f32⟩
  | 55 => ⟨S10000x128, .f32⟩
  | 56 => ⟨S10000x1, .f32⟩
  | 57 => ⟨S10000, .f32⟩
  | 58 => ⟨S_, .i32⟩
  | 59 => ⟨S320000, .i32⟩
  | 60 => ⟨S320000, .i1⟩
  | 61 => ⟨S_, .i32⟩
  | 62 => ⟨S320000, .i32⟩
  | 63 => ⟨S320000, .i32⟩
  | 64 => ⟨S320000, .i32⟩
  | 65 => ⟨S320000x1, .i32⟩
  | 66 => ⟨S320000, .f32⟩
  | 67 => ⟨S320000, .f32⟩
  | 68 => ⟨S_, .f32⟩
  | 69 => ⟨S10000, .f32⟩
  | 70 => ⟨S320000x1, .i32⟩
  | 71 => ⟨S10000, .f32⟩
  | 72 => ⟨S10000, .f32⟩
  | 73 => ⟨S10000, .f32⟩
  | 74 => ⟨S10000, .f32⟩
  | 75 => ⟨S_, .f32⟩
  | 76 => ⟨S10000, .f32⟩
  | 77 => ⟨S10000, .f32⟩
  | 78 => ⟨S10000, .f32⟩
  | 79 => ⟨S_, .f32⟩
  | 80 => ⟨S10000, .f32⟩
  | 81 => ⟨S10000, .i1⟩
  | 82 => ⟨S_, .f32⟩
  | 83 => ⟨S_, .f32⟩
  | 84 => ⟨S10000, .f32⟩
  | 85 => ⟨S10000, .f32⟩
  | 86 => ⟨S10000, .f32⟩
  | 87 => ⟨S10000, .i32⟩
  | 88 => ⟨S10000, .f32⟩
  | 89 => ⟨S10000, .i32⟩
  | 90 => ⟨S_, .i32⟩
  | 91 => ⟨S10000, .i32⟩
  | 92 => ⟨S10000, .i1⟩
  | 93 => ⟨S_, .i32⟩
  | 94 => ⟨S10000, .i32⟩
  | 95 => ⟨S10000, .i32⟩
  | 96 => ⟨S10000, .i32⟩
  | 97 => ⟨S10000x1, .i32⟩
  | 98 => ⟨S10000, .i32⟩
  | 99 => ⟨S10000, .i32⟩
  | 100 => ⟨S10000, .i32⟩
  | 101 => ⟨S10000, .i32⟩
  | 102 => ⟨S_, .i32⟩
  | 103 => ⟨S10000, .i32⟩
  | 104 => ⟨S10000, .i1⟩
  | 105 => ⟨S_, .i32⟩
  | 106 => ⟨S10000, .i32⟩
  | 107 => ⟨S10000, .i32⟩
  | 108 => ⟨S10000, .i32⟩
  | 109 => ⟨S10000x1, .i32⟩
  | 110 => ⟨S10000, .i32⟩
  | 111 => ⟨S10000, .i32⟩
  | 112 => ⟨S_, .i32⟩
  | 113 => ⟨S10000, .i32⟩
  | 114 => ⟨S_, .i32⟩
  | 115 => ⟨S10000, .i32⟩
  | 116 => ⟨S10000, .i1⟩
  | 117 => ⟨S_, .i32⟩
  | 118 => ⟨S10000, .i32⟩
  | 119 => ⟨S10000, .i32⟩
  | 120 => ⟨S10000, .i32⟩
  | 121 => ⟨S10000x1, .i32⟩
  | 122 => ⟨S10000, .i32⟩
  | 123 => ⟨S_, .i32⟩
  | 124 => ⟨S10000, .i32⟩
  | 125 => ⟨S10000, .i1⟩
  | 126 => ⟨S_, .i32⟩
  | 127 => ⟨S10000, .i32⟩
  | _ => ⟨S10000x128, .f32⟩

abbrev hbmTy0_3 (i : Nat) : BufTy := match i % 128 with
  | 0 => ⟨S10000, .i32⟩
  | 1 => ⟨S10000, .i32⟩
  | 2 => ⟨S10000x1, .i32⟩
  | 3 => ⟨S10000, .i32⟩
  | 4 => ⟨S10000, .i32⟩
  | 5 => ⟨S_, .i32⟩
  | 6 => ⟨S10000, .i32⟩
  | 7 => ⟨S10000, .i1⟩
  | 8 => ⟨S_, .i32⟩
  | 9 => ⟨S10000, .i32⟩
  | 10 => ⟨S10000, .i32⟩
  | 11 => ⟨S10000, .i32⟩
  | 12 => ⟨S10000x1, .i32⟩
  | 13 => ⟨S10000, .i32⟩
  | 14 => ⟨S_, .f32⟩
  | 15 => ⟨S128, .f32⟩
  | 16 => ⟨S10000x1, .i32⟩
  | 17 => ⟨S128, .f32⟩
  | 18 => ⟨S_, .f32⟩
  | 19 => ⟨S128, .f32⟩
  | 20 => ⟨S128, .f32⟩
  | 21 => ⟨S128, .f32⟩
  | 22 => ⟨S128, .i32⟩
  | 23 => ⟨S_, .i32⟩
  | 24 => ⟨S10000, .i32⟩
  | 25 => ⟨S10000, .i1⟩
  | 26 => ⟨S_, .i32⟩
  | 27 => ⟨S10000, .i32⟩
  | 28 => ⟨S10000, .i32⟩
  | 29 => ⟨S10000, .i32⟩
  | 30 => ⟨S10000x1, .i32⟩
  | 31 => ⟨S10000, .i32⟩
  | 32 => ⟨S10000, .i1⟩
  | 33 => ⟨S_, .f32⟩
  | 34 => ⟨S10000, .f32⟩
  | 35 => ⟨S10000, .i1⟩
  | 36 => ⟨S10000, .i1⟩
  | 37 => ⟨S10000, .f32⟩
  | 38 => ⟨S10000, .f32⟩
  | 39 => ⟨S10000x1, .f32⟩
  | 40 => ⟨S10000x128, .f32⟩
  | 41 => ⟨S10000x128, .f32⟩
  | 42 => ⟨S10000x1, .f32⟩
  | 43 => ⟨S10000x128, .f32⟩
  | 44 => ⟨S10000x128, .f32⟩
  | 45 => ⟨S_, .i32⟩
  | 46 => ⟨S320000, .i32⟩
  | 47 => ⟨S320000, .i1⟩
  | 48 => ⟨S_, .i32⟩
  | 49 => ⟨S320000, .i32⟩
  | 50 => ⟨S320000, .i32⟩
  | 51 => ⟨S320000, .i32⟩
  | 52 => ⟨S320000x1, .i32⟩
  | 53 => ⟨S320000, .f32⟩
  | 54 => ⟨S_, .i32⟩
  | 55 => ⟨S320000, .i32⟩
  | 56 => ⟨S320000, .i1⟩
  | 57 => ⟨S_, .i32⟩
  | 58 => ⟨S320000, .i32⟩
  | 59 => ⟨S320000, .i32⟩
  | 60 => ⟨S320000, .i32⟩
  | 61 => ⟨S320000x1, .i32⟩
  | 62 => ⟨S320000, .f32⟩
  | 63 => ⟨S320000, .f32⟩
  | 64 => ⟨S10000x1, .f32⟩
  | 65 => ⟨S128x128, .f32⟩
  | 66 => ⟨S128x128, .f32⟩
  | 67 => ⟨S1x128, .f32⟩
  | 68 => ⟨S_, .f32⟩
  | 69 => ⟨S128x128, .f32⟩
  | 70 => ⟨S128x128, .i1⟩
  | 71 => ⟨S_, .f32⟩
  | 72 => ⟨S_, .f32⟩
  | 73 => ⟨S128x128, .f32⟩
  | 74 => ⟨S128x128, .f32⟩
  | 75 => ⟨S128, .f32⟩
  | 76 => ⟨S_, .f32⟩
  | 77 => ⟨S128, .f32⟩
  | 78 => ⟨S128, .f32⟩
  | 79 => ⟨S128x1, .f32⟩
  | 80 => ⟨S128x128, .f32⟩
  | 81 => ⟨S128x128, .f32⟩
  | 82 => ⟨S128x256, .f32⟩
  | 83 => ⟨S10000x128, .f32⟩
  | 84 => ⟨S_, .f32⟩
  | 85 => ⟨S10000, .f32⟩
  | 86 => ⟨S320000x1, .i32⟩
  | 87 => ⟨S10000, .f32⟩
  | 88 => ⟨S10000, .f32⟩
  | 89 => ⟨S_, .f32⟩
  | 90 => ⟨S10000, .f32⟩
  | 91 => ⟨S10000, .i1⟩
  | 92 => ⟨S_, .f32⟩
  | 93 => ⟨S_, .f32⟩
  | 94 => ⟨S10000, .f32⟩
  | 95 => ⟨S10000, .f32⟩
  | 96 => ⟨S10000, .f32⟩
  | 97 => ⟨S_, .i32⟩
  | 98 => ⟨S320000, .i32⟩
  | 99 => ⟨S320000, .i1⟩
  | 100 => ⟨S_, .i32⟩
  | 101 => ⟨S320000, .i32⟩
  | 102 => ⟨S320000, .i32⟩
  | 103 => ⟨S320000, .i32⟩
  | 104 => ⟨S320000x1, .i32⟩
  | 105 => ⟨S320000, .f32⟩
  | 106 => ⟨S320000, .f32⟩
  | 107 => ⟨S_, .i32⟩
  | 108 => ⟨S320000, .i32⟩
  | 109 => ⟨S320000, .i1⟩
  | 110 => ⟨S_, .i32⟩
  | 111 => ⟨S320000, .i32⟩
  | 112 => ⟨S320000, .i32⟩
  | 113 => ⟨S320000, .i32⟩
  | 114 => ⟨S320000x1, .i32⟩
  | 115 => ⟨S320000, .f32⟩
  | 116 => ⟨S320000, .f32⟩
  | 117 => ⟨S_, .i32⟩
  | 118 => ⟨S320000, .i32⟩
  | 119 => ⟨S320000, .i1⟩
  | 120 => ⟨S_, .i32⟩
  | 121 => ⟨S320000, .i32⟩
  | 122 => ⟨S320000, .i32⟩
  | 123 => ⟨S320000, .i32⟩
  | 124 => ⟨S320000x1, .i32⟩
  | 125 => ⟨S320000x128, .f32⟩
  | 126 => ⟨S320000x1, .f32⟩
  | 127 => ⟨S320000x128, .f32⟩
  | _ => ⟨S10000x128, .f32⟩

abbrev hbmTy0_4 (i : Nat) : BufTy := match i % 128 with
  | 0 => ⟨S320000x128, .f32⟩
  | 1 => ⟨S_, .f32⟩
  | 2 => ⟨S10000x128, .f32⟩
  | 3 => ⟨S320000x1, .i32⟩
  | 4 => ⟨S10000x128, .f32⟩
  | 5 => ⟨S10000, .f32⟩
  | 6 => ⟨S10000x1, .f32⟩
  | 7 => ⟨S10000x1, .f32⟩
  | 8 => ⟨S1x128, .f32⟩
  | 9 => ⟨S10000x128, .f32⟩
  | 10 => ⟨S10000x1, .f32⟩
  | 11 => ⟨S10000, .f32⟩
  | 12 => ⟨S_, .i32⟩
  | 13 => ⟨S320000, .i32⟩
  | 14 => ⟨S320000, .i1⟩
  | 15 => ⟨S_, .i32⟩
  | 16 => ⟨S320000, .i32⟩
  | 17 => ⟨S320000, .i32⟩
  | 18 => ⟨S320000, .i32⟩
  | 19 => ⟨S320000x1, .i32⟩
  | 20 => ⟨S320000, .f32⟩
  | 21 => ⟨S320000, .f32⟩
  | 22 => ⟨S_, .f32⟩
  | 23 => ⟨S10000, .f32⟩
  | 24 => ⟨S320000x1, .i32⟩
  | 25 => ⟨S10000, .f32⟩
  | 26 => ⟨S10000, .f32⟩
  | 27 => ⟨S10000, .f32⟩
  | 28 => ⟨S10000, .f32⟩
  | 29 => ⟨S_, .f32⟩
  | 30 => ⟨S10000, .f32⟩
  | 31 => ⟨S10000, .f32⟩
  | 32 => ⟨S10000, .f32⟩
  | 33 => ⟨S_, .f32⟩
  | 34 => ⟨S10000, .f32⟩
  | 35 => ⟨S10000, .i1⟩
  | 36 => ⟨S_, .f32⟩
  | 37 => ⟨S_, .f32⟩
  | 38 => ⟨S10000, .f32⟩
  | 39 => ⟨S10000, .f32⟩
  | 40 => ⟨S10000, .f32⟩
  | 41 => ⟨S10000, .i32⟩
  | 42 => ⟨S10000, .f32⟩
  | 43 => ⟨S10000, .i32⟩
  | 44 => ⟨S_, .i32⟩
  | 45 => ⟨S10000, .i32⟩
  | 46 => ⟨S10000, .i1⟩
  | 47 => ⟨S_, .i32⟩
  | 48 => ⟨S10000, .i32⟩
  | 49 => ⟨S10000, .i32⟩
  | 50 => ⟨S10000, .i32⟩
  | 51 => ⟨S10000x1, .i32⟩
  | 52 => ⟨S10000, .i32⟩
  | 53 => ⟨S10000, .i32⟩
  | 54 => ⟨S10000, .i32⟩
  | 55 => ⟨S10000, .i32⟩
  | 56 => ⟨S_, .i32⟩
  | 57 => ⟨S10000, .i32⟩
  | 58 => ⟨S10000, .i1⟩
  | 59 => ⟨S_, .i32⟩
  | 60 => ⟨S10000, .i32⟩
  | 61 => ⟨S10000, .i32⟩
  | 62 => ⟨S10000, .i32⟩
  | 63 => ⟨S10000x1, .i32⟩
  | 64 => ⟨S10000, .i32⟩
  | 65 => ⟨S10000, .i32⟩
  | 66 => ⟨S_, .i32⟩
  | 67 => ⟨S10000, .i32⟩
  | 68 => ⟨S_, .i32⟩
  | 69 => ⟨S10000, .i32⟩
  | 70 => ⟨S10000, .i1⟩
  | 71 => ⟨S_, .i32⟩
  | 72 => ⟨S10000, .i32⟩
  | 73 => ⟨S10000, .i32⟩
  | 74 => ⟨S10000, .i32⟩
  | 75 => ⟨S10000x1, .i32⟩
  | 76 => ⟨S10000, .i32⟩
  | 77 => ⟨S_, .i32⟩
  | 78 => ⟨S10000, .i32⟩
  | 79 => ⟨S10000, .i1⟩
  | 80 => ⟨S_, .i32⟩
  | 81 => ⟨S10000, .i32⟩
  | 82 => ⟨S10000, .i32⟩
  | 83 => ⟨S10000, .i32⟩
  | 84 => ⟨S10000x1, .i32⟩
  | 85 => ⟨S10000, .i32⟩
  | 86 => ⟨S10000, .i32⟩
  | 87 => ⟨S_, .i32⟩
  | 88 => ⟨S10000, .i32⟩
  | 89 => ⟨S10000, .i1⟩
  | 90 => ⟨S_, .i32⟩
  | 91 => ⟨S10000, .i32⟩
  | 92 => ⟨S10000, .i32⟩
  | 93 => ⟨S10000, .i32⟩
  | 94 => ⟨S10000x1, .i32⟩
  | 95 => ⟨S10000, .i32⟩
  | 96 => ⟨S_, .f32⟩
  | 97 => ⟨S128, .f32⟩
  | 98 => ⟨S10000x1, .i32⟩
  | 99 => ⟨S128, .f32⟩
  | 100 => ⟨S_, .f32⟩
  | 101 => ⟨S128, .f32⟩
  | 102 => ⟨S128, .f32⟩
  | 103 => ⟨S128, .f32⟩
  | 104 => ⟨S128, .i32⟩
  | 105 => ⟨S_, .i32⟩
  | 106 => ⟨S10000, .i32⟩
  | 107 => ⟨S10000, .i1⟩
  | 108 => ⟨S_, .i32⟩
  | 109 => ⟨S10000, .i32⟩
  | 110 => ⟨S10000, .i32⟩
  | 111 => ⟨S10000, .i32⟩
  | 112 => ⟨S10000x1, .i32⟩
  | 113 => ⟨S10000, .i32⟩
  | 114 => ⟨S10000, .i1⟩
  | 115 => ⟨S_, .f32⟩
  | 116 => ⟨S10000, .f32⟩
  | 117 => ⟨S10000, .i1⟩
  | 118 => ⟨S10000, .i1⟩
  | 119 => ⟨S10000, .f32⟩
  | 120 => ⟨S10000, .f32⟩
  | 121 => ⟨S10000x1, .f32⟩
  | 122 => ⟨S10000x128, .f32⟩
  | 123 => ⟨S10000x128, .f32⟩
  | 124 => ⟨S10000x1, .f32⟩
  | 125 => ⟨S10000x128, .f32⟩
  | 126 => ⟨S10000x128, .f32⟩
  | 127 => ⟨S_, .i32⟩
  | _ => ⟨S10000x128, .f32⟩

abbrev hbmTy0_5 (i : Nat) : BufTy := match i % 128 with
  | 0 => ⟨S320000, .i32⟩
  | 1 => ⟨S320000, .i1⟩
  | 2 => ⟨S_, .i32⟩
  | 3 => ⟨S320000, .i32⟩
  | 4 => ⟨S320000, .i32⟩
  | 5 => ⟨S320000, .i32⟩
  | 6 => ⟨S320000x1, .i32⟩
  | 7 => ⟨S320000, .f32⟩
  | 8 => ⟨S_, .i32⟩
  | 9 => ⟨S320000, .i32⟩
  | 10 => ⟨S320000, .i1⟩
  | 11 => ⟨S_, .i32⟩
  | 12 => ⟨S320000, .i32⟩
  | 13 => ⟨S320000, .i32⟩
  | 14 => ⟨S320000, .i32⟩
  | 15 => ⟨S320000x1, .i32⟩
  | 16 => ⟨S320000, .f32⟩
  | 17 => ⟨S320000, .f32⟩
  | 18 => ⟨S10000x1, .f32⟩
  | 19 => ⟨S128x128, .f32⟩
  | 20 => ⟨S128x128, .f32⟩
  | 21 => ⟨S1x128, .f32⟩
  | 22 => ⟨S_, .f32⟩
  | 23 => ⟨S128x128, .f32⟩
  | 24 => ⟨S128x128, .i1⟩
  | 25 => ⟨S_, .f32⟩
  | 26 => ⟨S_, .f32⟩
  | 27 => ⟨S128x128, .f32⟩
  | 28 => ⟨S128x128, .f32⟩
  | 29 => ⟨S128, .f32⟩
  | 30 => ⟨S_, .f32⟩
  | 31 => ⟨S128, .f32⟩
  | 32 => ⟨S128, .f32⟩
  | 33 => ⟨S128x1, .f32⟩
  | 34 => ⟨S128x128, .f32⟩
  | 35 => ⟨S128x128, .f32⟩
  | 36 => ⟨S128x256, .f32⟩
  | 37 => ⟨S128x256, .f32⟩
  | 38 => ⟨S128x256, .f32⟩
  | 39 => ⟨S_, .i32⟩
  | 40 => ⟨S_, .f32⟩
  | 41 => ⟨S64x128, .f32⟩
  | 42 => ⟨S_, .i32⟩
  | 43 => ⟨S_, .f32⟩
  | 44 => ⟨S128, .f32⟩
  | 45 => ⟨S1x128, .f32⟩
  | 46 => ⟨S1x64, .f32⟩
  | 47 => ⟨S1x128, .f32⟩
  | 48 => ⟨S128x128, .f32⟩
  | 49 => ⟨S128x10, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S10000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S2000x1, .f32⟩
  | .local _ .vmem, ⟨12, _⟩ => ⟨S2000x1, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x1, .f32⟩
  | .local _ .vmem, ⟨19, _⟩ => ⟨S2000x1, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | .local _ .vmem, ⟨27, _⟩ => ⟨S128x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x1, .f32⟩
  | .local _ .vmem, ⟨35, _⟩ => ⟨S2000x1, .f32⟩
  | .local _ .vmem, ⟨36, _⟩ => ⟨S2000x1, .f32⟩
  | .local _ .vmem, ⟨37, _⟩ => ⟨S2000x1, .f32⟩
  | .local _ .vmem, ⟨38, _⟩ => ⟨S1x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x1, .f32⟩
  | .local _ .vmem, ⟨44, _⟩ => ⟨S2000x1, .f32⟩
  | .local _ .vmem, ⟨45, _⟩ => ⟨S2000x128, .f32⟩
  | .local _ .vmem, ⟨46, _⟩ => ⟨S2000x128, .f32⟩
  | .local _ .vmem, ⟨47, _⟩ => ⟨S128x128, .f32⟩
  | .local _ .vmem, ⟨48, _⟩ => ⟨S128x128, .f32⟩
  | .local _ .vmem, ⟨49, _⟩ => ⟨S1x128, .f32⟩
  | .local _ .vmem, ⟨50, _⟩ => ⟨S2000x128, .f32⟩
  | .local _ .vmem, ⟨51, _⟩ => ⟨S2000x128, .f32⟩
  | .local _ .vmem, ⟨52, _⟩ => ⟨S128x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x128, .f32⟩
  | .local _ .vmem, ⟨59, _⟩ => ⟨S2000x1, .f32⟩
  | .local _ .vmem, ⟨60, _⟩ => ⟨S2000x1, .f32⟩
  | .local _ .vmem, ⟨61, _⟩ => ⟨S2000x1, .f32⟩
  | .local _ .vmem, ⟨62, _⟩ => ⟨S2000x1, .f32⟩
  | .local _ .vmem, ⟨63, _⟩ => ⟨S1x128, .f32⟩
  | .local _ .vmem, ⟨64, _⟩ => ⟨S2000x128, .f32⟩
  | .local _ .vmem, ⟨65, _⟩ => ⟨S2000x128, .f32⟩
  | .local _ .vmem, ⟨66, _⟩ => ⟨S2000x128, .f32⟩
  | .local _ .vmem, ⟨67, _⟩ => ⟨S2000x128, .f32⟩
  | .local _ .vmem, ⟨68, _⟩ => ⟨S2000x1, .f32⟩
  | .local _ .vmem, ⟨69, _⟩ => ⟨S2000x1, .f32⟩
  | .local _ .vmem, ⟨70, _⟩ => ⟨S2000x128, .f32⟩
  | .local _ .vmem, ⟨71, _⟩ => ⟨S2000x128, .f32⟩
  | .local _ .vmem, ⟨72, _⟩ => ⟨S128x128, .f32⟩
  | .local _ .vmem, ⟨73, _⟩ => ⟨S128x128, .f32⟩
  | .local _ .vmem, ⟨74, _⟩ => ⟨S1x128, .f32⟩
  | .local _ .vmem, ⟨75, _⟩ => ⟨S128x256, .f32⟩
  | .local _ .vmem, ⟨76, _⟩ => ⟨S256x128, .f32⟩
  | .local _ .vmem, ⟨77, _⟩ => ⟨S1x128, .f32⟩
  | .local _ .vmem, ⟨78, _⟩ => ⟨S128x64, .f32⟩
  | .local _ .vmem, ⟨79, _⟩ => ⟨S1x64, .f32⟩
  | .local _ .vmem, ⟨80, _⟩ => ⟨S64x128, .f32⟩
  | .local _ .vmem, ⟨81, _⟩ => ⟨S1x128, .f32⟩
  | .local _ .vmem, ⟨82, _⟩ => ⟨S128x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | _, _ => false

abbrev semScoped : Fin 0 → Bool
  | ⟨_, h⟩ => absurd h (Nat.not_lt_zero _)

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  ofTc nBuf bufTy 0 83 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_call0_call0_cst : Ref sig .tc := ⟨.hbm, 31, rfl⟩
abbrev main_call0_call0_v0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_1 : Ref sig .tc := ⟨.hbm, 43, rfl⟩
abbrev main_v18 : Ref sig .tc := ⟨.hbm, 44, rfl⟩
abbrev main_cst_2 : Ref sig .tc := ⟨.hbm, 45, rfl⟩
abbrev main_v19 : Ref sig .tc := ⟨.hbm, 46, rfl⟩
abbrev main_v20 : Ref sig .tc := ⟨.hbm, 47, rfl⟩
abbrev main_cst_3 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_4 : Ref sig .tc := ⟨.hbm, 53, rfl⟩
abbrev main_v25 : Ref sig .tc := ⟨.hbm, 54, rfl⟩
abbrev main_v26 : Ref sig .tc := ⟨.hbm, 55, rfl⟩
abbrev main_cst_5 : Ref sig .tc := ⟨.hbm, 56, rfl⟩
abbrev main_call1_v0 : Ref sig .tc := ⟨.hbm, 57, rfl⟩
abbrev main_call1_v1 : Ref sig .tc := ⟨.hbm, 58, rfl⟩
abbrev main_v27 : Ref sig .tc := ⟨.hbm, 59, rfl⟩
abbrev main_v28 : Ref sig .tc := ⟨.hbm, 60, rfl⟩
abbrev main_c : Ref sig .tc := ⟨.hbm, 61, rfl⟩
abbrev main_v29 : Ref sig .tc := ⟨.hbm, 62, rfl⟩
abbrev main_v30 : Ref sig .tc := ⟨.hbm, 63, rfl⟩
abbrev main_c_6 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_c_7 : Ref sig .tc := ⟨.hbm, 71, rfl⟩
abbrev main_v37 : Ref sig .tc := ⟨.hbm, 72, rfl⟩
abbrev main_v38 : Ref sig .tc := ⟨.hbm, 73, rfl⟩
abbrev main_c_8 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_c_9 : Ref sig .tc := ⟨.hbm, 81, rfl⟩
abbrev main_v45 : Ref sig .tc := ⟨.hbm, 82, rfl⟩
abbrev main_v46 : Ref sig .tc := ⟨.hbm, 83, rfl⟩
abbrev main_c_10 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_11 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_c_12 : Ref sig .tc := ⟨.hbm, 104, rfl⟩
abbrev main_v65 : Ref sig .tc := ⟨.hbm, 105, rfl⟩
abbrev main_v66 : Ref sig .tc := ⟨.hbm, 106, rfl⟩
abbrev main_c_13 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_14 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_15 : Ref sig .tc := ⟨.hbm, 125, rfl⟩
abbrev main_v83 : Ref sig .tc := ⟨.hbm, 126, rfl⟩
abbrev main_v84 : Ref sig .tc := ⟨.hbm, 127, rfl⟩
abbrev main_cst_16 : Ref sig .tc := ⟨.hbm, 128, rfl⟩
abbrev main_call2_v0 : Ref sig .tc := ⟨.hbm, 129, rfl⟩
abbrev main_call2_v1 : Ref sig .tc := ⟨.hbm, 130, rfl⟩
abbrev main_v85 : Ref sig .tc := ⟨.hbm, 131, rfl⟩
abbrev main_v86 : Ref sig .tc := ⟨.hbm, 132, rfl⟩
abbrev main_call3_v0 : Ref sig .tc := ⟨.hbm, 133, rfl⟩
abbrev main_call3_v1_0 : Ref sig .tc := ⟨.hbm, 134, rfl⟩
abbrev main_v87 : Ref sig .tc := ⟨.hbm, 135, rfl⟩
abbrev main_c_17 : Ref sig .tc := ⟨.hbm, 136, rfl⟩
abbrev main_v88 : Ref sig .tc := ⟨.hbm, 137, rfl⟩
abbrev main_v89 : Ref sig .tc := ⟨.hbm, 138, rfl⟩
abbrev main_c_18 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_call4_v0 : Ref sig .tc := ⟨.hbm, 145, rfl⟩
abbrev main_call4_v1_0 : Ref sig .tc := ⟨.hbm, 146, rfl⟩
abbrev main_v95 : Ref sig .tc := ⟨.hbm, 147, rfl⟩
abbrev main_c_19 : Ref sig .tc := ⟨.hbm, 148, rfl⟩
abbrev main_v96 : Ref sig .tc := ⟨.hbm, 149, rfl⟩
abbrev main_v97 : Ref sig .tc := ⟨.hbm, 150, rfl⟩
abbrev main_c_20 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_c_21 : Ref sig .tc := ⟨.hbm, 158, rfl⟩
abbrev main_v104 : Ref sig .tc := ⟨.hbm, 159, rfl⟩
abbrev main_c_22 : Ref sig .tc := ⟨.hbm, 160, rfl⟩
abbrev main_v105 : Ref sig .tc := ⟨.hbm, 161, rfl⟩
abbrev main_v106 : Ref sig .tc := ⟨.hbm, 162, rfl⟩
abbrev main_c_23 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_c_24 : Ref sig .tc := ⟨.hbm, 169, rfl⟩
abbrev main_v112 : Ref sig .tc := ⟨.hbm, 170, rfl⟩
abbrev main_v113 : Ref sig .tc := ⟨.hbm, 171, rfl⟩
abbrev main_c_25 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_c_26 : Ref sig .tc := ⟨.hbm, 179, rfl⟩
abbrev main_v120 : Ref sig .tc := ⟨.hbm, 180, rfl⟩
abbrev main_v121 : Ref sig .tc := ⟨.hbm, 181, rfl⟩
abbrev main_c_27 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_cst_28 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_cst_29 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_c_30 : Ref sig .tc := ⟨.hbm, 197, rfl⟩
abbrev main_v134 : Ref sig .tc := ⟨.hbm, 198, rfl⟩
abbrev main_v135 : Ref sig .tc := ⟨.hbm, 199, rfl⟩
abbrev main_c_31 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_cst_32 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_c_33 : Ref sig .tc := ⟨.hbm, 219, rfl⟩
abbrev main_v153 : Ref sig .tc := ⟨.hbm, 220, rfl⟩
abbrev main_v154 : Ref sig .tc := ⟨.hbm, 221, rfl⟩
abbrev main_c_34 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_c_35 : Ref sig .tc := ⟨.hbm, 228, rfl⟩
abbrev main_v160 : Ref sig .tc := ⟨.hbm, 229, rfl⟩
abbrev main_v161 : Ref sig .tc := ⟨.hbm, 230, rfl⟩
abbrev main_c_36 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169_0 : Ref sig .tc := ⟨.hbm, 239, rfl⟩
abbrev main_v169_1 : Ref sig .tc := ⟨.hbm, 240, rfl⟩
abbrev main_v169_2 : Ref sig .tc := ⟨.hbm, 241, rfl⟩
abbrev main_cst_37 : Ref sig .tc := ⟨.hbm, 242, rfl⟩
abbrev main_v170 : Ref sig .tc := ⟨.hbm, 243, rfl⟩
abbrev main_v171 : Ref sig .tc := ⟨.hbm, 244, rfl⟩
abbrev main_cst_38 : Ref sig .tc := ⟨.hbm, 245, rfl⟩
abbrev main_call5_v0 : Ref sig .tc := ⟨.hbm, 246, rfl⟩
abbrev main_call5_v1 : Ref sig .tc := ⟨.hbm, 247, rfl⟩
abbrev main_v172 : Ref sig .tc := ⟨.hbm, 248, rfl⟩
abbrev main_v173 : Ref sig .tc := ⟨.hbm, 249, rfl⟩
abbrev main_cst_39 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_v180 : Ref sig .tc := ⟨.hbm, 257, rfl⟩
abbrev main_cst_40 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_v184 : Ref sig .tc := ⟨.hbm, 262, rfl⟩
abbrev main_cst_41 : Ref sig .tc := ⟨.hbm, 263, rfl⟩
abbrev main_v185 : Ref sig .tc := ⟨.hbm, 264, rfl⟩
abbrev main_v186 : Ref sig .tc := ⟨.hbm, 265, rfl⟩
abbrev main_cst_42 : Ref sig .tc := ⟨.hbm, 266, rfl⟩
abbrev main_call6_v0 : Ref sig .tc := ⟨.hbm, 267, rfl⟩
abbrev main_call6_v1 : Ref sig .tc := ⟨.hbm, 268, rfl⟩
abbrev main_v187 : Ref sig .tc := ⟨.hbm, 269, rfl⟩
abbrev main_v188 : Ref sig .tc := ⟨.hbm, 270, rfl⟩
abbrev main_c_43 : Ref sig .tc := ⟨.hbm, 271, rfl⟩
abbrev main_v189 : Ref sig .tc := ⟨.hbm, 272, rfl⟩
abbrev main_v190 : Ref sig .tc := ⟨.hbm, 273, rfl⟩
abbrev main_c_44 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_c_45 : Ref sig .tc := ⟨.hbm, 281, rfl⟩
abbrev main_v197 : Ref sig .tc := ⟨.hbm, 282, rfl⟩
abbrev main_v198 : Ref sig .tc := ⟨.hbm, 283, rfl⟩
abbrev main_c_46 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_v202 : Ref sig .tc := ⟨.hbm, 288, rfl⟩
abbrev main_v203 : Ref sig .tc := ⟨.hbm, 289, rfl⟩
abbrev main_v204 : Ref sig .tc := ⟨.hbm, 290, rfl⟩
abbrev main_c_47 : Ref sig .tc := ⟨.hbm, 291, rfl⟩
abbrev main_v205 : Ref sig .tc := ⟨.hbm, 292, rfl⟩
abbrev main_v206 : Ref sig .tc := ⟨.hbm, 293, rfl⟩
abbrev main_c_48 : Ref sig .tc := ⟨.hbm, 294, rfl⟩
abbrev main_v207 : Ref sig .tc := ⟨.hbm, 295, rfl⟩
abbrev main_v208 : Ref sig .tc := ⟨.hbm, 296, rfl⟩
abbrev main_v209 : Ref sig .tc := ⟨.hbm, 297, rfl⟩
abbrev main_v210 : Ref sig .tc := ⟨.hbm, 298, rfl⟩
abbrev main_v211 : Ref sig .tc := ⟨.hbm, 299, rfl⟩
abbrev main_v212 : Ref sig .tc := ⟨.hbm, 300, rfl⟩
abbrev main_v213 : Ref sig .tc := ⟨.hbm, 301, rfl⟩
abbrev main_v214 : Ref sig .tc := ⟨.hbm, 302, rfl⟩
abbrev main_cst_49 : Ref sig .tc := ⟨.hbm, 303, rfl⟩
abbrev main_v215 : Ref sig .tc := ⟨.hbm, 304, rfl⟩
abbrev main_v216 : Ref sig .tc := ⟨.hbm, 305, rfl⟩
abbrev main_v217 : Ref sig .tc := ⟨.hbm, 306, rfl⟩
abbrev main_v218 : Ref sig .tc := ⟨.hbm, 307, rfl⟩
abbrev main_v219 : Ref sig .tc := ⟨.hbm, 308, rfl⟩
abbrev main_v220 : Ref sig .tc := ⟨.hbm, 309, rfl⟩
abbrev main_v221 : Ref sig .tc := ⟨.hbm, 310, rfl⟩
abbrev main_v222 : Ref sig .tc := ⟨.hbm, 311, rfl⟩
abbrev main_v223 : Ref sig .tc := ⟨.hbm, 312, rfl⟩
abbrev main_v224 : Ref sig .tc := ⟨.hbm, 313, rfl⟩
abbrev main_c_50 : Ref sig .tc := ⟨.hbm, 314, rfl⟩
abbrev main_v225 : Ref sig .tc := ⟨.hbm, 315, rfl⟩
abbrev main_v226 : Ref sig .tc := ⟨.hbm, 316, rfl⟩
abbrev main_c_51 : Ref sig .tc := ⟨.hbm, 317, rfl⟩
abbrev main_v227 : Ref sig .tc := ⟨.hbm, 318, rfl⟩
abbrev main_v228 : Ref sig .tc := ⟨.hbm, 319, rfl⟩
abbrev main_v229 : Ref sig .tc := ⟨.hbm, 320, rfl⟩
abbrev main_v230 : Ref sig .tc := ⟨.hbm, 321, rfl⟩
abbrev main_v231 : Ref sig .tc := ⟨.hbm, 322, rfl⟩
abbrev main_v232 : Ref sig .tc := ⟨.hbm, 323, rfl⟩
abbrev main_cst_52 : Ref sig .tc := ⟨.hbm, 324, rfl⟩
abbrev main_v233 : Ref sig .tc := ⟨.hbm, 325, rfl⟩
abbrev main_v234 : Ref sig .tc := ⟨.hbm, 326, rfl⟩
abbrev main_v235 : Ref sig .tc := ⟨.hbm, 327, rfl⟩
abbrev main_v236 : Ref sig .tc := ⟨.hbm, 328, rfl⟩
abbrev main_v237 : Ref sig .tc := ⟨.hbm, 329, rfl⟩
abbrev main_v238 : Ref sig .tc := ⟨.hbm, 330, rfl⟩
abbrev main_v239 : Ref sig .tc := ⟨.hbm, 331, rfl⟩
abbrev main_v240 : Ref sig .tc := ⟨.hbm, 332, rfl⟩
abbrev main_v241 : Ref sig .tc := ⟨.hbm, 333, rfl⟩
abbrev main_v242 : Ref sig .tc := ⟨.hbm, 334, rfl⟩
abbrev main_cst_53 : Ref sig .tc := ⟨.hbm, 335, rfl⟩
abbrev main_v243 : Ref sig .tc := ⟨.hbm, 336, rfl⟩
abbrev main_v244 : Ref sig .tc := ⟨.hbm, 337, rfl⟩
abbrev main_cst_54 : Ref sig .tc := ⟨.hbm, 338, rfl⟩
abbrev main_call7_v0 : Ref sig .tc := ⟨.hbm, 339, rfl⟩
abbrev main_call7_v1 : Ref sig .tc := ⟨.hbm, 340, rfl⟩
abbrev main_v245 : Ref sig .tc := ⟨.hbm, 341, rfl⟩
abbrev main_v246 : Ref sig .tc := ⟨.hbm, 342, rfl⟩
abbrev main_call8_v0 : Ref sig .tc := ⟨.hbm, 343, rfl⟩
abbrev main_call8_v1_0 : Ref sig .tc := ⟨.hbm, 344, rfl⟩
abbrev main_v247 : Ref sig .tc := ⟨.hbm, 345, rfl⟩
abbrev main_c_55 : Ref sig .tc := ⟨.hbm, 346, rfl⟩
abbrev main_v248 : Ref sig .tc := ⟨.hbm, 347, rfl⟩
abbrev main_v249 : Ref sig .tc := ⟨.hbm, 348, rfl⟩
abbrev main_c_56 : Ref sig .tc := ⟨.hbm, 349, rfl⟩
abbrev main_v250 : Ref sig .tc := ⟨.hbm, 350, rfl⟩
abbrev main_v251 : Ref sig .tc := ⟨.hbm, 351, rfl⟩
abbrev main_v252 : Ref sig .tc := ⟨.hbm, 352, rfl⟩
abbrev main_v253 : Ref sig .tc := ⟨.hbm, 353, rfl⟩
abbrev main_v254 : Ref sig .tc := ⟨.hbm, 354, rfl⟩
abbrev main_call9_v0 : Ref sig .tc := ⟨.hbm, 355, rfl⟩
abbrev main_call9_v1_0 : Ref sig .tc := ⟨.hbm, 356, rfl⟩
abbrev main_v255 : Ref sig .tc := ⟨.hbm, 357, rfl⟩
abbrev main_c_57 : Ref sig .tc := ⟨.hbm, 358, rfl⟩
abbrev main_v256 : Ref sig .tc := ⟨.hbm, 359, rfl⟩
abbrev main_v257 : Ref sig .tc := ⟨.hbm, 360, rfl⟩
abbrev main_c_58 : Ref sig .tc := ⟨.hbm, 361, rfl⟩
abbrev main_v258 : Ref sig .tc := ⟨.hbm, 362, rfl⟩
abbrev main_v259 : Ref sig .tc := ⟨.hbm, 363, rfl⟩
abbrev main_v260 : Ref sig .tc := ⟨.hbm, 364, rfl⟩
abbrev main_v261 : Ref sig .tc := ⟨.hbm, 365, rfl⟩
abbrev main_v262 : Ref sig .tc := ⟨.hbm, 366, rfl⟩
abbrev main_v263 : Ref sig .tc := ⟨.hbm, 367, rfl⟩
abbrev main_c_59 : Ref sig .tc := ⟨.hbm, 368, rfl⟩
abbrev main_v264 : Ref sig .tc := ⟨.hbm, 369, rfl⟩
abbrev main_c_60 : Ref sig .tc := ⟨.hbm, 370, rfl⟩
abbrev main_v265 : Ref sig .tc := ⟨.hbm, 371, rfl⟩
abbrev main_v266 : Ref sig .tc := ⟨.hbm, 372, rfl⟩
abbrev main_c_61 : Ref sig .tc := ⟨.hbm, 373, rfl⟩
abbrev main_v267 : Ref sig .tc := ⟨.hbm, 374, rfl⟩
abbrev main_v268 : Ref sig .tc := ⟨.hbm, 375, rfl⟩
abbrev main_v269 : Ref sig .tc := ⟨.hbm, 376, rfl⟩
abbrev main_v270 : Ref sig .tc := ⟨.hbm, 377, rfl⟩
abbrev main_v271 : Ref sig .tc := ⟨.hbm, 378, rfl⟩
abbrev main_c_62 : Ref sig .tc := ⟨.hbm, 379, rfl⟩
abbrev main_v272 : Ref sig .tc := ⟨.hbm, 380, rfl⟩
abbrev main_v273 : Ref sig .tc := ⟨.hbm, 381, rfl⟩
abbrev main_c_63 : Ref sig .tc := ⟨.hbm, 382, rfl⟩
abbrev main_v274 : Ref sig .tc := ⟨.hbm, 383, rfl⟩
abbrev main_v275 : Ref sig .tc := ⟨.hbm, 384, rfl⟩
abbrev main_v276 : Ref sig .tc := ⟨.hbm, 385, rfl⟩
abbrev main_v277 : Ref sig .tc := ⟨.hbm, 386, rfl⟩
abbrev main_v278 : Ref sig .tc := ⟨.hbm, 387, rfl⟩
abbrev main_v279 : Ref sig .tc := ⟨.hbm, 388, rfl⟩
abbrev main_c_64 : Ref sig .tc := ⟨.hbm, 389, rfl⟩
abbrev main_v280 : Ref sig .tc := ⟨.hbm, 390, rfl⟩
abbrev main_v281 : Ref sig .tc := ⟨.hbm, 391, rfl⟩
abbrev main_c_65 : Ref sig .tc := ⟨.hbm, 392, rfl⟩
abbrev main_v282 : Ref sig .tc := ⟨.hbm, 393, rfl⟩
abbrev main_v283 : Ref sig .tc := ⟨.hbm, 394, rfl⟩
abbrev main_v284 : Ref sig .tc := ⟨.hbm, 395, rfl⟩
abbrev main_v285 : Ref sig .tc := ⟨.hbm, 396, rfl⟩
abbrev main_v286 : Ref sig .tc := ⟨.hbm, 397, rfl⟩
abbrev main_cst_66 : Ref sig .tc := ⟨.hbm, 398, rfl⟩
abbrev main_v287 : Ref sig .tc := ⟨.hbm, 399, rfl⟩
abbrev main_v288 : Ref sig .tc := ⟨.hbm, 400, rfl⟩
abbrev main_v289 : Ref sig .tc := ⟨.hbm, 401, rfl⟩
abbrev main_cst_67 : Ref sig .tc := ⟨.hbm, 402, rfl⟩
abbrev main_v290 : Ref sig .tc := ⟨.hbm, 403, rfl⟩
abbrev main_v291 : Ref sig .tc := ⟨.hbm, 404, rfl⟩
abbrev main_v292 : Ref sig .tc := ⟨.hbm, 405, rfl⟩
abbrev main_v293 : Ref sig .tc := ⟨.hbm, 406, rfl⟩
abbrev main_c_68 : Ref sig .tc := ⟨.hbm, 407, rfl⟩
abbrev main_v294 : Ref sig .tc := ⟨.hbm, 408, rfl⟩
abbrev main_v295 : Ref sig .tc := ⟨.hbm, 409, rfl⟩
abbrev main_c_69 : Ref sig .tc := ⟨.hbm, 410, rfl⟩
abbrev main_v296 : Ref sig .tc := ⟨.hbm, 411, rfl⟩
abbrev main_v297 : Ref sig .tc := ⟨.hbm, 412, rfl⟩
abbrev main_v298 : Ref sig .tc := ⟨.hbm, 413, rfl⟩
abbrev main_v299 : Ref sig .tc := ⟨.hbm, 414, rfl⟩
abbrev main_v300 : Ref sig .tc := ⟨.hbm, 415, rfl⟩
abbrev main_v301 : Ref sig .tc := ⟨.hbm, 416, rfl⟩
abbrev main_cst_70 : Ref sig .tc := ⟨.hbm, 417, rfl⟩
abbrev main_v302 : Ref sig .tc := ⟨.hbm, 418, rfl⟩
abbrev main_v303 : Ref sig .tc := ⟨.hbm, 419, rfl⟩
abbrev main_v304 : Ref sig .tc := ⟨.hbm, 420, rfl⟩
abbrev main_v305 : Ref sig .tc := ⟨.hbm, 421, rfl⟩
abbrev main_v306 : Ref sig .tc := ⟨.hbm, 422, rfl⟩
abbrev main_v307 : Ref sig .tc := ⟨.hbm, 423, rfl⟩
abbrev main_v308 : Ref sig .tc := ⟨.hbm, 424, rfl⟩
abbrev main_v309 : Ref sig .tc := ⟨.hbm, 425, rfl⟩
abbrev main_v310 : Ref sig .tc := ⟨.hbm, 426, rfl⟩
abbrev main_v311 : Ref sig .tc := ⟨.hbm, 427, rfl⟩
abbrev main_v312 : Ref sig .tc := ⟨.hbm, 428, rfl⟩
abbrev main_c_71 : Ref sig .tc := ⟨.hbm, 429, rfl⟩
abbrev main_v313 : Ref sig .tc := ⟨.hbm, 430, rfl⟩
abbrev main_v314 : Ref sig .tc := ⟨.hbm, 431, rfl⟩
abbrev main_c_72 : Ref sig .tc := ⟨.hbm, 432, rfl⟩
abbrev main_v315 : Ref sig .tc := ⟨.hbm, 433, rfl⟩
abbrev main_v316 : Ref sig .tc := ⟨.hbm, 434, rfl⟩
abbrev main_v317 : Ref sig .tc := ⟨.hbm, 435, rfl⟩
abbrev main_v318 : Ref sig .tc := ⟨.hbm, 436, rfl⟩
abbrev main_v319 : Ref sig .tc := ⟨.hbm, 437, rfl⟩
abbrev main_c_73 : Ref sig .tc := ⟨.hbm, 438, rfl⟩
abbrev main_v320 : Ref sig .tc := ⟨.hbm, 439, rfl⟩
abbrev main_v321 : Ref sig .tc := ⟨.hbm, 440, rfl⟩
abbrev main_c_74 : Ref sig .tc := ⟨.hbm, 441, rfl⟩
abbrev main_v322 : Ref sig .tc := ⟨.hbm, 442, rfl⟩
abbrev main_v323 : Ref sig .tc := ⟨.hbm, 443, rfl⟩
abbrev main_v324 : Ref sig .tc := ⟨.hbm, 444, rfl⟩
abbrev main_v325 : Ref sig .tc := ⟨.hbm, 445, rfl⟩
abbrev main_v326 : Ref sig .tc := ⟨.hbm, 446, rfl⟩
abbrev main_v327 : Ref sig .tc := ⟨.hbm, 447, rfl⟩
abbrev main_v328 : Ref sig .tc := ⟨.hbm, 448, rfl⟩
abbrev main_v329_0 : Ref sig .tc := ⟨.hbm, 449, rfl⟩
abbrev main_v329_1 : Ref sig .tc := ⟨.hbm, 450, rfl⟩
abbrev main_v329_2 : Ref sig .tc := ⟨.hbm, 451, rfl⟩
abbrev main_cst_75 : Ref sig .tc := ⟨.hbm, 452, rfl⟩
abbrev main_v330 : Ref sig .tc := ⟨.hbm, 453, rfl⟩
abbrev main_v331 : Ref sig .tc := ⟨.hbm, 454, rfl⟩
abbrev main_cst_76 : Ref sig .tc := ⟨.hbm, 455, rfl⟩
abbrev main_call10_v0 : Ref sig .tc := ⟨.hbm, 456, rfl⟩
abbrev main_call10_v1 : Ref sig .tc := ⟨.hbm, 457, rfl⟩
abbrev main_v332 : Ref sig .tc := ⟨.hbm, 458, rfl⟩
abbrev main_v333 : Ref sig .tc := ⟨.hbm, 459, rfl⟩
abbrev main_cst_77 : Ref sig .tc := ⟨.hbm, 460, rfl⟩
abbrev main_v334 : Ref sig .tc := ⟨.hbm, 461, rfl⟩
abbrev main_v335 : Ref sig .tc := ⟨.hbm, 462, rfl⟩
abbrev main_v336 : Ref sig .tc := ⟨.hbm, 463, rfl⟩
abbrev main_v337 : Ref sig .tc := ⟨.hbm, 464, rfl⟩
abbrev main_v338 : Ref sig .tc := ⟨.hbm, 465, rfl⟩
abbrev main_v339 : Ref sig .tc := ⟨.hbm, 466, rfl⟩
abbrev main_v340 : Ref sig .tc := ⟨.hbm, 467, rfl⟩
abbrev main_cst_78 : Ref sig .tc := ⟨.hbm, 468, rfl⟩
abbrev main_v341 : Ref sig .tc := ⟨.hbm, 469, rfl⟩
abbrev main_v342 : Ref sig .tc := ⟨.hbm, 470, rfl⟩
abbrev main_v343 : Ref sig .tc := ⟨.hbm, 471, rfl⟩
abbrev main_v344 : Ref sig .tc := ⟨.hbm, 472, rfl⟩
abbrev main_cst_79 : Ref sig .tc := ⟨.hbm, 473, rfl⟩
abbrev main_v345 : Ref sig .tc := ⟨.hbm, 474, rfl⟩
abbrev main_v346 : Ref sig .tc := ⟨.hbm, 475, rfl⟩
abbrev main_cst_80 : Ref sig .tc := ⟨.hbm, 476, rfl⟩
abbrev main_call11_v0 : Ref sig .tc := ⟨.hbm, 477, rfl⟩
abbrev main_call11_v1 : Ref sig .tc := ⟨.hbm, 478, rfl⟩
abbrev main_v347 : Ref sig .tc := ⟨.hbm, 479, rfl⟩
abbrev main_v348 : Ref sig .tc := ⟨.hbm, 480, rfl⟩
abbrev main_c_81 : Ref sig .tc := ⟨.hbm, 481, rfl⟩
abbrev main_v349 : Ref sig .tc := ⟨.hbm, 482, rfl⟩
abbrev main_v350 : Ref sig .tc := ⟨.hbm, 483, rfl⟩
abbrev main_c_82 : Ref sig .tc := ⟨.hbm, 484, rfl⟩
abbrev main_v351 : Ref sig .tc := ⟨.hbm, 485, rfl⟩
abbrev main_v352 : Ref sig .tc := ⟨.hbm, 486, rfl⟩
abbrev main_v353 : Ref sig .tc := ⟨.hbm, 487, rfl⟩
abbrev main_v354 : Ref sig .tc := ⟨.hbm, 488, rfl⟩
abbrev main_v355 : Ref sig .tc := ⟨.hbm, 489, rfl⟩
abbrev main_v356 : Ref sig .tc := ⟨.hbm, 490, rfl⟩
abbrev main_c_83 : Ref sig .tc := ⟨.hbm, 491, rfl⟩
abbrev main_v357 : Ref sig .tc := ⟨.hbm, 492, rfl⟩
abbrev main_v358 : Ref sig .tc := ⟨.hbm, 493, rfl⟩
abbrev main_c_84 : Ref sig .tc := ⟨.hbm, 494, rfl⟩
abbrev main_v359 : Ref sig .tc := ⟨.hbm, 495, rfl⟩
abbrev main_v360 : Ref sig .tc := ⟨.hbm, 496, rfl⟩
abbrev main_v361 : Ref sig .tc := ⟨.hbm, 497, rfl⟩
abbrev main_v362 : Ref sig .tc := ⟨.hbm, 498, rfl⟩
abbrev main_v363 : Ref sig .tc := ⟨.hbm, 499, rfl⟩
abbrev main_v364 : Ref sig .tc := ⟨.hbm, 500, rfl⟩
abbrev main_c_85 : Ref sig .tc := ⟨.hbm, 501, rfl⟩
abbrev main_v365 : Ref sig .tc := ⟨.hbm, 502, rfl⟩
abbrev main_v366 : Ref sig .tc := ⟨.hbm, 503, rfl⟩
abbrev main_c_86 : Ref sig .tc := ⟨.hbm, 504, rfl⟩
abbrev main_v367 : Ref sig .tc := ⟨.hbm, 505, rfl⟩
abbrev main_v368 : Ref sig .tc := ⟨.hbm, 506, rfl⟩
abbrev main_v369 : Ref sig .tc := ⟨.hbm, 507, rfl⟩
abbrev main_v370 : Ref sig .tc := ⟨.hbm, 508, rfl⟩
abbrev main_v371 : Ref sig .tc := ⟨.hbm, 509, rfl⟩
abbrev main_v372 : Ref sig .tc := ⟨.hbm, 510, rfl⟩
abbrev main_v373 : Ref sig .tc := ⟨.hbm, 511, rfl⟩
abbrev main_v374 : Ref sig .tc := ⟨.hbm, 512, rfl⟩
abbrev main_cst_87 : Ref sig .tc := ⟨.hbm, 513, rfl⟩
abbrev main_v375 : Ref sig .tc := ⟨.hbm, 514, rfl⟩
abbrev main_v376 : Ref sig .tc := ⟨.hbm, 515, rfl⟩
abbrev main_v377 : Ref sig .tc := ⟨.hbm, 516, rfl⟩
abbrev main_v378 : Ref sig .tc := ⟨.hbm, 517, rfl⟩
abbrev main_v379 : Ref sig .tc := ⟨.hbm, 518, rfl⟩
abbrev main_v380 : Ref sig .tc := ⟨.hbm, 519, rfl⟩
abbrev main_v381 : Ref sig .tc := ⟨.hbm, 520, rfl⟩
abbrev main_v382 : Ref sig .tc := ⟨.hbm, 521, rfl⟩
abbrev main_v383 : Ref sig .tc := ⟨.hbm, 522, rfl⟩
abbrev main_v384 : Ref sig .tc := ⟨.hbm, 523, rfl⟩
abbrev main_c_88 : Ref sig .tc := ⟨.hbm, 524, rfl⟩
abbrev main_v385 : Ref sig .tc := ⟨.hbm, 525, rfl⟩
abbrev main_v386 : Ref sig .tc := ⟨.hbm, 526, rfl⟩
abbrev main_c_89 : Ref sig .tc := ⟨.hbm, 527, rfl⟩
abbrev main_v387 : Ref sig .tc := ⟨.hbm, 528, rfl⟩
abbrev main_v388 : Ref sig .tc := ⟨.hbm, 529, rfl⟩
abbrev main_v389 : Ref sig .tc := ⟨.hbm, 530, rfl⟩
abbrev main_v390 : Ref sig .tc := ⟨.hbm, 531, rfl⟩
abbrev main_v391 : Ref sig .tc := ⟨.hbm, 532, rfl⟩
abbrev main_v392 : Ref sig .tc := ⟨.hbm, 533, rfl⟩
abbrev main_cst_90 : Ref sig .tc := ⟨.hbm, 534, rfl⟩
abbrev main_v393 : Ref sig .tc := ⟨.hbm, 535, rfl⟩
abbrev main_v394 : Ref sig .tc := ⟨.hbm, 536, rfl⟩
abbrev main_v395 : Ref sig .tc := ⟨.hbm, 537, rfl⟩
abbrev main_v396 : Ref sig .tc := ⟨.hbm, 538, rfl⟩
abbrev main_v397 : Ref sig .tc := ⟨.hbm, 539, rfl⟩
abbrev main_v398 : Ref sig .tc := ⟨.hbm, 540, rfl⟩
abbrev main_v399 : Ref sig .tc := ⟨.hbm, 541, rfl⟩
abbrev main_v400 : Ref sig .tc := ⟨.hbm, 542, rfl⟩
abbrev main_v401 : Ref sig .tc := ⟨.hbm, 543, rfl⟩
abbrev main_v402 : Ref sig .tc := ⟨.hbm, 544, rfl⟩
abbrev main_cst_91 : Ref sig .tc := ⟨.hbm, 545, rfl⟩
abbrev main_v403 : Ref sig .tc := ⟨.hbm, 546, rfl⟩
abbrev main_v404 : Ref sig .tc := ⟨.hbm, 547, rfl⟩
abbrev main_cst_92 : Ref sig .tc := ⟨.hbm, 548, rfl⟩
abbrev main_call12_v0 : Ref sig .tc := ⟨.hbm, 549, rfl⟩
abbrev main_call12_v1 : Ref sig .tc := ⟨.hbm, 550, rfl⟩
abbrev main_v405 : Ref sig .tc := ⟨.hbm, 551, rfl⟩
abbrev main_v406 : Ref sig .tc := ⟨.hbm, 552, rfl⟩
abbrev main_call13_v0 : Ref sig .tc := ⟨.hbm, 553, rfl⟩
abbrev main_call13_v1_0 : Ref sig .tc := ⟨.hbm, 554, rfl⟩
abbrev main_v407 : Ref sig .tc := ⟨.hbm, 555, rfl⟩
abbrev main_c_93 : Ref sig .tc := ⟨.hbm, 556, rfl⟩
abbrev main_v408 : Ref sig .tc := ⟨.hbm, 557, rfl⟩
abbrev main_v409 : Ref sig .tc := ⟨.hbm, 558, rfl⟩
abbrev main_c_94 : Ref sig .tc := ⟨.hbm, 559, rfl⟩
abbrev main_v410 : Ref sig .tc := ⟨.hbm, 560, rfl⟩
abbrev main_v411 : Ref sig .tc := ⟨.hbm, 561, rfl⟩
abbrev main_v412 : Ref sig .tc := ⟨.hbm, 562, rfl⟩
abbrev main_v413 : Ref sig .tc := ⟨.hbm, 563, rfl⟩
abbrev main_v414 : Ref sig .tc := ⟨.hbm, 564, rfl⟩
abbrev main_call14_v0 : Ref sig .tc := ⟨.hbm, 565, rfl⟩
abbrev main_call14_v1_0 : Ref sig .tc := ⟨.hbm, 566, rfl⟩
abbrev main_v415 : Ref sig .tc := ⟨.hbm, 567, rfl⟩
abbrev main_c_95 : Ref sig .tc := ⟨.hbm, 568, rfl⟩
abbrev main_v416 : Ref sig .tc := ⟨.hbm, 569, rfl⟩
abbrev main_v417 : Ref sig .tc := ⟨.hbm, 570, rfl⟩
abbrev main_c_96 : Ref sig .tc := ⟨.hbm, 571, rfl⟩
abbrev main_v418 : Ref sig .tc := ⟨.hbm, 572, rfl⟩
abbrev main_v419 : Ref sig .tc := ⟨.hbm, 573, rfl⟩
abbrev main_v420 : Ref sig .tc := ⟨.hbm, 574, rfl⟩
abbrev main_v421 : Ref sig .tc := ⟨.hbm, 575, rfl⟩
abbrev main_v422 : Ref sig .tc := ⟨.hbm, 576, rfl⟩
abbrev main_v423 : Ref sig .tc := ⟨.hbm, 577, rfl⟩
abbrev main_c_97 : Ref sig .tc := ⟨.hbm, 578, rfl⟩
abbrev main_v424 : Ref sig .tc := ⟨.hbm, 579, rfl⟩
abbrev main_c_98 : Ref sig .tc := ⟨.hbm, 580, rfl⟩
abbrev main_v425 : Ref sig .tc := ⟨.hbm, 581, rfl⟩
abbrev main_v426 : Ref sig .tc := ⟨.hbm, 582, rfl⟩
abbrev main_c_99 : Ref sig .tc := ⟨.hbm, 583, rfl⟩
abbrev main_v427 : Ref sig .tc := ⟨.hbm, 584, rfl⟩
abbrev main_v428 : Ref sig .tc := ⟨.hbm, 585, rfl⟩
abbrev main_v429 : Ref sig .tc := ⟨.hbm, 586, rfl⟩
abbrev main_v430 : Ref sig .tc := ⟨.hbm, 587, rfl⟩
abbrev main_v431 : Ref sig .tc := ⟨.hbm, 588, rfl⟩
abbrev main_c_100 : Ref sig .tc := ⟨.hbm, 589, rfl⟩
abbrev main_v432 : Ref sig .tc := ⟨.hbm, 590, rfl⟩
abbrev main_v433 : Ref sig .tc := ⟨.hbm, 591, rfl⟩
abbrev main_c_101 : Ref sig .tc := ⟨.hbm, 592, rfl⟩
abbrev main_v434 : Ref sig .tc := ⟨.hbm, 593, rfl⟩
abbrev main_v435 : Ref sig .tc := ⟨.hbm, 594, rfl⟩
abbrev main_v436 : Ref sig .tc := ⟨.hbm, 595, rfl⟩
abbrev main_v437 : Ref sig .tc := ⟨.hbm, 596, rfl⟩
abbrev main_v438 : Ref sig .tc := ⟨.hbm, 597, rfl⟩
abbrev main_v439 : Ref sig .tc := ⟨.hbm, 598, rfl⟩
abbrev main_c_102 : Ref sig .tc := ⟨.hbm, 599, rfl⟩
abbrev main_v440 : Ref sig .tc := ⟨.hbm, 600, rfl⟩
abbrev main_v441 : Ref sig .tc := ⟨.hbm, 601, rfl⟩
abbrev main_c_103 : Ref sig .tc := ⟨.hbm, 602, rfl⟩
abbrev main_v442 : Ref sig .tc := ⟨.hbm, 603, rfl⟩
abbrev main_v443 : Ref sig .tc := ⟨.hbm, 604, rfl⟩
abbrev main_v444 : Ref sig .tc := ⟨.hbm, 605, rfl⟩
abbrev main_v445 : Ref sig .tc := ⟨.hbm, 606, rfl⟩
abbrev main_v446 : Ref sig .tc := ⟨.hbm, 607, rfl⟩
abbrev main_cst_104 : Ref sig .tc := ⟨.hbm, 608, rfl⟩
abbrev main_v447 : Ref sig .tc := ⟨.hbm, 609, rfl⟩
abbrev main_v448 : Ref sig .tc := ⟨.hbm, 610, rfl⟩
abbrev main_v449 : Ref sig .tc := ⟨.hbm, 611, rfl⟩
abbrev main_cst_105 : Ref sig .tc := ⟨.hbm, 612, rfl⟩
abbrev main_v450 : Ref sig .tc := ⟨.hbm, 613, rfl⟩
abbrev main_v451 : Ref sig .tc := ⟨.hbm, 614, rfl⟩
abbrev main_v452 : Ref sig .tc := ⟨.hbm, 615, rfl⟩
abbrev main_v453 : Ref sig .tc := ⟨.hbm, 616, rfl⟩
abbrev main_c_106 : Ref sig .tc := ⟨.hbm, 617, rfl⟩
abbrev main_v454 : Ref sig .tc := ⟨.hbm, 618, rfl⟩
abbrev main_v455 : Ref sig .tc := ⟨.hbm, 619, rfl⟩
abbrev main_c_107 : Ref sig .tc := ⟨.hbm, 620, rfl⟩
abbrev main_v456 : Ref sig .tc := ⟨.hbm, 621, rfl⟩
abbrev main_v457 : Ref sig .tc := ⟨.hbm, 622, rfl⟩
abbrev main_v458 : Ref sig .tc := ⟨.hbm, 623, rfl⟩
abbrev main_v459 : Ref sig .tc := ⟨.hbm, 624, rfl⟩
abbrev main_v460 : Ref sig .tc := ⟨.hbm, 625, rfl⟩
abbrev main_v461 : Ref sig .tc := ⟨.hbm, 626, rfl⟩
abbrev main_cst_108 : Ref sig .tc := ⟨.hbm, 627, rfl⟩
abbrev main_v462 : Ref sig .tc := ⟨.hbm, 628, rfl⟩
abbrev main_v463 : Ref sig .tc := ⟨.hbm, 629, rfl⟩
abbrev main_v464 : Ref sig .tc := ⟨.hbm, 630, rfl⟩
abbrev main_v465 : Ref sig .tc := ⟨.hbm, 631, rfl⟩
abbrev main_v466 : Ref sig .tc := ⟨.hbm, 632, rfl⟩
abbrev main_v467 : Ref sig .tc := ⟨.hbm, 633, rfl⟩
abbrev main_v468 : Ref sig .tc := ⟨.hbm, 634, rfl⟩
abbrev main_v469 : Ref sig .tc := ⟨.hbm, 635, rfl⟩
abbrev main_v470 : Ref sig .tc := ⟨.hbm, 636, rfl⟩
abbrev main_v471 : Ref sig .tc := ⟨.hbm, 637, rfl⟩
abbrev main_v472 : Ref sig .tc := ⟨.hbm, 638, rfl⟩
abbrev main_c_109 : Ref sig .tc := ⟨.hbm, 639, rfl⟩
abbrev main_v473 : Ref sig .tc := ⟨.hbm, 640, rfl⟩
abbrev main_v474 : Ref sig .tc := ⟨.hbm, 641, rfl⟩
abbrev main_c_110 : Ref sig .tc := ⟨.hbm, 642, rfl⟩
abbrev main_v475 : Ref sig .tc := ⟨.hbm, 643, rfl⟩
abbrev main_v476 : Ref sig .tc := ⟨.hbm, 644, rfl⟩
abbrev main_v477 : Ref sig .tc := ⟨.hbm, 645, rfl⟩
abbrev main_v478 : Ref sig .tc := ⟨.hbm, 646, rfl⟩
abbrev main_v479 : Ref sig .tc := ⟨.hbm, 647, rfl⟩
abbrev main_c_111 : Ref sig .tc := ⟨.hbm, 648, rfl⟩
abbrev main_v480 : Ref sig .tc := ⟨.hbm, 649, rfl⟩
abbrev main_v481 : Ref sig .tc := ⟨.hbm, 650, rfl⟩
abbrev main_c_112 : Ref sig .tc := ⟨.hbm, 651, rfl⟩
abbrev main_v482 : Ref sig .tc := ⟨.hbm, 652, rfl⟩
abbrev main_v483 : Ref sig .tc := ⟨.hbm, 653, rfl⟩
abbrev main_v484 : Ref sig .tc := ⟨.hbm, 654, rfl⟩
abbrev main_v485 : Ref sig .tc := ⟨.hbm, 655, rfl⟩
abbrev main_v486 : Ref sig .tc := ⟨.hbm, 656, rfl⟩
abbrev main_v487 : Ref sig .tc := ⟨.hbm, 657, rfl⟩
abbrev main_v488 : Ref sig .tc := ⟨.hbm, 658, rfl⟩
abbrev main_v489_0 : Ref sig .tc := ⟨.hbm, 659, rfl⟩
abbrev main_v489_1 : Ref sig .tc := ⟨.hbm, 660, rfl⟩
abbrev main_v489_2 : Ref sig .tc := ⟨.hbm, 661, rfl⟩
abbrev main_cst_113 : Ref sig .tc := ⟨.hbm, 662, rfl⟩
abbrev main_v490 : Ref sig .tc := ⟨.hbm, 663, rfl⟩
abbrev main_v491 : Ref sig .tc := ⟨.hbm, 664, rfl⟩
abbrev main_cst_114 : Ref sig .tc := ⟨.hbm, 665, rfl⟩
abbrev main_call15_v0 : Ref sig .tc := ⟨.hbm, 666, rfl⟩
abbrev main_call15_v1 : Ref sig .tc := ⟨.hbm, 667, rfl⟩
abbrev main_v492 : Ref sig .tc := ⟨.hbm, 668, rfl⟩
abbrev main_v493 : Ref sig .tc := ⟨.hbm, 669, rfl⟩
abbrev main_cst_115 : Ref sig .tc := ⟨.hbm, 670, rfl⟩
abbrev main_v494 : Ref sig .tc := ⟨.hbm, 671, rfl⟩
abbrev main_v495 : Ref sig .tc := ⟨.hbm, 672, rfl⟩
abbrev main_v496 : Ref sig .tc := ⟨.hbm, 673, rfl⟩
abbrev main_v497 : Ref sig .tc := ⟨.hbm, 674, rfl⟩
abbrev main_v498 : Ref sig .tc := ⟨.hbm, 675, rfl⟩
abbrev main_v499 : Ref sig .tc := ⟨.hbm, 676, rfl⟩
abbrev main_v500 : Ref sig .tc := ⟨.hbm, 677, rfl⟩
abbrev main_v501 : Ref sig .tc := ⟨.hbm, 678, rfl⟩
abbrev main_c_116 : Ref sig .tc := ⟨.hbm, 679, rfl⟩
abbrev main_call16_v0 : Ref sig .tc := ⟨.hbm, 680, rfl⟩
abbrev main_v502 : Ref sig .tc := ⟨.hbm, 681, rfl⟩
abbrev main_c_117 : Ref sig .tc := ⟨.hbm, 682, rfl⟩
abbrev main_call17_v0 : Ref sig .tc := ⟨.hbm, 683, rfl⟩
abbrev main_v503 : Ref sig .tc := ⟨.hbm, 684, rfl⟩
abbrev main_v504 : Ref sig .tc := ⟨.hbm, 685, rfl⟩
abbrev main_v505 : Ref sig .tc := ⟨.hbm, 686, rfl⟩
abbrev main_v506 : Ref sig .tc := ⟨.hbm, 687, rfl⟩
abbrev main_v507 : Ref sig .tc := ⟨.hbm, 688, rfl⟩
abbrev main_v508 : Ref sig .tc := ⟨.hbm, 689, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg5_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg2_1 : Ref sig .tc := ⟨.vmem, 54, rfl⟩
abbrev cc7_stg0_0 : Ref sig .tc := ⟨.vmem, 55, rfl⟩
abbrev cc7_stg0_1 : Ref sig .tc := ⟨.vmem, 56, rfl⟩
abbrev cc7_stg1_0 : Ref sig .tc := ⟨.vmem, 57, rfl⟩
abbrev cc7_stg1_1 : Ref sig .tc := ⟨.vmem, 58, rfl⟩
abbrev cc7_stg2_0 : Ref sig .tc := ⟨.vmem, 59, rfl⟩
abbrev cc7_stg2_1 : Ref sig .tc := ⟨.vmem, 60, rfl⟩
abbrev cc7_stg3_0 : Ref sig .tc := ⟨.vmem, 61, rfl⟩
abbrev cc7_stg3_1 : Ref sig .tc := ⟨.vmem, 62, rfl⟩
abbrev cc7_stg4_0 : Ref sig .tc := ⟨.vmem, 63, rfl⟩
abbrev cc7_stg5_0 : Ref sig .tc := ⟨.vmem, 64, rfl⟩
abbrev cc7_stg5_1 : Ref sig .tc := ⟨.vmem, 65, rfl⟩
abbrev cc8_stg0_0 : Ref sig .tc := ⟨.vmem, 66, rfl⟩
abbrev cc8_stg0_1 : Ref sig .tc := ⟨.vmem, 67, rfl⟩
abbrev cc8_stg1_0 : Ref sig .tc := ⟨.vmem, 68, rfl⟩
abbrev cc8_stg1_1 : Ref sig .tc := ⟨.vmem, 69, rfl⟩
abbrev cc8_stg2_0 : Ref sig .tc := ⟨.vmem, 70, rfl⟩
abbrev cc8_stg2_1 : Ref sig .tc := ⟨.vmem, 71, rfl⟩
abbrev cc8_stg3_0 : Ref sig .tc := ⟨.vmem, 72, rfl⟩
abbrev cc8_stg4_0 : Ref sig .tc := ⟨.vmem, 73, rfl⟩
abbrev cc8_stg5_0 : Ref sig .tc := ⟨.vmem, 74, rfl⟩
abbrev cc9_stg0_0 : Ref sig .tc := ⟨.vmem, 75, rfl⟩
abbrev cc9_stg1_0 : Ref sig .tc := ⟨.vmem, 76, rfl⟩
abbrev cc9_stg2_0 : Ref sig .tc := ⟨.vmem, 77, rfl⟩
abbrev cc9_stg3_0 : Ref sig .tc := ⟨.vmem, 78, rfl⟩
abbrev cc9_stg4_0 : Ref sig .tc := ⟨.vmem, 79, rfl⟩
abbrev cc9_stg5_0 : Ref sig .tc := ⟨.vmem, 80, rfl⟩
abbrev cc9_stg6_0 : Ref sig .tc := ⟨.vmem, 81, rfl⟩
abbrev cc9_stg7_0 : Ref sig .tc := ⟨.vmem, 82, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem3_1 : DmaSem sig := 37
abbrev cc4_sem4_0 : DmaSem sig := 38
abbrev cc4_sem5_0 : DmaSem sig := 39
abbrev cc4_sem5_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem4_0 : DmaSem sig := 48
abbrev cc5_sem5_0 : DmaSem sig := 49
abbrev cc6_sem0_0 : DmaSem sig := 50
abbrev cc6_sem0_1 : DmaSem sig := 51
abbrev cc6_sem1_0 : DmaSem sig := 52
abbrev cc6_sem2_0 : DmaSem sig := 53
abbrev cc6_sem2_1 : DmaSem sig := 54
abbrev cc7_sem0_0 : DmaSem sig := 55
abbrev cc7_sem0_1 : DmaSem sig := 56
abbrev cc7_sem1_0 : DmaSem sig := 57
abbrev cc7_sem1_1 : DmaSem sig := 58
abbrev cc7_sem2_0 : DmaSem sig := 59
abbrev cc7_sem2_1 : DmaSem sig := 60
abbrev cc7_sem3_0 : DmaSem sig := 61
abbrev cc7_sem3_1 : DmaSem sig := 62
abbrev cc7_sem4_0 : DmaSem sig := 63
abbrev cc7_sem5_0 : DmaSem sig := 64
abbrev cc7_sem5_1 : DmaSem sig := 65
abbrev cc8_sem0_0 : DmaSem sig := 66
abbrev cc8_sem0_1 : DmaSem sig := 67
abbrev cc8_sem1_0 : DmaSem sig := 68
abbrev cc8_sem1_1 : DmaSem sig := 69
abbrev cc8_sem2_0 : DmaSem sig := 70
abbrev cc8_sem2_1 : DmaSem sig := 71
abbrev cc8_sem3_0 : DmaSem sig := 72
abbrev cc8_sem4_0 : DmaSem sig := 73
abbrev cc8_sem5_0 : DmaSem sig := 74
abbrev cc9_sem0_0 : DmaSem sig := 75
abbrev cc9_sem1_0 : DmaSem sig := 76
abbrev cc9_sem2_0 : DmaSem sig := 77
abbrev cc9_sem3_0 : DmaSem sig := 78
abbrev cc9_sem4_0 : DmaSem sig := 79
abbrev cc9_sem5_0 : DmaSem sig := 80
abbrev cc9_sem6_0 : DmaSem sig := 81
abbrev cc9_sem7_0 : DmaSem sig := 82

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

@[reducible] def k2_t1_loop : Scf.Loop 32 :=
  let c0_i32_15 : BitVec 32 := 0#32
  let c40_i32 : BitVec 32 := 40#32
  let v24 : BitVec 32 := Scalar.addi c0_i32_15 c40_i32
  let c1_i32 : BitVec 32 := 1#32
  ⟨c0_i32_15, v24, c1_i32⟩
def k2_off1 (k2_t1 : Fin k2_t1_loop.trips) : Fin 2 → Nat :=
  let c0_i32_15 : BitVec 32 := 0#32
  let c1_i32 : BitVec 32 := 1#32
  let arg7 : BitVec 32 := Scf.iv c0_i32_15 c1_i32 k2_t1
  let c50_i32 : BitVec 32 := 50#32
  let v25 : BitVec 32 := Scalar.muli arg7 c50_i32
  let v26 : Index := Scalar.indexCast v25
  let c0_17 : Index := 0#32
  ![v26.toNat, 0]
def k2_off2 (k2_t1 : Fin k2_t1_loop.trips) : Fin 2 → Nat :=
  let c0_i32_15 : BitVec 32 := 0#32
  let c1_i32 : BitVec 32 := 1#32
  let arg7 : BitVec 32 := Scf.iv c0_i32_15 c1_i32 k2_t1
  let c50_i32_20 : BitVec 32 := 50#32
  let v33 : BitVec 32 := Scalar.muli arg7 c50_i32_20
  let v34 : Index := Scalar.indexCast v33
  let c0_21 : Index := 0#32
  ![v34.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![5], ![false]⟩

@[reducible] def k5_t1_loop : Scf.Loop 32 :=
  let c0_i32_15 : BitVec 32 := 0#32
  let c40_i32 : BitVec 32 := 40#32
  let v24 : BitVec 32 := Scalar.addi c0_i32_15 c40_i32
  let c1_i32 : BitVec 32 := 1#32
  ⟨c0_i32_15, v24, c1_i32⟩
def k5_off1 (k5_t1 : Fin k5_t1_loop.trips) : Fin 2 → Nat :=
  let c0_i32_15 : BitVec 32 := 0#32
  let c1_i32 : BitVec 32 := 1#32
  let arg7 : BitVec 32 := Scf.iv c0_i32_15 c1_i32 k5_t1
  let c50_i32 : BitVec 32 := 50#32
  let v25 : BitVec 32 := Scalar.muli arg7 c50_i32
  let v26 : Index := Scalar.indexCast v25
  let c0_17 : Index := 0#32
  ![v26.toNat, 0]
def k5_off2 (k5_t1 : Fin k5_t1_loop.trips) : Fin 2 → Nat :=
  let c0_i32_15 : BitVec 32 := 0#32
  let c1_i32 : BitVec 32 := 1#32
  let arg7 : BitVec 32 := Scf.iv c0_i32_15 c1_i32 k5_t1
  let c50_i32_20 : BitVec 32 := 50#32
  let v33 : BitVec 32 := Scalar.muli arg7 c50_i32_20
  let v34 : Index := Scalar.indexCast v33
  let c0_21 : Index := 0#32
  ![v34.toNat, 0]
def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S2000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![5], ![false]⟩

@[reducible] def k8_t1_loop : Scf.Loop 32 :=
  let c0_i32_15 : BitVec 32 := 0#32
  let c40_i32 : BitVec 32 := 40#32
  let v24 : BitVec 32 := Scalar.addi c0_i32_15 c40_i32
  let c1_i32 : BitVec 32 := 1#32
  ⟨c0_i32_15, v24, c1_i32⟩
def k8_off1 (k8_t1 : Fin k8_t1_loop.trips) : Fin 2 → Nat :=
  let c0_i32_15 : BitVec 32 := 0#32
  let c1_i32 : BitVec 32 := 1#32
  let arg7 : BitVec 32 := Scf.iv c0_i32_15 c1_i32 k8_t1
  let c50_i32 : BitVec 32 := 50#32
  let v25 : BitVec 32 := Scalar.muli arg7 c50_i32
  let v26 : Index := Scalar.indexCast v25
  let c0_17 : Index := 0#32
  ![v26.toNat, 0]
def k8_off2 (k8_t1 : Fin k8_t1_loop.trips) : Fin 2 → Nat :=
  let c0_i32_15 : BitVec 32 := 0#32
  let c1_i32 : BitVec 32 := 1#32
  let arg7 : BitVec 32 := Scf.iv c0_i32_15 c1_i32 k8_t1
  let c50_i32_20 : BitVec 32 := 50#32
  let v33 : BitVec 32 := Scalar.muli arg7 c50_i32_20
  let v34 : Index := Scalar.indexCast v33
  let c0_21 : Index := 0#32
  ![v34.toNat, 0]
def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev grid9 : Pipeline.Grid := .none

abbrev stage9_0 : Fin 1 → Memref sig .tc .vmem S128x256 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))

abbrev stage9_1 : Fin 1 → Memref sig .tc .vmem S256x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))

abbrev stage9_3 : Fin 1 → Memref sig .tc .vmem S128x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))

abbrev stage9_5 : Fin 1 → Memref sig .tc .vmem S64x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))

abbrev stage9_7 : Fin 1 → Memref sig .tc .vmem S128x128 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S256x128 : Shape := ⟨2, ![256, 128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x320000 : Shape := ⟨2, ![1, 320000]⟩
abbrev S320000 : Shape := ⟨1, ![320000]⟩
abbrev S_ : Shape := ⟨0, ![]⟩
abbrev S10000x1 : Shape := ⟨2, ![10000, 1]⟩
abbrev S320000x1 : Shape := ⟨2, ![320000, 1]⟩
abbrev S320000x128 : Shape := ⟨2, ![320000, 128]⟩
abbrev S1x128 : Shape := ⟨2, ![1, 128]⟩
abbrev S1x1 : Shape := ⟨2, ![1, 1]⟩
abbrev S10000x128x1 : Shape := ⟨3, ![10000, 128, 1]⟩
abbrev S10000x1x128 : Shape := ⟨3, ![10000, 1, 128]⟩
abbrev S10000x128x128 : Shape := ⟨3, ![10000, 128, 128]⟩
abbrev S128x256 : Shape := ⟨2, ![128, 256]⟩
abbrev S1x64 : Shape := ⟨2, ![1, 64]⟩
abbrev S128x10 : Shape := ⟨2, ![128, 10]⟩
abbrev S1x10 : Shape := ⟨2, ![1, 10]⟩

abbrev nBuf : Space → Nat
  | .hbm => 951
  | .vmem => 0
  | .smem => 0
  | _ => 0

abbrev hbmTy0_0 (i : Nat) : BufTy := match i % 128 with
  | 0 => ⟨S10000x128, .f32⟩
  | 1 => ⟨S2x320000, .i32⟩
  | 2 => ⟨S10000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S128x1, .f32⟩
  | 12 => ⟨S1, .f32⟩
  | 13 => ⟨S128x1, .f32⟩
  | 14 => ⟨S1, .f32⟩
  | 15 => ⟨S256x128, .f32⟩
  | 16 => ⟨S128, .f32⟩
  | 17 => ⟨S128x64, .f32⟩
  | 18 => ⟨S64, .f32⟩
  | 19 => ⟨S64x10, .f32⟩
  | 20 => ⟨S10, .f32⟩
  | 21 => ⟨S1x320000, .i32⟩
  | 22 => ⟨S320000, .i32⟩
  | 23 => ⟨S1x320000, .i32⟩
  | 24 => ⟨S320000, .i32⟩
  | 25 => ⟨S_, .f32⟩
  | 26 => ⟨S10000, .f32⟩
  | 27 => ⟨S_, .f32⟩
  | 28 => ⟨S128, .f32⟩
  | 29 => ⟨S10000x1, .i32⟩
  | 30 => ⟨S128, .f32⟩
  | 31 => ⟨S_, .f32⟩
  | 32 => ⟨S_, .f32⟩
  | 33 => ⟨S128, .f32⟩
  | 34 => ⟨S128, .f32⟩
  | 35 => ⟨S128, .i32⟩
  | 36 => ⟨S_, .f32⟩
  | 37 => ⟨S10000, .f32⟩
  | 38 => ⟨S_, .f32⟩
  | 39 => ⟨S320000, .f32⟩
  | 40 => ⟨S10000x128, .f32⟩
  | 41 => ⟨S_, .f32⟩
  | 42 => ⟨S10000, .f32⟩
  | 43 => ⟨S320000x1, .i32⟩
  | 44 => ⟨S10000, .f32⟩
  | 45 => ⟨S10000, .f32⟩
  | 46 => ⟨S_, .f32⟩
  | 47 => ⟨S10000, .f32⟩
  | 48 => ⟨S10000, .i1⟩
  | 49 => ⟨S_, .f32⟩
  | 50 => ⟨S_, .f32⟩
  | 51 => ⟨S10000, .f32⟩
  | 52 => ⟨S10000, .f32⟩
  | 53 => ⟨S10000, .f32⟩
  | 54 => ⟨S_, .f32⟩
  | 55 => ⟨S10000, .f32⟩
  | 56 => ⟨S10000, .f32⟩
  | 57 => ⟨S_, .i32⟩
  | 58 => ⟨S320000, .i32⟩
  | 59 => ⟨S320000, .i1⟩
  | 60 => ⟨S_, .i32⟩
  | 61 => ⟨S320000, .i32⟩
  | 62 => ⟨S320000, .i32⟩
  | 63 => ⟨S320000, .i32⟩
  | 64 => ⟨S320000x1, .i32⟩
  | 65 => ⟨S320000, .f32⟩
  | 66 => ⟨S320000, .f32⟩
  | 67 => ⟨S_, .i32⟩
  | 68 => ⟨S320000, .i32⟩
  | 69 => ⟨S320000, .i1⟩
  | 70 => ⟨S_, .i32⟩
  | 71 => ⟨S320000, .i32⟩
  | 72 => ⟨S320000, .i32⟩
  | 73 => ⟨S320000, .i32⟩
  | 74 => ⟨S320000x1, .i32⟩
  | 75 => ⟨S320000, .f32⟩
  | 76 => ⟨S320000, .f32⟩
  | 77 => ⟨S_, .i32⟩
  | 78 => ⟨S320000, .i32⟩
  | 79 => ⟨S320000, .i1⟩
  | 80 => ⟨S_, .i32⟩
  | 81 => ⟨S320000, .i32⟩
  | 82 => ⟨S320000, .i32⟩
  | 83 => ⟨S320000, .i32⟩
  | 84 => ⟨S320000x1, .i32⟩
  | 85 => ⟨S320000x128, .f32⟩
  | 86 => ⟨S320000x1, .f32⟩
  | 87 => ⟨S320000x128, .f32⟩
  | 88 => ⟨S320000x128, .f32⟩
  | 89 => ⟨S_, .f32⟩
  | 90 => ⟨S10000x128, .f32⟩
  | 91 => ⟨S320000x1, .i32⟩
  | 92 => ⟨S10000x128, .f32⟩
  | 93 => ⟨S10000, .f32⟩
  | 94 => ⟨S10000x1, .f32⟩
  | 95 => ⟨S10000x128, .f32⟩
  | 96 => ⟨S10000x128, .f32⟩
  | 97 => ⟨S10000x128, .f32⟩
  | 98 => ⟨S1x128, .f32⟩
  | 99 => ⟨S10000x128, .f32⟩
  | 100 => ⟨S10000x128, .f32⟩
  | 101 => ⟨S10000x1, .f32⟩
  | 102 => ⟨S10000x128, .f32⟩
  | 103 => ⟨S10000x128, .f32⟩
  | 104 => ⟨S_, .f32⟩
  | 105 => ⟨S10000x128, .f32⟩
  | 106 => ⟨S10000x128, .f32⟩
  | 107 => ⟨S10000x1, .f32⟩
  | 108 => ⟨S_, .f32⟩
  | 109 => ⟨S10000, .f32⟩
  | 110 => ⟨S320000x1, .i32⟩
  | 111 => ⟨S10000, .f32⟩
  | 112 => ⟨S10000, .f32⟩
  | 113 => ⟨S_, .f32⟩
  | 114 => ⟨S10000, .f32⟩
  | 115 => ⟨S10000, .i1⟩
  | 116 => ⟨S_, .f32⟩
  | 117 => ⟨S_, .f32⟩
  | 118 => ⟨S10000, .f32⟩
  | 119 => ⟨S10000, .f32⟩
  | 120 => ⟨S10000, .f32⟩
  | 121 => ⟨S_, .f32⟩
  | 122 => ⟨S10000, .f32⟩
  | 123 => ⟨S10000, .f32⟩
  | 124 => ⟨S_, .i32⟩
  | 125 => ⟨S320000, .i32⟩
  | 126 => ⟨S320000, .i1⟩
  | 127 => ⟨S_, .i32⟩
  | _ => ⟨S10000x128, .f32⟩

abbrev hbmTy0_1 (i : Nat) : BufTy := match i % 128 with
  | 0 => ⟨S320000, .i32⟩
  | 1 => ⟨S320000, .i32⟩
  | 2 => ⟨S320000, .i32⟩
  | 3 => ⟨S320000x1, .i32⟩
  | 4 => ⟨S320000, .f32⟩
  | 5 => ⟨S320000, .f32⟩
  | 6 => ⟨S_, .i32⟩
  | 7 => ⟨S320000, .i32⟩
  | 8 => ⟨S320000, .i1⟩
  | 9 => ⟨S_, .i32⟩
  | 10 => ⟨S320000, .i32⟩
  | 11 => ⟨S320000, .i32⟩
  | 12 => ⟨S320000, .i32⟩
  | 13 => ⟨S320000x1, .i32⟩
  | 14 => ⟨S320000, .f32⟩
  | 15 => ⟨S320000, .f32⟩
  | 16 => ⟨S_, .i32⟩
  | 17 => ⟨S320000, .i32⟩
  | 18 => ⟨S320000, .i1⟩
  | 19 => ⟨S_, .i32⟩
  | 20 => ⟨S320000, .i32⟩
  | 21 => ⟨S320000, .i32⟩
  | 22 => ⟨S320000, .i32⟩
  | 23 => ⟨S320000x1, .i32⟩
  | 24 => ⟨S320000x1, .f32⟩
  | 25 => ⟨S320000x1, .f32⟩
  | 26 => ⟨S320000x1, .f32⟩
  | 27 => ⟨S_, .f32⟩
  | 28 => ⟨S10000x1, .f32⟩
  | 29 => ⟨S320000x1, .i32⟩
  | 30 => ⟨S10000x1, .f32⟩
  | 31 => ⟨S10000, .f32⟩
  | 32 => ⟨S10000x1, .f32⟩
  | 33 => ⟨S10000x1, .f32⟩
  | 34 => ⟨S10000x1, .f32⟩
  | 35 => ⟨S1x1, .f32⟩
  | 36 => ⟨S10000x1, .f32⟩
  | 37 => ⟨S10000x1, .f32⟩
  | 38 => ⟨S10000x1, .f32⟩
  | 39 => ⟨S10000x1, .f32⟩
  | 40 => ⟨S10000, .f32⟩
  | 41 => ⟨S_, .f32⟩
  | 42 => ⟨S10000, .f32⟩
  | 43 => ⟨S10000, .i1⟩
  | 44 => ⟨S_, .f32⟩
  | 45 => ⟨S_, .f32⟩
  | 46 => ⟨S10000, .f32⟩
  | 47 => ⟨S10000, .f32⟩
  | 48 => ⟨S10000, .f32⟩
  | 49 => ⟨S10000, .i32⟩
  | 50 => ⟨S10000, .f32⟩
  | 51 => ⟨S10000, .i32⟩
  | 52 => ⟨S_, .i32⟩
  | 53 => ⟨S10000, .i32⟩
  | 54 => ⟨S10000, .i1⟩
  | 55 => ⟨S_, .i32⟩
  | 56 => ⟨S10000, .i32⟩
  | 57 => ⟨S10000, .i32⟩
  | 58 => ⟨S10000, .i32⟩
  | 59 => ⟨S10000x1, .i32⟩
  | 60 => ⟨S10000, .i32⟩
  | 61 => ⟨S10000, .i32⟩
  | 62 => ⟨S10000, .i32⟩
  | 63 => ⟨S10000, .i32⟩
  | 64 => ⟨S_, .i32⟩
  | 65 => ⟨S10000, .i32⟩
  | 66 => ⟨S10000, .i1⟩
  | 67 => ⟨S_, .i32⟩
  | 68 => ⟨S10000, .i32⟩
  | 69 => ⟨S10000, .i32⟩
  | 70 => ⟨S10000, .i32⟩
  | 71 => ⟨S10000x1, .i32⟩
  | 72 => ⟨S10000, .i32⟩
  | 73 => ⟨S10000, .i32⟩
  | 74 => ⟨S_, .i32⟩
  | 75 => ⟨S10000, .i32⟩
  | 76 => ⟨S_, .i32⟩
  | 77 => ⟨S10000, .i32⟩
  | 78 => ⟨S10000, .i1⟩
  | 79 => ⟨S_, .i32⟩
  | 80 => ⟨S10000, .i32⟩
  | 81 => ⟨S10000, .i32⟩
  | 82 => ⟨S10000, .i32⟩
  | 83 => ⟨S10000x1, .i32⟩
  | 84 => ⟨S10000, .i32⟩
  | 85 => ⟨S_, .i32⟩
  | 86 => ⟨S10000, .i32⟩
  | 87 => ⟨S10000, .i1⟩
  | 88 => ⟨S_, .i32⟩
  | 89 => ⟨S10000, .i32⟩
  | 90 => ⟨S10000, .i32⟩
  | 91 => ⟨S10000, .i32⟩
  | 92 => ⟨S10000x1, .i32⟩
  | 93 => ⟨S10000, .i32⟩
  | 94 => ⟨S10000, .i32⟩
  | 95 => ⟨S_, .i32⟩
  | 96 => ⟨S10000, .i32⟩
  | 97 => ⟨S10000, .i1⟩
  | 98 => ⟨S_, .i32⟩
  | 99 => ⟨S10000, .i32⟩
  | 100 => ⟨S10000, .i32⟩
  | 101 => ⟨S10000, .i32⟩
  | 102 => ⟨S10000x1, .i32⟩
  | 103 => ⟨S10000, .i32⟩
  | 104 => ⟨S_, .f32⟩
  | 105 => ⟨S128, .f32⟩
  | 106 => ⟨S10000x1, .i32⟩
  | 107 => ⟨S128, .f32⟩
  | 108 => ⟨S_, .f32⟩
  | 109 => ⟨S128, .f32⟩
  | 110 => ⟨S128, .f32⟩
  | 111 => ⟨S128, .f32⟩
  | 112 => ⟨S128, .i32⟩
  | 113 => ⟨S_, .i32⟩
  | 114 => ⟨S10000, .i32⟩
  | 115 => ⟨S10000, .i1⟩
  | 116 => ⟨S_, .i32⟩
  | 117 => ⟨S10000, .i32⟩
  | 118 => ⟨S10000, .i32⟩
  | 119 => ⟨S10000, .i32⟩
  | 120 => ⟨S10000x1, .i32⟩
  | 121 => ⟨S10000, .i32⟩
  | 122 => ⟨S10000, .i1⟩
  | 123 => ⟨S_, .f32⟩
  | 124 => ⟨S10000, .f32⟩
  | 125 => ⟨S10000, .i1⟩
  | 126 => ⟨S10000, .i1⟩
  | 127 => ⟨S10000, .f32⟩
  | _ => ⟨S10000x128, .f32⟩

abbrev hbmTy0_2 (i : Nat) : BufTy := match i % 128 with
  | 0 => ⟨S10000, .f32⟩
  | 1 => ⟨S10000x1, .f32⟩
  | 2 => ⟨S10000x128, .f32⟩
  | 3 => ⟨S10000x128, .f32⟩
  | 4 => ⟨S10000x1, .f32⟩
  | 5 => ⟨S10000x128, .f32⟩
  | 6 => ⟨S10000x128, .f32⟩
  | 7 => ⟨S_, .i32⟩
  | 8 => ⟨S320000, .i32⟩
  | 9 => ⟨S320000, .i1⟩
  | 10 => ⟨S_, .i32⟩
  | 11 => ⟨S320000, .i32⟩
  | 12 => ⟨S320000, .i32⟩
  | 13 => ⟨S320000, .i32⟩
  | 14 => ⟨S320000x1, .i32⟩
  | 15 => ⟨S320000, .f32⟩
  | 16 => ⟨S_, .i32⟩
  | 17 => ⟨S320000, .i32⟩
  | 18 => ⟨S320000, .i1⟩
  | 19 => ⟨S_, .i32⟩
  | 20 => ⟨S320000, .i32⟩
  | 21 => ⟨S320000, .i32⟩
  | 22 => ⟨S320000, .i32⟩
  | 23 => ⟨S320000x1, .i32⟩
  | 24 => ⟨S320000, .f32⟩
  | 25 => ⟨S320000, .f32⟩
  | 26 => ⟨S10000x1, .i32⟩
  | 27 => ⟨S128, .i32⟩
  | 28 => ⟨S1x128, .i32⟩
  | 29 => ⟨S10000x128, .i32⟩
  | 30 => ⟨S10000x128, .i32⟩
  | 31 => ⟨S10000x128, .i1⟩
  | 32 => ⟨S10000x1, .f32⟩
  | 33 => ⟨S_, .f32⟩
  | 34 => ⟨S10000x1, .f32⟩
  | 35 => ⟨S10000x1, .i1⟩
  | 36 => ⟨S_, .f32⟩
  | 37 => ⟨S_, .f32⟩
  | 38 => ⟨S10000x128, .i1⟩
  | 39 => ⟨S10000x128, .f32⟩
  | 40 => ⟨S10000x128, .f32⟩
  | 41 => ⟨S10000x128x1, .i1⟩
  | 42 => ⟨S10000x1x128, .f32⟩
  | 43 => ⟨S_, .f32⟩
  | 44 => ⟨S_, .f32⟩
  | 45 => ⟨S10000x128x128, .i1⟩
  | 46 => ⟨S10000x128x128, .f32⟩
  | 47 => ⟨S10000x128x128, .f32⟩
  | 48 => ⟨S10000x128x128, .f32⟩
  | 49 => ⟨S_, .f32⟩
  | 50 => ⟨S128x128, .f32⟩
  | 51 => ⟨S_, .f32⟩
  | 52 => ⟨S128x128, .f32⟩
  | 53 => ⟨S128x128, .i1⟩
  | 54 => ⟨S_, .f32⟩
  | 55 => ⟨S_, .f32⟩
  | 56 => ⟨S128x128, .f32⟩
  | 57 => ⟨S128x128, .f32⟩
  | 58 => ⟨S_, .f32⟩
  | 59 => ⟨S128, .f32⟩
  | 60 => ⟨S10000x1, .i32⟩
  | 61 => ⟨S128, .f32⟩
  | 62 => ⟨S_, .f32⟩
  | 63 => ⟨S128, .f32⟩
  | 64 => ⟨S128, .f32⟩
  | 65 => ⟨S10000x1, .f32⟩
  | 66 => ⟨S10000x128, .f32⟩
  | 67 => ⟨S10000x128, .f32⟩
  | 68 => ⟨S_, .f32⟩
  | 69 => ⟨S128x128, .f32⟩
  | 70 => ⟨S10000x1, .i32⟩
  | 71 => ⟨S128x128, .f32⟩
  | 72 => ⟨S128x1, .f32⟩
  | 73 => ⟨S128x128, .f32⟩
  | 74 => ⟨S128x128, .f32⟩
  | 75 => ⟨S128x256, .f32⟩
  | 76 => ⟨S10000x128, .f32⟩
  | 77 => ⟨S_, .f32⟩
  | 78 => ⟨S10000, .f32⟩
  | 79 => ⟨S320000x1, .i32⟩
  | 80 => ⟨S10000, .f32⟩
  | 81 => ⟨S10000, .f32⟩
  | 82 => ⟨S_, .f32⟩
  | 83 => ⟨S10000, .f32⟩
  | 84 => ⟨S10000, .i1⟩
  | 85 => ⟨S_, .f32⟩
  | 86 => ⟨S_, .f32⟩
  | 87 => ⟨S10000, .f32⟩
  | 88 => ⟨S10000, .f32⟩
  | 89 => ⟨S10000, .f32⟩
  | 90 => ⟨S_, .f32⟩
  | 91 => ⟨S10000, .f32⟩
  | 92 => ⟨S10000, .f32⟩
  | 93 => ⟨S_, .i32⟩
  | 94 => ⟨S320000, .i32⟩
  | 95 => ⟨S320000, .i1⟩
  | 96 => ⟨S_, .i32⟩
  | 97 => ⟨S320000, .i32⟩
  | 98 => ⟨S320000, .i32⟩
  | 99 => ⟨S320000, .i32⟩
  | 100 => ⟨S320000x1, .i32⟩
  | 101 => ⟨S320000, .f32⟩
  | 102 => ⟨S320000, .f32⟩
  | 103 => ⟨S_, .i32⟩
  | 104 => ⟨S320000, .i32⟩
  | 105 => ⟨S320000, .i1⟩
  | 106 => ⟨S_, .i32⟩
  | 107 => ⟨S320000, .i32⟩
  | 108 => ⟨S320000, .i32⟩
  | 109 => ⟨S320000, .i32⟩
  | 110 => ⟨S320000x1, .i32⟩
  | 111 => ⟨S320000, .f32⟩
  | 112 => ⟨S320000, .f32⟩
  | 113 => ⟨S_, .i32⟩
  | 114 => ⟨S320000, .i32⟩
  | 115 => ⟨S320000, .i1⟩
  | 116 => ⟨S_, .i32⟩
  | 117 => ⟨S320000, .i32⟩
  | 118 => ⟨S320000, .i32⟩
  | 119 => ⟨S320000, .i32⟩
  | 120 => ⟨S320000x1, .i32⟩
  | 121 => ⟨S320000x128, .f32⟩
  | 122 => ⟨S320000x1, .f32⟩
  | 123 => ⟨S320000x128, .f32⟩
  | 124 => ⟨S320000x128, .f32⟩
  | 125 => ⟨S_, .f32⟩
  | 126 => ⟨S10000x128, .f32⟩
  | 127 => ⟨S320000x1, .i32⟩
  | _ => ⟨S10000x128, .f32⟩

abbrev hbmTy0_3 (i : Nat) : BufTy := match i % 128 with
  | 0 => ⟨S10000x128, .f32⟩
  | 1 => ⟨S10000, .f32⟩
  | 2 => ⟨S10000x1, .f32⟩
  | 3 => ⟨S10000x128, .f32⟩
  | 4 => ⟨S10000x128, .f32⟩
  | 5 => ⟨S10000x128, .f32⟩
  | 6 => ⟨S1x128, .f32⟩
  | 7 => ⟨S10000x128, .f32⟩
  | 8 => ⟨S10000x128, .f32⟩
  | 9 => ⟨S10000x1, .f32⟩
  | 10 => ⟨S10000x128, .f32⟩
  | 11 => ⟨S10000x128, .f32⟩
  | 12 => ⟨S_, .f32⟩
  | 13 => ⟨S10000x128, .f32⟩
  | 14 => ⟨S10000x128, .f32⟩
  | 15 => ⟨S10000x1, .f32⟩
  | 16 => ⟨S_, .f32⟩
  | 17 => ⟨S10000, .f32⟩
  | 18 => ⟨S320000x1, .i32⟩
  | 19 => ⟨S10000, .f32⟩
  | 20 => ⟨S10000, .f32⟩
  | 21 => ⟨S_, .f32⟩
  | 22 => ⟨S10000, .f32⟩
  | 23 => ⟨S10000, .i1⟩
  | 24 => ⟨S_, .f32⟩
  | 25 => ⟨S_, .f32⟩
  | 26 => ⟨S10000, .f32⟩
  | 27 => ⟨S10000, .f32⟩
  | 28 => ⟨S10000, .f32⟩
  | 29 => ⟨S_, .f32⟩
  | 30 => ⟨S10000, .f32⟩
  | 31 => ⟨S10000, .f32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000, .f32⟩
  | 41 => ⟨S320000, .f32⟩
  | 42 => ⟨S_, .i32⟩
  | 43 => ⟨S320000, .i32⟩
  | 44 => ⟨S320000, .i1⟩
  | 45 => ⟨S_, .i32⟩
  | 46 => ⟨S320000, .i32⟩
  | 47 => ⟨S320000, .i32⟩
  | 48 => ⟨S320000, .i32⟩
  | 49 => ⟨S320000x1, .i32⟩
  | 50 => ⟨S320000, .f32⟩
  | 51 => ⟨S320000, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S320000x1, .i32⟩
  | 60 => ⟨S320000x1, .f32⟩
  | 61 => ⟨S320000x1, .f32⟩
  | 62 => ⟨S320000x1, .f32⟩
  | 63 => ⟨S_, .f32⟩
  | 64 => ⟨S10000x1, .f32⟩
  | 65 => ⟨S320000x1, .i32⟩
  | 66 => ⟨S10000x1, .f32⟩
  | 67 => ⟨S10000, .f32⟩
  | 68 => ⟨S10000x1, .f32⟩
  | 69 => ⟨S10000x1, .f32⟩
  | 70 => ⟨S10000x1, .f32⟩
  | 71 => ⟨S1x1, .f32⟩
  | 72 => ⟨S10000x1, .f32⟩
  | 73 => ⟨S10000x1, .f32⟩
  | 74 => ⟨S10000x1, .f32⟩
  | 75 => ⟨S10000x1, .f32⟩
  | 76 => ⟨S10000, .f32⟩
  | 77 => ⟨S_, .f32⟩
  | 78 => ⟨S10000, .f32⟩
  | 79 => ⟨S10000, .i1⟩
  | 80 => ⟨S_, .f32⟩
  | 81 => ⟨S_, .f32⟩
  | 82 => ⟨S10000, .f32⟩
  | 83 => ⟨S10000, .f32⟩
  | 84 => ⟨S10000, .f32⟩
  | 85 => ⟨S10000, .i32⟩
  | 86 => ⟨S10000, .f32⟩
  | 87 => ⟨S10000, .i32⟩
  | 88 => ⟨S_, .i32⟩
  | 89 => ⟨S10000, .i32⟩
  | 90 => ⟨S10000, .i1⟩
  | 91 => ⟨S_, .i32⟩
  | 92 => ⟨S10000, .i32⟩
  | 93 => ⟨S10000, .i32⟩
  | 94 => ⟨S10000, .i32⟩
  | 95 => ⟨S10000x1, .i32⟩
  | 96 => ⟨S10000, .i32⟩
  | 97 => ⟨S10000, .i32⟩
  | 98 => ⟨S10000, .i32⟩
  | 99 => ⟨S10000, .i32⟩
  | 100 => ⟨S_, .i32⟩
  | 101 => ⟨S10000, .i32⟩
  | 102 => ⟨S10000, .i1⟩
  | 103 => ⟨S_, .i32⟩
  | 104 => ⟨S10000, .i32⟩
  | 105 => ⟨S10000, .i32⟩
  | 106 => ⟨S10000, .i32⟩
  | 107 => ⟨S10000x1, .i32⟩
  | 108 => ⟨S10000, .i32⟩
  | 109 => ⟨S10000, .i32⟩
  | 110 => ⟨S_, .i32⟩
  | 111 => ⟨S10000, .i32⟩
  | 112 => ⟨S_, .i32⟩
  | 113 => ⟨S10000, .i32⟩
  | 114 => ⟨S10000, .i1⟩
  | 115 => ⟨S_, .i32⟩
  | 116 => ⟨S10000, .i32⟩
  | 117 => ⟨S10000, .i32⟩
  | 118 => ⟨S10000, .i32⟩
  | 119 => ⟨S10000x1, .i32⟩
  | 120 => ⟨S10000, .i32⟩
  | 121 => ⟨S_, .i32⟩
  | 122 => ⟨S10000, .i32⟩
  | 123 => ⟨S10000, .i1⟩
  | 124 => ⟨S_, .i32⟩
  | 125 => ⟨S10000, .i32⟩
  | 126 => ⟨S10000, .i32⟩
  | 127 => ⟨S10000, .i32⟩
  | _ => ⟨S10000x128, .f32⟩

abbrev hbmTy0_4 (i : Nat) : BufTy := match i % 128 with
  | 0 => ⟨S10000x1, .i32⟩
  | 1 => ⟨S10000, .i32⟩
  | 2 => ⟨S10000, .i32⟩
  | 3 => ⟨S_, .i32⟩
  | 4 => ⟨S10000, .i32⟩
  | 5 => ⟨S10000, .i1⟩
  | 6 => ⟨S_, .i32⟩
  | 7 => ⟨S10000, .i32⟩
  | 8 => ⟨S10000, .i32⟩
  | 9 => ⟨S10000, .i32⟩
  | 10 => ⟨S10000x1, .i32⟩
  | 11 => ⟨S10000, .i32⟩
  | 12 => ⟨S_, .f32⟩
  | 13 => ⟨S128, .f32⟩
  | 14 => ⟨S10000x1, .i32⟩
  | 15 => ⟨S128, .f32⟩
  | 16 => ⟨S_, .f32⟩
  | 17 => ⟨S128, .f32⟩
  | 18 => ⟨S128, .f32⟩
  | 19 => ⟨S128, .f32⟩
  | 20 => ⟨S128, .i32⟩
  | 21 => ⟨S_, .i32⟩
  | 22 => ⟨S10000, .i32⟩
  | 23 => ⟨S10000, .i1⟩
  | 24 => ⟨S_, .i32⟩
  | 25 => ⟨S10000, .i32⟩
  | 26 => ⟨S10000, .i32⟩
  | 27 => ⟨S10000, .i32⟩
  | 28 => ⟨S10000x1, .i32⟩
  | 29 => ⟨S10000, .i32⟩
  | 30 => ⟨S10000, .i1⟩
  | 31 => ⟨S_, .f32⟩
  | 32 => ⟨S10000, .f32⟩
  | 33 => ⟨S10000, .i1⟩
  | 34 => ⟨S10000, .i1⟩
  | 35 => ⟨S10000, .f32⟩
  | 36 => ⟨S10000, .f32⟩
  | 37 => ⟨S10000x1, .f32⟩
  | 38 => ⟨S10000x128, .f32⟩
  | 39 => ⟨S10000x128, .f32⟩
  | 40 => ⟨S10000x1, .f32⟩
  | 41 => ⟨S10000x128, .f32⟩
  | 42 => ⟨S10000x128, .f32⟩
  | 43 => ⟨S_, .i32⟩
  | 44 => ⟨S320000, .i32⟩
  | 45 => ⟨S320000, .i1⟩
  | 46 => ⟨S_, .i32⟩
  | 47 => ⟨S320000, .i32⟩
  | 48 => ⟨S320000, .i32⟩
  | 49 => ⟨S320000, .i32⟩
  | 50 => ⟨S320000x1, .i32⟩
  | 51 => ⟨S320000, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S320000x1, .i32⟩
  | 60 => ⟨S320000, .f32⟩
  | 61 => ⟨S320000, .f32⟩
  | 62 => ⟨S10000x1, .i32⟩
  | 63 => ⟨S128, .i32⟩
  | 64 => ⟨S1x128, .i32⟩
  | 65 => ⟨S10000x128, .i32⟩
  | 66 => ⟨S10000x128, .i32⟩
  | 67 => ⟨S10000x128, .i1⟩
  | 68 => ⟨S10000x1, .f32⟩
  | 69 => ⟨S_, .f32⟩
  | 70 => ⟨S10000x1, .f32⟩
  | 71 => ⟨S10000x1, .i1⟩
  | 72 => ⟨S_, .f32⟩
  | 73 => ⟨S_, .f32⟩
  | 74 => ⟨S10000x128, .i1⟩
  | 75 => ⟨S10000x128, .f32⟩
  | 76 => ⟨S10000x128, .f32⟩
  | 77 => ⟨S10000x128x1, .i1⟩
  | 78 => ⟨S10000x1x128, .f32⟩
  | 79 => ⟨S_, .f32⟩
  | 80 => ⟨S_, .f32⟩
  | 81 => ⟨S10000x128x128, .i1⟩
  | 82 => ⟨S10000x128x128, .f32⟩
  | 83 => ⟨S10000x128x128, .f32⟩
  | 84 => ⟨S10000x128x128, .f32⟩
  | 85 => ⟨S_, .f32⟩
  | 86 => ⟨S128x128, .f32⟩
  | 87 => ⟨S_, .f32⟩
  | 88 => ⟨S128x128, .f32⟩
  | 89 => ⟨S128x128, .i1⟩
  | 90 => ⟨S_, .f32⟩
  | 91 => ⟨S_, .f32⟩
  | 92 => ⟨S128x128, .f32⟩
  | 93 => ⟨S128x128, .f32⟩
  | 94 => ⟨S_, .f32⟩
  | 95 => ⟨S128, .f32⟩
  | 96 => ⟨S10000x1, .i32⟩
  | 97 => ⟨S128, .f32⟩
  | 98 => ⟨S_, .f32⟩
  | 99 => ⟨S128, .f32⟩
  | 100 => ⟨S128, .f32⟩
  | 101 => ⟨S10000x1, .f32⟩
  | 102 => ⟨S10000x128, .f32⟩
  | 103 => ⟨S10000x128, .f32⟩
  | 104 => ⟨S_, .f32⟩
  | 105 => ⟨S128x128, .f32⟩
  | 106 => ⟨S10000x1, .i32⟩
  | 107 => ⟨S128x128, .f32⟩
  | 108 => ⟨S128x1, .f32⟩
  | 109 => ⟨S128x128, .f32⟩
  | 110 => ⟨S128x128, .f32⟩
  | 111 => ⟨S128x256, .f32⟩
  | 112 => ⟨S10000x128, .f32⟩
  | 113 => ⟨S_, .f32⟩
  | 114 => ⟨S10000, .f32⟩
  | 115 => ⟨S320000x1, .i32⟩
  | 116 => ⟨S10000, .f32⟩
  | 117 => ⟨S10000, .f32⟩
  | 118 => ⟨S_, .f32⟩
  | 119 => ⟨S10000, .f32⟩
  | 120 => ⟨S10000, .i1⟩
  | 121 => ⟨S_, .f32⟩
  | 122 => ⟨S_, .f32⟩
  | 123 => ⟨S10000, .f32⟩
  | 124 => ⟨S10000, .f32⟩
  | 125 => ⟨S10000, .f32⟩
  | 126 => ⟨S_, .f32⟩
  | 127 => ⟨S10000, .f32⟩
  | _ => ⟨S10000x128, .f32⟩

abbrev hbmTy0_5 (i : Nat) : BufTy := match i % 128 with
  | 0 => ⟨S10000, .f32⟩
  | 1 => ⟨S_, .i32⟩
  | 2 => ⟨S320000, .i32⟩
  | 3 => ⟨S320000, .i1⟩
  | 4 => ⟨S_, .i32⟩
  | 5 => ⟨S320000, .i32⟩
  | 6 => ⟨S320000, .i32⟩
  | 7 => ⟨S320000, .i32⟩
  | 8 => ⟨S320000x1, .i32⟩
  | 9 => ⟨S320000, .f32⟩
  | 10 => ⟨S320000, .f32⟩
  | 11 => ⟨S_, .i32⟩
  | 12 => ⟨S320000, .i32⟩
  | 13 => ⟨S320000, .i1⟩
  | 14 => ⟨S_, .i32⟩
  | 15 => ⟨S320000, .i32⟩
  | 16 => ⟨S320000, .i32⟩
  | 17 => ⟨S320000, .i32⟩
  | 18 => ⟨S320000x1, .i32⟩
  | 19 => ⟨S320000, .f32⟩
  | 20 => ⟨S320000, .f32⟩
  | 21 => ⟨S_, .i32⟩
  | 22 => ⟨S320000, .i32⟩
  | 23 => ⟨S320000, .i1⟩
  | 24 => ⟨S_, .i32⟩
  | 25 => ⟨S320000, .i32⟩
  | 26 => ⟨S320000, .i32⟩
  | 27 => ⟨S320000, .i32⟩
  | 28 => ⟨S320000x1, .i32⟩
  | 29 => ⟨S320000x128, .f32⟩
  | 30 => ⟨S320000x1, .f32⟩
  | 31 => ⟨S320000x128, .f32⟩
  | 32 => ⟨S320000x128, .f32⟩
  | 33 => ⟨S_, .f32⟩
  | 34 => ⟨S10000x128, .f32⟩
  | 35 => ⟨S320000x1, .i32⟩
  | 36 => ⟨S10000x128, .f32⟩
  | 37 => ⟨S10000, .f32⟩
  | 38 => ⟨S10000x1, .f32⟩
  | 39 => ⟨S10000x128, .f32⟩
  | 40 => ⟨S10000x128, .f32⟩
  | 41 => ⟨S10000x128, .f32⟩
  | 42 => ⟨S1x128, .f32⟩
  | 43 => ⟨S10000x128, .f32⟩
  | 44 => ⟨S10000x128, .f32⟩
  | 45 => ⟨S10000x1, .f32⟩
  | 46 => ⟨S10000x128, .f32⟩
  | 47 => ⟨S10000x128, .f32⟩
  | 48 => ⟨S_, .f32⟩
  | 49 => ⟨S10000x128, .f32⟩
  | 50 => ⟨S10000x128, .f32⟩
  | 51 => ⟨S10000x1, .f32⟩
  | 52 => ⟨S_, .f32⟩
  | 53 => ⟨S10000, .f32⟩
  | 54 => ⟨S320000x1, .i32⟩
  | 55 => ⟨S10000, .f32⟩
  | 56 => ⟨S10000, .f32⟩
  | 57 => ⟨S_, .f32⟩
  | 58 => ⟨S10000, .f32⟩
  | 59 => ⟨S10000, .i1⟩
  | 60 => ⟨S_, .f32⟩
  | 61 => ⟨S_, .f32⟩
  | 62 => ⟨S10000, .f32⟩
  | 63 => ⟨S10000, .f32⟩
  | 64 => ⟨S10000, .f32⟩
  | 65 => ⟨S_, .f32⟩
  | 66 => ⟨S10000, .f32⟩
  | 67 => ⟨S10000, .f32⟩
  | 68 => ⟨S_, .i32⟩
  | 69 => ⟨S320000, .i32⟩
  | 70 => ⟨S320000, .i1⟩
  | 71 => ⟨S_, .i32⟩
  | 72 => ⟨S320000, .i32⟩
  | 73 => ⟨S320000, .i32⟩
  | 74 => ⟨S320000, .i32⟩
  | 75 => ⟨S320000x1, .i32⟩
  | 76 => ⟨S320000, .f32⟩
  | 77 => ⟨S320000, .f32⟩
  | 78 => ⟨S_, .i32⟩
  | 79 => ⟨S320000, .i32⟩
  | 80 => ⟨S320000, .i1⟩
  | 81 => ⟨S_, .i32⟩
  | 82 => ⟨S320000, .i32⟩
  | 83 => ⟨S320000, .i32⟩
  | 84 => ⟨S320000, .i32⟩
  | 85 => ⟨S320000x1, .i32⟩
  | 86 => ⟨S320000, .f32⟩
  | 87 => ⟨S320000, .f32⟩
  | 88 => ⟨S_, .i32⟩
  | 89 => ⟨S320000, .i32⟩
  | 90 => ⟨S320000, .i1⟩
  | 91 => ⟨S_, .i32⟩
  | 92 => ⟨S320000, .i32⟩
  | 93 => ⟨S320000, .i32⟩
  | 94 => ⟨S320000, .i32⟩
  | 95 => ⟨S320000x1, .i32⟩
  | 96 => ⟨S320000x1, .f32⟩
  | 97 => ⟨S320000x1, .f32⟩
  | 98 => ⟨S320000x1, .f32⟩
  | 99 => ⟨S_, .f32⟩
  | 100 => ⟨S10000x1, .f32⟩
  | 101 => ⟨S320000x1, .i32⟩
  | 102 => ⟨S10000x1, .f32⟩
  | 103 => ⟨S10000, .f32⟩
  | 104 => ⟨S10000x1, .f32⟩
  | 105 => ⟨S10000x1, .f32⟩
  | 106 => ⟨S10000x1, .f32⟩
  | 107 => ⟨S1x1, .f32⟩
  | 108 => ⟨S10000x1, .f32⟩
  | 109 => ⟨S10000x1, .f32⟩
  | 110 => ⟨S10000x1, .f32⟩
  | 111 => ⟨S10000x1, .f32⟩
  | 112 => ⟨S10000, .f32⟩
  | 113 => ⟨S_, .f32⟩
  | 114 => ⟨S10000, .f32⟩
  | 115 => ⟨S10000, .i1⟩
  | 116 => ⟨S_, .f32⟩
  | 117 => ⟨S_, .f32⟩
  | 118 => ⟨S10000, .f32⟩
  | 119 => ⟨S10000, .f32⟩
  | 120 => ⟨S10000, .f32⟩
  | 121 => ⟨S10000, .i32⟩
  | 122 => ⟨S10000, .f32⟩
  | 123 => ⟨S10000, .i32⟩
  | 124 => ⟨S_, .i32⟩
  | 125 => ⟨S10000, .i32⟩
  | 126 => ⟨S10000, .i1⟩
  | 127 => ⟨S_, .i32⟩
  | _ => ⟨S10000x128, .f32⟩

abbrev hbmTy0_6 (i : Nat) : BufTy := match i % 128 with
  | 0 => ⟨S10000, .i32⟩
  | 1 => ⟨S10000, .i32⟩
  | 2 => ⟨S10000, .i32⟩
  | 3 => ⟨S10000x1, .i32⟩
  | 4 => ⟨S10000, .i32⟩
  | 5 => ⟨S10000, .i32⟩
  | 6 => ⟨S10000, .i32⟩
  | 7 => ⟨S10000, .i32⟩
  | 8 => ⟨S_, .i32⟩
  | 9 => ⟨S10000, .i32⟩
  | 10 => ⟨S10000, .i1⟩
  | 11 => ⟨S_, .i32⟩
  | 12 => ⟨S10000, .i32⟩
  | 13 => ⟨S10000, .i32⟩
  | 14 => ⟨S10000, .i32⟩
  | 15 => ⟨S10000x1, .i32⟩
  | 16 => ⟨S10000, .i32⟩
  | 17 => ⟨S10000, .i32⟩
  | 18 => ⟨S_, .i32⟩
  | 19 => ⟨S10000, .i32⟩
  | 20 => ⟨S_, .i32⟩
  | 21 => ⟨S10000, .i32⟩
  | 22 => ⟨S10000, .i1⟩
  | 23 => ⟨S_, .i32⟩
  | 24 => ⟨S10000, .i32⟩
  | 25 => ⟨S10000, .i32⟩
  | 26 => ⟨S10000, .i32⟩
  | 27 => ⟨S10000x1, .i32⟩
  | 28 => ⟨S10000, .i32⟩
  | 29 => ⟨S_, .i32⟩
  | 30 => ⟨S10000, .i32⟩
  | 31 => ⟨S10000, .i1⟩
  | 32 => ⟨S_, .i32⟩
  | 33 => ⟨S10000, .i32⟩
  | 34 => ⟨S10000, .i32⟩
  | 35 => ⟨S10000, .i32⟩
  | 36 => ⟨S10000x1, .i32⟩
  | 37 => ⟨S10000, .i32⟩
  | 38 => ⟨S10000, .i32⟩
  | 39 => ⟨S_, .i32⟩
  | 40 => ⟨S10000, .i32⟩
  | 41 => ⟨S10000, .i1⟩
  | 42 => ⟨S_, .i32⟩
  | 43 => ⟨S10000, .i32⟩
  | 44 => ⟨S10000, .i32⟩
  | 45 => ⟨S10000, .i32⟩
  | 46 => ⟨S10000x1, .i32⟩
  | 47 => ⟨S10000, .i32⟩
  | 48 => ⟨S_, .f32⟩
  | 49 => ⟨S128, .f32⟩
  | 50 => ⟨S10000x1, .i32⟩
  | 51 => ⟨S128, .f32⟩
  | 52 => ⟨S_, .f32⟩
  | 53 => ⟨S128, .f32⟩
  | 54 => ⟨S128, .f32⟩
  | 55 => ⟨S128, .f32⟩
  | 56 => ⟨S128, .i32⟩
  | 57 => ⟨S_, .i32⟩
  | 58 => ⟨S10000, .i32⟩
  | 59 => ⟨S10000, .i1⟩
  | 60 => ⟨S_, .i32⟩
  | 61 => ⟨S10000, .i32⟩
  | 62 => ⟨S10000, .i32⟩
  | 63 => ⟨S10000, .i32⟩
  | 64 => ⟨S10000x1, .i32⟩
  | 65 => ⟨S10000, .i32⟩
  | 66 => ⟨S10000, .i1⟩
  | 67 => ⟨S_, .f32⟩
  | 68 => ⟨S10000, .f32⟩
  | 69 => ⟨S10000, .i1⟩
  | 70 => ⟨S10000, .i1⟩
  | 71 => ⟨S10000, .f32⟩
  | 72 => ⟨S10000, .f32⟩
  | 73 => ⟨S10000x1, .f32⟩
  | 74 => ⟨S10000x128, .f32⟩
  | 75 => ⟨S10000x128, .f32⟩
  | 76 => ⟨S10000x1, .f32⟩
  | 77 => ⟨S10000x128, .f32⟩
  | 78 => ⟨S10000x128, .f32⟩
  | 79 => ⟨S_, .i32⟩
  | 80 => ⟨S320000, .i32⟩
  | 81 => ⟨S320000, .i1⟩
  | 82 => ⟨S_, .i32⟩
  | 83 => ⟨S320000, .i32⟩
  | 84 => ⟨S320000, .i32⟩
  | 85 => ⟨S320000, .i32⟩
  | 86 => ⟨S320000x1, .i32⟩
  | 87 => ⟨S320000, .f32⟩
  | 88 => ⟨S_, .i32⟩
  | 89 => ⟨S320000, .i32⟩
  | 90 => ⟨S320000, .i1⟩
  | 91 => ⟨S_, .i32⟩
  | 92 => ⟨S320000, .i32⟩
  | 93 => ⟨S320000, .i32⟩
  | 94 => ⟨S320000, .i32⟩
  | 95 => ⟨S320000x1, .i32⟩
  | 96 => ⟨S320000, .f32⟩
  | 97 => ⟨S320000, .f32⟩
  | 98 => ⟨S10000x1, .i32⟩
  | 99 => ⟨S128, .i32⟩
  | 100 => ⟨S1x128, .i32⟩
  | 101 => ⟨S10000x128, .i32⟩
  | 102 => ⟨S10000x128, .i32⟩
  | 103 => ⟨S10000x128, .i1⟩
  | 104 => ⟨S10000x1, .f32⟩
  | 105 => ⟨S_, .f32⟩
  | 106 => ⟨S10000x1, .f32⟩
  | 107 => ⟨S10000x1, .i1⟩
  | 108 => ⟨S_, .f32⟩
  | 109 => ⟨S_, .f32⟩
  | 110 => ⟨S10000x128, .i1⟩
  | 111 => ⟨S10000x128, .f32⟩
  | 112 => ⟨S10000x128, .f32⟩
  | 113 => ⟨S10000x128x1, .i1⟩
  | 114 => ⟨S10000x1x128, .f32⟩
  | 115 => ⟨S_, .f32⟩
  | 116 => ⟨S_, .f32⟩
  | 117 => ⟨S10000x128x128, .i1⟩
  | 118 => ⟨S10000x128x128, .f32⟩
  | 119 => ⟨S10000x128x128, .f32⟩
  | 120 => ⟨S10000x128x128, .f32⟩
  | 121 => ⟨S_, .f32⟩
  | 122 => ⟨S128x128, .f32⟩
  | 123 => ⟨S_, .f32⟩
  | 124 => ⟨S128x128, .f32⟩
  | 125 => ⟨S128x128, .i1⟩
  | 126 => ⟨S_, .f32⟩
  | 127 => ⟨S_, .f32⟩
  | _ => ⟨S10000x128, .f32⟩

abbrev hbmTy0_7 (i : Nat) : BufTy := match i % 128 with
  | 0 => ⟨S128x128, .f32⟩
  | 1 => ⟨S128x128, .f32⟩
  | 2 => ⟨S_, .f32⟩
  | 3 => ⟨S128, .f32⟩
  | 4 => ⟨S10000x1, .i32⟩
  | 5 => ⟨S128, .f32⟩
  | 6 => ⟨S_, .f32⟩
  | 7 => ⟨S128, .f32⟩
  | 8 => ⟨S128, .f32⟩
  | 9 => ⟨S10000x1, .f32⟩
  | 10 => ⟨S10000x128, .f32⟩
  | 11 => ⟨S10000x128, .f32⟩
  | 12 => ⟨S_, .f32⟩
  | 13 => ⟨S128x128, .f32⟩
  | 14 => ⟨S10000x1, .i32⟩
  | 15 => ⟨S128x128, .f32⟩
  | 16 => ⟨S128x1, .f32⟩
  | 17 => ⟨S128x128, .f32⟩
  | 18 => ⟨S128x128, .f32⟩
  | 19 => ⟨S128x256, .f32⟩
  | 20 => ⟨S128x256, .f32⟩
  | 21 => ⟨S128x256, .f32⟩
  | 22 => ⟨S128x128, .f32⟩
  | 23 => ⟨S1x128, .f32⟩
  | 24 => ⟨S128x128, .f32⟩
  | 25 => ⟨S128x128, .f32⟩
  | 26 => ⟨S_, .f32⟩
  | 27 => ⟨S128x128, .f32⟩
  | 28 => ⟨S128x128, .f32⟩
  | 29 => ⟨S128x64, .f32⟩
  | 30 => ⟨S1x64, .f32⟩
  | 31 => ⟨S128x64, .f32⟩
  | 32 => ⟨S128x64, .f32⟩
  | 33 => ⟨S_, .f32⟩
  | 34 => ⟨S128x64, .f32⟩
  | 35 => ⟨S128x64, .f32⟩
  | 36 => ⟨S128x10, .f32⟩
  | 37 => ⟨S1x10, .f32⟩
  | 38 => ⟨S128x10, .f32⟩
  | 39 => ⟨S128x10, .f32⟩
  | 40 => ⟨S_, .f32⟩
  | 41 => ⟨S128, .f32⟩
  | 42 => ⟨S_, .f32⟩
  | 43 => ⟨S128, .f32⟩
  | 44 => ⟨S128, .f32⟩
  | 45 => ⟨S128x1, .f32⟩
  | 46 => ⟨S128x10, .f32⟩
  | 47 => ⟨S128x10, .f32⟩
  | 48 => ⟨S128x10, .f32⟩
  | 49 => ⟨S_, .f32⟩
  | 50 => ⟨S128, .f32⟩
  | 51 => ⟨S128x1, .f32⟩
  | 52 => ⟨S128x1, .f32⟩
  | 53 => ⟨S128x10, .f32⟩
  | 54 => ⟨S128x10, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_call0_call0_cst : Ref sig .tc := ⟨.hbm, 31, rfl⟩
abbrev main_call0_call0_v0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_cst_2 : Ref sig .tc := ⟨.hbm, 38, rfl⟩
abbrev main_v12 : Ref sig .tc := ⟨.hbm, 39, rfl⟩
abbrev main_v13 : Ref sig .tc := ⟨.hbm, 40, rfl⟩
abbrev main_cst_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_4 : Ref sig .tc := ⟨.hbm, 46, rfl⟩
abbrev main_v18 : Ref sig .tc := ⟨.hbm, 47, rfl⟩
abbrev main_v19 : Ref sig .tc := ⟨.hbm, 48, rfl⟩
abbrev main_cst_5 : Ref sig .tc := ⟨.hbm, 49, rfl⟩
abbrev main_call1_v0 : Ref sig .tc := ⟨.hbm, 50, rfl⟩
abbrev main_call1_v1 : Ref sig .tc := ⟨.hbm, 51, rfl⟩
abbrev main_v20 : Ref sig .tc := ⟨.hbm, 52, rfl⟩
abbrev main_v21 : Ref sig .tc := ⟨.hbm, 53, rfl⟩
abbrev main_cst_6 : Ref sig .tc := ⟨.hbm, 54, rfl⟩
abbrev main_v22 : Ref sig .tc := ⟨.hbm, 55, rfl⟩
abbrev main_v23 : Ref sig .tc := ⟨.hbm, 56, rfl⟩
abbrev main_c : Ref sig .tc := ⟨.hbm, 57, rfl⟩
abbrev main_v24 : Ref sig .tc := ⟨.hbm, 58, rfl⟩
abbrev main_v25 : Ref sig .tc := ⟨.hbm, 59, rfl⟩
abbrev main_c_7 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_c_8 : Ref sig .tc := ⟨.hbm, 67, rfl⟩
abbrev main_v32 : Ref sig .tc := ⟨.hbm, 68, rfl⟩
abbrev main_v33 : Ref sig .tc := ⟨.hbm, 69, rfl⟩
abbrev main_c_9 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_c_10 : Ref sig .tc := ⟨.hbm, 77, rfl⟩
abbrev main_v40 : Ref sig .tc := ⟨.hbm, 78, rfl⟩
abbrev main_v41 : Ref sig .tc := ⟨.hbm, 79, rfl⟩
abbrev main_c_11 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_12 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_call2_cst : Ref sig .tc := ⟨.hbm, 104, rfl⟩
abbrev main_call2_v0 : Ref sig .tc := ⟨.hbm, 105, rfl⟩
abbrev main_v64 : Ref sig .tc := ⟨.hbm, 106, rfl⟩
abbrev main_v65 : Ref sig .tc := ⟨.hbm, 107, rfl⟩
abbrev main_cst_13 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_14 : Ref sig .tc := ⟨.hbm, 113, rfl⟩
abbrev main_v70 : Ref sig .tc := ⟨.hbm, 114, rfl⟩
abbrev main_v71 : Ref sig .tc := ⟨.hbm, 115, rfl⟩
abbrev main_cst_15 : Ref sig .tc := ⟨.hbm, 116, rfl⟩
abbrev main_call3_v0 : Ref sig .tc := ⟨.hbm, 117, rfl⟩
abbrev main_call3_v1 : Ref sig .tc := ⟨.hbm, 118, rfl⟩
abbrev main_v72 : Ref sig .tc := ⟨.hbm, 119, rfl⟩
abbrev main_v73 : Ref sig .tc := ⟨.hbm, 120, rfl⟩
abbrev main_cst_16 : Ref sig .tc := ⟨.hbm, 121, rfl⟩
abbrev main_v74 : Ref sig .tc := ⟨.hbm, 122, rfl⟩
abbrev main_v75 : Ref sig .tc := ⟨.hbm, 123, rfl⟩
abbrev main_c_17 : Ref sig .tc := ⟨.hbm, 124, rfl⟩
abbrev main_v76 : Ref sig .tc := ⟨.hbm, 125, rfl⟩
abbrev main_v77 : Ref sig .tc := ⟨.hbm, 126, rfl⟩
abbrev main_c_18 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_c_19 : Ref sig .tc := ⟨.hbm, 134, rfl⟩
abbrev main_v84 : Ref sig .tc := ⟨.hbm, 135, rfl⟩
abbrev main_v85 : Ref sig .tc := ⟨.hbm, 136, rfl⟩
abbrev main_c_20 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_c_21 : Ref sig .tc := ⟨.hbm, 144, rfl⟩
abbrev main_v92 : Ref sig .tc := ⟨.hbm, 145, rfl⟩
abbrev main_v93 : Ref sig .tc := ⟨.hbm, 146, rfl⟩
abbrev main_c_22 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_cst_23 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_cst_24 : Ref sig .tc := ⟨.hbm, 169, rfl⟩
abbrev main_v114 : Ref sig .tc := ⟨.hbm, 170, rfl⟩
abbrev main_v115 : Ref sig .tc := ⟨.hbm, 171, rfl⟩
abbrev main_cst_25 : Ref sig .tc := ⟨.hbm, 172, rfl⟩
abbrev main_call4_v0 : Ref sig .tc := ⟨.hbm, 173, rfl⟩
abbrev main_call4_v1 : Ref sig .tc := ⟨.hbm, 174, rfl⟩
abbrev main_v116 : Ref sig .tc := ⟨.hbm, 175, rfl⟩
abbrev main_v117 : Ref sig .tc := ⟨.hbm, 176, rfl⟩
abbrev main_call5_v0 : Ref sig .tc := ⟨.hbm, 177, rfl⟩
abbrev main_call5_v1_0 : Ref sig .tc := ⟨.hbm, 178, rfl⟩
abbrev main_v118 : Ref sig .tc := ⟨.hbm, 179, rfl⟩
abbrev main_c_26 : Ref sig .tc := ⟨.hbm, 180, rfl⟩
abbrev main_v119 : Ref sig .tc := ⟨.hbm, 181, rfl⟩
abbrev main_v120 : Ref sig .tc := ⟨.hbm, 182, rfl⟩
abbrev main_c_27 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_call6_v0 : Ref sig .tc := ⟨.hbm, 189, rfl⟩
abbrev main_call6_v1_0 : Ref sig .tc := ⟨.hbm, 190, rfl⟩
abbrev main_v126 : Ref sig .tc := ⟨.hbm, 191, rfl⟩
abbrev main_c_28 : Ref sig .tc := ⟨.hbm, 192, rfl⟩
abbrev main_v127 : Ref sig .tc := ⟨.hbm, 193, rfl⟩
abbrev main_v128 : Ref sig .tc := ⟨.hbm, 194, rfl⟩
abbrev main_c_29 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_c_30 : Ref sig .tc := ⟨.hbm, 202, rfl⟩
abbrev main_v135 : Ref sig .tc := ⟨.hbm, 203, rfl⟩
abbrev main_c_31 : Ref sig .tc := ⟨.hbm, 204, rfl⟩
abbrev main_v136 : Ref sig .tc := ⟨.hbm, 205, rfl⟩
abbrev main_v137 : Ref sig .tc := ⟨.hbm, 206, rfl⟩
abbrev main_c_32 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_c_33 : Ref sig .tc := ⟨.hbm, 213, rfl⟩
abbrev main_v143 : Ref sig .tc := ⟨.hbm, 214, rfl⟩
abbrev main_v144 : Ref sig .tc := ⟨.hbm, 215, rfl⟩
abbrev main_c_34 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_c_35 : Ref sig .tc := ⟨.hbm, 223, rfl⟩
abbrev main_v151 : Ref sig .tc := ⟨.hbm, 224, rfl⟩
abbrev main_v152 : Ref sig .tc := ⟨.hbm, 225, rfl⟩
abbrev main_c_36 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_cst_37 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_cst_38 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_c_39 : Ref sig .tc := ⟨.hbm, 241, rfl⟩
abbrev main_v165 : Ref sig .tc := ⟨.hbm, 242, rfl⟩
abbrev main_v166 : Ref sig .tc := ⟨.hbm, 243, rfl⟩
abbrev main_c_40 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_cst_41 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_c_42 : Ref sig .tc := ⟨.hbm, 263, rfl⟩
abbrev main_v184 : Ref sig .tc := ⟨.hbm, 264, rfl⟩
abbrev main_v185 : Ref sig .tc := ⟨.hbm, 265, rfl⟩
abbrev main_c_43 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_c_44 : Ref sig .tc := ⟨.hbm, 272, rfl⟩
abbrev main_v191 : Ref sig .tc := ⟨.hbm, 273, rfl⟩
abbrev main_v192 : Ref sig .tc := ⟨.hbm, 274, rfl⟩
abbrev main_c_45 : Ref sig .tc := ⟨.hbm, 275, rfl⟩
abbrev main_v193 : Ref sig .tc := ⟨.hbm, 276, rfl⟩
abbrev main_v194 : Ref sig .tc := ⟨.hbm, 277, rfl⟩
abbrev main_v195 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_v200 : Ref sig .tc := ⟨.hbm, 283, rfl⟩
abbrev main_v201 : Ref sig .tc := ⟨.hbm, 284, rfl⟩
abbrev main_v202 : Ref sig .tc := ⟨.hbm, 285, rfl⟩
abbrev main_v203 : Ref sig .tc := ⟨.hbm, 286, rfl⟩
abbrev main_v204 : Ref sig .tc := ⟨.hbm, 287, rfl⟩
abbrev main_v205 : Ref sig .tc := ⟨.hbm, 288, rfl⟩
abbrev main_cst_46 : Ref sig .tc := ⟨.hbm, 289, rfl⟩
abbrev main_v206 : Ref sig .tc := ⟨.hbm, 290, rfl⟩
abbrev main_v207 : Ref sig .tc := ⟨.hbm, 291, rfl⟩
abbrev main_cst_47 : Ref sig .tc := ⟨.hbm, 292, rfl⟩
abbrev main_call7_v0 : Ref sig .tc := ⟨.hbm, 293, rfl⟩
abbrev main_call7_v1 : Ref sig .tc := ⟨.hbm, 294, rfl⟩
abbrev main_call7_v2 : Ref sig .tc := ⟨.hbm, 295, rfl⟩
abbrev main_v208 : Ref sig .tc := ⟨.hbm, 296, rfl⟩
abbrev main_v209 : Ref sig .tc := ⟨.hbm, 297, rfl⟩
abbrev main_v210 : Ref sig .tc := ⟨.hbm, 298, rfl⟩
abbrev main_cst_48 : Ref sig .tc := ⟨.hbm, 299, rfl⟩
abbrev main_call8_v0 : Ref sig .tc := ⟨.hbm, 300, rfl⟩
abbrev main_call8_v1 : Ref sig .tc := ⟨.hbm, 301, rfl⟩
abbrev main_call8_v2 : Ref sig .tc := ⟨.hbm, 302, rfl⟩
abbrev main_call8_v3 : Ref sig .tc := ⟨.hbm, 303, rfl⟩
abbrev main_v211 : Ref sig .tc := ⟨.hbm, 304, rfl⟩
abbrev main_cst_49 : Ref sig .tc := ⟨.hbm, 305, rfl⟩
abbrev main_v212 : Ref sig .tc := ⟨.hbm, 306, rfl⟩
abbrev main_cst_50 : Ref sig .tc := ⟨.hbm, 307, rfl⟩
abbrev main_v213 : Ref sig .tc := ⟨.hbm, 308, rfl⟩
abbrev main_v214 : Ref sig .tc := ⟨.hbm, 309, rfl⟩
abbrev main_cst_51 : Ref sig .tc := ⟨.hbm, 310, rfl⟩
abbrev main_call9_v0 : Ref sig .tc := ⟨.hbm, 311, rfl⟩
abbrev main_call9_v1 : Ref sig .tc := ⟨.hbm, 312, rfl⟩
abbrev main_v215 : Ref sig .tc := ⟨.hbm, 313, rfl⟩
abbrev main_cst_52 : Ref sig .tc := ⟨.hbm, 314, rfl⟩
abbrev main_v216 : Ref sig .tc := ⟨.hbm, 315, rfl⟩
abbrev main_v217 : Ref sig .tc := ⟨.hbm, 316, rfl⟩
abbrev main_v218 : Ref sig .tc := ⟨.hbm, 317, rfl⟩
abbrev main_cst_53 : Ref sig .tc := ⟨.hbm, 318, rfl⟩
abbrev main_v219 : Ref sig .tc := ⟨.hbm, 319, rfl⟩
abbrev main_v220 : Ref sig .tc := ⟨.hbm, 320, rfl⟩
abbrev main_v221 : Ref sig .tc := ⟨.hbm, 321, rfl⟩
abbrev main_v222 : Ref sig .tc := ⟨.hbm, 322, rfl⟩
abbrev main_v223 : Ref sig .tc := ⟨.hbm, 323, rfl⟩
abbrev main_cst_54 : Ref sig .tc := ⟨.hbm, 324, rfl⟩
abbrev main_v224 : Ref sig .tc := ⟨.hbm, 325, rfl⟩
abbrev main_v225 : Ref sig .tc := ⟨.hbm, 326, rfl⟩
abbrev main_v226 : Ref sig .tc := ⟨.hbm, 327, rfl⟩
abbrev main_v227 : Ref sig .tc := ⟨.hbm, 328, rfl⟩
abbrev main_v228 : Ref sig .tc := ⟨.hbm, 329, rfl⟩
abbrev main_v229 : Ref sig .tc := ⟨.hbm, 330, rfl⟩
abbrev main_v230 : Ref sig .tc := ⟨.hbm, 331, rfl⟩
abbrev main_v231 : Ref sig .tc := ⟨.hbm, 332, rfl⟩
abbrev main_cst_55 : Ref sig .tc := ⟨.hbm, 333, rfl⟩
abbrev main_v232 : Ref sig .tc := ⟨.hbm, 334, rfl⟩
abbrev main_v233 : Ref sig .tc := ⟨.hbm, 335, rfl⟩
abbrev main_v234 : Ref sig .tc := ⟨.hbm, 336, rfl⟩
abbrev main_v235 : Ref sig .tc := ⟨.hbm, 337, rfl⟩
abbrev main_cst_56 : Ref sig .tc := ⟨.hbm, 338, rfl⟩
abbrev main_v236 : Ref sig .tc := ⟨.hbm, 339, rfl⟩
abbrev main_v237 : Ref sig .tc := ⟨.hbm, 340, rfl⟩
abbrev main_cst_57 : Ref sig .tc := ⟨.hbm, 341, rfl⟩
abbrev main_call10_v0 : Ref sig .tc := ⟨.hbm, 342, rfl⟩
abbrev main_call10_v1 : Ref sig .tc := ⟨.hbm, 343, rfl⟩
abbrev main_v238 : Ref sig .tc := ⟨.hbm, 344, rfl⟩
abbrev main_v239 : Ref sig .tc := ⟨.hbm, 345, rfl⟩
abbrev main_cst_58 : Ref sig .tc := ⟨.hbm, 346, rfl⟩
abbrev main_v240 : Ref sig .tc := ⟨.hbm, 347, rfl⟩
abbrev main_v241 : Ref sig .tc := ⟨.hbm, 348, rfl⟩
abbrev main_c_59 : Ref sig .tc := ⟨.hbm, 349, rfl⟩
abbrev main_v242 : Ref sig .tc := ⟨.hbm, 350, rfl⟩
abbrev main_v243 : Ref sig .tc := ⟨.hbm, 351, rfl⟩
abbrev main_c_60 : Ref sig .tc := ⟨.hbm, 352, rfl⟩
abbrev main_v244 : Ref sig .tc := ⟨.hbm, 353, rfl⟩
abbrev main_v245 : Ref sig .tc := ⟨.hbm, 354, rfl⟩
abbrev main_v246 : Ref sig .tc := ⟨.hbm, 355, rfl⟩
abbrev main_v247 : Ref sig .tc := ⟨.hbm, 356, rfl⟩
abbrev main_v248 : Ref sig .tc := ⟨.hbm, 357, rfl⟩
abbrev main_v249 : Ref sig .tc := ⟨.hbm, 358, rfl⟩
abbrev main_c_61 : Ref sig .tc := ⟨.hbm, 359, rfl⟩
abbrev main_v250 : Ref sig .tc := ⟨.hbm, 360, rfl⟩
abbrev main_v251 : Ref sig .tc := ⟨.hbm, 361, rfl⟩
abbrev main_c_62 : Ref sig .tc := ⟨.hbm, 362, rfl⟩
abbrev main_v252 : Ref sig .tc := ⟨.hbm, 363, rfl⟩
abbrev main_v253 : Ref sig .tc := ⟨.hbm, 364, rfl⟩
abbrev main_v254 : Ref sig .tc := ⟨.hbm, 365, rfl⟩
abbrev main_v255 : Ref sig .tc := ⟨.hbm, 366, rfl⟩
abbrev main_v256 : Ref sig .tc := ⟨.hbm, 367, rfl⟩
abbrev main_v257 : Ref sig .tc := ⟨.hbm, 368, rfl⟩
abbrev main_c_63 : Ref sig .tc := ⟨.hbm, 369, rfl⟩
abbrev main_v258 : Ref sig .tc := ⟨.hbm, 370, rfl⟩
abbrev main_v259 : Ref sig .tc := ⟨.hbm, 371, rfl⟩
abbrev main_c_64 : Ref sig .tc := ⟨.hbm, 372, rfl⟩
abbrev main_v260 : Ref sig .tc := ⟨.hbm, 373, rfl⟩
abbrev main_v261 : Ref sig .tc := ⟨.hbm, 374, rfl⟩
abbrev main_v262 : Ref sig .tc := ⟨.hbm, 375, rfl⟩
abbrev main_v263 : Ref sig .tc := ⟨.hbm, 376, rfl⟩
abbrev main_v264 : Ref sig .tc := ⟨.hbm, 377, rfl⟩
abbrev main_v265 : Ref sig .tc := ⟨.hbm, 378, rfl⟩
abbrev main_v266 : Ref sig .tc := ⟨.hbm, 379, rfl⟩
abbrev main_v267 : Ref sig .tc := ⟨.hbm, 380, rfl⟩
abbrev main_cst_65 : Ref sig .tc := ⟨.hbm, 381, rfl⟩
abbrev main_v268 : Ref sig .tc := ⟨.hbm, 382, rfl⟩
abbrev main_v269 : Ref sig .tc := ⟨.hbm, 383, rfl⟩
abbrev main_v270 : Ref sig .tc := ⟨.hbm, 384, rfl⟩
abbrev main_v271 : Ref sig .tc := ⟨.hbm, 385, rfl⟩
abbrev main_v272 : Ref sig .tc := ⟨.hbm, 386, rfl⟩
abbrev main_v273 : Ref sig .tc := ⟨.hbm, 387, rfl⟩
abbrev main_v274 : Ref sig .tc := ⟨.hbm, 388, rfl⟩
abbrev main_v275 : Ref sig .tc := ⟨.hbm, 389, rfl⟩
abbrev main_v276 : Ref sig .tc := ⟨.hbm, 390, rfl⟩
abbrev main_v277 : Ref sig .tc := ⟨.hbm, 391, rfl⟩
abbrev main_v278 : Ref sig .tc := ⟨.hbm, 392, rfl⟩
abbrev main_v279 : Ref sig .tc := ⟨.hbm, 393, rfl⟩
abbrev main_v280 : Ref sig .tc := ⟨.hbm, 394, rfl⟩
abbrev main_v281 : Ref sig .tc := ⟨.hbm, 395, rfl⟩
abbrev main_call11_cst : Ref sig .tc := ⟨.hbm, 396, rfl⟩
abbrev main_call11_v0 : Ref sig .tc := ⟨.hbm, 397, rfl⟩
abbrev main_v282 : Ref sig .tc := ⟨.hbm, 398, rfl⟩
abbrev main_v283 : Ref sig .tc := ⟨.hbm, 399, rfl⟩
abbrev main_cst_66 : Ref sig .tc := ⟨.hbm, 400, rfl⟩
abbrev main_v284 : Ref sig .tc := ⟨.hbm, 401, rfl⟩
abbrev main_v285 : Ref sig .tc := ⟨.hbm, 402, rfl⟩
abbrev main_v286 : Ref sig .tc := ⟨.hbm, 403, rfl⟩
abbrev main_v287 : Ref sig .tc := ⟨.hbm, 404, rfl⟩
abbrev main_cst_67 : Ref sig .tc := ⟨.hbm, 405, rfl⟩
abbrev main_v288 : Ref sig .tc := ⟨.hbm, 406, rfl⟩
abbrev main_v289 : Ref sig .tc := ⟨.hbm, 407, rfl⟩
abbrev main_cst_68 : Ref sig .tc := ⟨.hbm, 408, rfl⟩
abbrev main_call12_v0 : Ref sig .tc := ⟨.hbm, 409, rfl⟩
abbrev main_call12_v1 : Ref sig .tc := ⟨.hbm, 410, rfl⟩
abbrev main_v290 : Ref sig .tc := ⟨.hbm, 411, rfl⟩
abbrev main_v291 : Ref sig .tc := ⟨.hbm, 412, rfl⟩
abbrev main_cst_69 : Ref sig .tc := ⟨.hbm, 413, rfl⟩
abbrev main_v292 : Ref sig .tc := ⟨.hbm, 414, rfl⟩
abbrev main_v293 : Ref sig .tc := ⟨.hbm, 415, rfl⟩
abbrev main_c_70 : Ref sig .tc := ⟨.hbm, 416, rfl⟩
abbrev main_v294 : Ref sig .tc := ⟨.hbm, 417, rfl⟩
abbrev main_v295 : Ref sig .tc := ⟨.hbm, 418, rfl⟩
abbrev main_c_71 : Ref sig .tc := ⟨.hbm, 419, rfl⟩
abbrev main_v296 : Ref sig .tc := ⟨.hbm, 420, rfl⟩
abbrev main_v297 : Ref sig .tc := ⟨.hbm, 421, rfl⟩
abbrev main_v298 : Ref sig .tc := ⟨.hbm, 422, rfl⟩
abbrev main_v299 : Ref sig .tc := ⟨.hbm, 423, rfl⟩
abbrev main_v300 : Ref sig .tc := ⟨.hbm, 424, rfl⟩
abbrev main_v301 : Ref sig .tc := ⟨.hbm, 425, rfl⟩
abbrev main_c_72 : Ref sig .tc := ⟨.hbm, 426, rfl⟩
abbrev main_v302 : Ref sig .tc := ⟨.hbm, 427, rfl⟩
abbrev main_v303 : Ref sig .tc := ⟨.hbm, 428, rfl⟩
abbrev main_c_73 : Ref sig .tc := ⟨.hbm, 429, rfl⟩
abbrev main_v304 : Ref sig .tc := ⟨.hbm, 430, rfl⟩
abbrev main_v305 : Ref sig .tc := ⟨.hbm, 431, rfl⟩
abbrev main_v306 : Ref sig .tc := ⟨.hbm, 432, rfl⟩
abbrev main_v307 : Ref sig .tc := ⟨.hbm, 433, rfl⟩
abbrev main_v308 : Ref sig .tc := ⟨.hbm, 434, rfl⟩
abbrev main_v309 : Ref sig .tc := ⟨.hbm, 435, rfl⟩
abbrev main_c_74 : Ref sig .tc := ⟨.hbm, 436, rfl⟩
abbrev main_v310 : Ref sig .tc := ⟨.hbm, 437, rfl⟩
abbrev main_v311 : Ref sig .tc := ⟨.hbm, 438, rfl⟩
abbrev main_c_75 : Ref sig .tc := ⟨.hbm, 439, rfl⟩
abbrev main_v312 : Ref sig .tc := ⟨.hbm, 440, rfl⟩
abbrev main_v313 : Ref sig .tc := ⟨.hbm, 441, rfl⟩
abbrev main_v314 : Ref sig .tc := ⟨.hbm, 442, rfl⟩
abbrev main_v315 : Ref sig .tc := ⟨.hbm, 443, rfl⟩
abbrev main_v316 : Ref sig .tc := ⟨.hbm, 444, rfl⟩
abbrev main_v317 : Ref sig .tc := ⟨.hbm, 445, rfl⟩
abbrev main_v318 : Ref sig .tc := ⟨.hbm, 446, rfl⟩
abbrev main_cst_76 : Ref sig .tc := ⟨.hbm, 447, rfl⟩
abbrev main_v319 : Ref sig .tc := ⟨.hbm, 448, rfl⟩
abbrev main_v320 : Ref sig .tc := ⟨.hbm, 449, rfl⟩
abbrev main_v321 : Ref sig .tc := ⟨.hbm, 450, rfl⟩
abbrev main_v322 : Ref sig .tc := ⟨.hbm, 451, rfl⟩
abbrev main_v323 : Ref sig .tc := ⟨.hbm, 452, rfl⟩
abbrev main_v324 : Ref sig .tc := ⟨.hbm, 453, rfl⟩
abbrev main_v325 : Ref sig .tc := ⟨.hbm, 454, rfl⟩
abbrev main_v326 : Ref sig .tc := ⟨.hbm, 455, rfl⟩
abbrev main_v327 : Ref sig .tc := ⟨.hbm, 456, rfl⟩
abbrev main_v328 : Ref sig .tc := ⟨.hbm, 457, rfl⟩
abbrev main_v329 : Ref sig .tc := ⟨.hbm, 458, rfl⟩
abbrev main_v330 : Ref sig .tc := ⟨.hbm, 459, rfl⟩
abbrev main_v331 : Ref sig .tc := ⟨.hbm, 460, rfl⟩
abbrev main_cst_77 : Ref sig .tc := ⟨.hbm, 461, rfl⟩
abbrev main_v332 : Ref sig .tc := ⟨.hbm, 462, rfl⟩
abbrev main_v333 : Ref sig .tc := ⟨.hbm, 463, rfl⟩
abbrev main_cst_78 : Ref sig .tc := ⟨.hbm, 464, rfl⟩
abbrev main_call13_v0 : Ref sig .tc := ⟨.hbm, 465, rfl⟩
abbrev main_call13_v1 : Ref sig .tc := ⟨.hbm, 466, rfl⟩
abbrev main_v334 : Ref sig .tc := ⟨.hbm, 467, rfl⟩
abbrev main_v335 : Ref sig .tc := ⟨.hbm, 468, rfl⟩
abbrev main_call14_v0 : Ref sig .tc := ⟨.hbm, 469, rfl⟩
abbrev main_call14_v1_0 : Ref sig .tc := ⟨.hbm, 470, rfl⟩
abbrev main_v336 : Ref sig .tc := ⟨.hbm, 471, rfl⟩
abbrev main_c_79 : Ref sig .tc := ⟨.hbm, 472, rfl⟩
abbrev main_v337 : Ref sig .tc := ⟨.hbm, 473, rfl⟩
abbrev main_v338 : Ref sig .tc := ⟨.hbm, 474, rfl⟩
abbrev main_c_80 : Ref sig .tc := ⟨.hbm, 475, rfl⟩
abbrev main_v339 : Ref sig .tc := ⟨.hbm, 476, rfl⟩
abbrev main_v340 : Ref sig .tc := ⟨.hbm, 477, rfl⟩
abbrev main_v341 : Ref sig .tc := ⟨.hbm, 478, rfl⟩
abbrev main_v342 : Ref sig .tc := ⟨.hbm, 479, rfl⟩
abbrev main_v343 : Ref sig .tc := ⟨.hbm, 480, rfl⟩
abbrev main_call15_v0 : Ref sig .tc := ⟨.hbm, 481, rfl⟩
abbrev main_call15_v1_0 : Ref sig .tc := ⟨.hbm, 482, rfl⟩
abbrev main_v344 : Ref sig .tc := ⟨.hbm, 483, rfl⟩
abbrev main_c_81 : Ref sig .tc := ⟨.hbm, 484, rfl⟩
abbrev main_v345 : Ref sig .tc := ⟨.hbm, 485, rfl⟩
abbrev main_v346 : Ref sig .tc := ⟨.hbm, 486, rfl⟩
abbrev main_c_82 : Ref sig .tc := ⟨.hbm, 487, rfl⟩
abbrev main_v347 : Ref sig .tc := ⟨.hbm, 488, rfl⟩
abbrev main_v348 : Ref sig .tc := ⟨.hbm, 489, rfl⟩
abbrev main_v349 : Ref sig .tc := ⟨.hbm, 490, rfl⟩
abbrev main_v350 : Ref sig .tc := ⟨.hbm, 491, rfl⟩
abbrev main_v351 : Ref sig .tc := ⟨.hbm, 492, rfl⟩
abbrev main_v352 : Ref sig .tc := ⟨.hbm, 493, rfl⟩
abbrev main_c_83 : Ref sig .tc := ⟨.hbm, 494, rfl⟩
abbrev main_v353 : Ref sig .tc := ⟨.hbm, 495, rfl⟩
abbrev main_c_84 : Ref sig .tc := ⟨.hbm, 496, rfl⟩
abbrev main_v354 : Ref sig .tc := ⟨.hbm, 497, rfl⟩
abbrev main_v355 : Ref sig .tc := ⟨.hbm, 498, rfl⟩
abbrev main_c_85 : Ref sig .tc := ⟨.hbm, 499, rfl⟩
abbrev main_v356 : Ref sig .tc := ⟨.hbm, 500, rfl⟩
abbrev main_v357 : Ref sig .tc := ⟨.hbm, 501, rfl⟩
abbrev main_v358 : Ref sig .tc := ⟨.hbm, 502, rfl⟩
abbrev main_v359 : Ref sig .tc := ⟨.hbm, 503, rfl⟩
abbrev main_v360 : Ref sig .tc := ⟨.hbm, 504, rfl⟩
abbrev main_c_86 : Ref sig .tc := ⟨.hbm, 505, rfl⟩
abbrev main_v361 : Ref sig .tc := ⟨.hbm, 506, rfl⟩
abbrev main_v362 : Ref sig .tc := ⟨.hbm, 507, rfl⟩
abbrev main_c_87 : Ref sig .tc := ⟨.hbm, 508, rfl⟩
abbrev main_v363 : Ref sig .tc := ⟨.hbm, 509, rfl⟩
abbrev main_v364 : Ref sig .tc := ⟨.hbm, 510, rfl⟩
abbrev main_v365 : Ref sig .tc := ⟨.hbm, 511, rfl⟩
abbrev main_v366 : Ref sig .tc := ⟨.hbm, 512, rfl⟩
abbrev main_v367 : Ref sig .tc := ⟨.hbm, 513, rfl⟩
abbrev main_v368 : Ref sig .tc := ⟨.hbm, 514, rfl⟩
abbrev main_c_88 : Ref sig .tc := ⟨.hbm, 515, rfl⟩
abbrev main_v369 : Ref sig .tc := ⟨.hbm, 516, rfl⟩
abbrev main_v370 : Ref sig .tc := ⟨.hbm, 517, rfl⟩
abbrev main_c_89 : Ref sig .tc := ⟨.hbm, 518, rfl⟩
abbrev main_v371 : Ref sig .tc := ⟨.hbm, 519, rfl⟩
abbrev main_v372 : Ref sig .tc := ⟨.hbm, 520, rfl⟩
abbrev main_v373 : Ref sig .tc := ⟨.hbm, 521, rfl⟩
abbrev main_v374 : Ref sig .tc := ⟨.hbm, 522, rfl⟩
abbrev main_v375 : Ref sig .tc := ⟨.hbm, 523, rfl⟩
abbrev main_cst_90 : Ref sig .tc := ⟨.hbm, 524, rfl⟩
abbrev main_v376 : Ref sig .tc := ⟨.hbm, 525, rfl⟩
abbrev main_v377 : Ref sig .tc := ⟨.hbm, 526, rfl⟩
abbrev main_v378 : Ref sig .tc := ⟨.hbm, 527, rfl⟩
abbrev main_cst_91 : Ref sig .tc := ⟨.hbm, 528, rfl⟩
abbrev main_v379 : Ref sig .tc := ⟨.hbm, 529, rfl⟩
abbrev main_v380 : Ref sig .tc := ⟨.hbm, 530, rfl⟩
abbrev main_v381 : Ref sig .tc := ⟨.hbm, 531, rfl⟩
abbrev main_v382 : Ref sig .tc := ⟨.hbm, 532, rfl⟩
abbrev main_c_92 : Ref sig .tc := ⟨.hbm, 533, rfl⟩
abbrev main_v383 : Ref sig .tc := ⟨.hbm, 534, rfl⟩
abbrev main_v384 : Ref sig .tc := ⟨.hbm, 535, rfl⟩
abbrev main_c_93 : Ref sig .tc := ⟨.hbm, 536, rfl⟩
abbrev main_v385 : Ref sig .tc := ⟨.hbm, 537, rfl⟩
abbrev main_v386 : Ref sig .tc := ⟨.hbm, 538, rfl⟩
abbrev main_v387 : Ref sig .tc := ⟨.hbm, 539, rfl⟩
abbrev main_v388 : Ref sig .tc := ⟨.hbm, 540, rfl⟩
abbrev main_v389 : Ref sig .tc := ⟨.hbm, 541, rfl⟩
abbrev main_v390 : Ref sig .tc := ⟨.hbm, 542, rfl⟩
abbrev main_cst_94 : Ref sig .tc := ⟨.hbm, 543, rfl⟩
abbrev main_v391 : Ref sig .tc := ⟨.hbm, 544, rfl⟩
abbrev main_v392 : Ref sig .tc := ⟨.hbm, 545, rfl⟩
abbrev main_v393 : Ref sig .tc := ⟨.hbm, 546, rfl⟩
abbrev main_v394 : Ref sig .tc := ⟨.hbm, 547, rfl⟩
abbrev main_v395 : Ref sig .tc := ⟨.hbm, 548, rfl⟩
abbrev main_v396 : Ref sig .tc := ⟨.hbm, 549, rfl⟩
abbrev main_v397 : Ref sig .tc := ⟨.hbm, 550, rfl⟩
abbrev main_v398 : Ref sig .tc := ⟨.hbm, 551, rfl⟩
abbrev main_v399 : Ref sig .tc := ⟨.hbm, 552, rfl⟩
abbrev main_v400 : Ref sig .tc := ⟨.hbm, 553, rfl⟩
abbrev main_v401 : Ref sig .tc := ⟨.hbm, 554, rfl⟩
abbrev main_c_95 : Ref sig .tc := ⟨.hbm, 555, rfl⟩
abbrev main_v402 : Ref sig .tc := ⟨.hbm, 556, rfl⟩
abbrev main_v403 : Ref sig .tc := ⟨.hbm, 557, rfl⟩
abbrev main_c_96 : Ref sig .tc := ⟨.hbm, 558, rfl⟩
abbrev main_v404 : Ref sig .tc := ⟨.hbm, 559, rfl⟩
abbrev main_v405 : Ref sig .tc := ⟨.hbm, 560, rfl⟩
abbrev main_v406 : Ref sig .tc := ⟨.hbm, 561, rfl⟩
abbrev main_v407 : Ref sig .tc := ⟨.hbm, 562, rfl⟩
abbrev main_v408 : Ref sig .tc := ⟨.hbm, 563, rfl⟩
abbrev main_c_97 : Ref sig .tc := ⟨.hbm, 564, rfl⟩
abbrev main_v409 : Ref sig .tc := ⟨.hbm, 565, rfl⟩
abbrev main_v410 : Ref sig .tc := ⟨.hbm, 566, rfl⟩
abbrev main_c_98 : Ref sig .tc := ⟨.hbm, 567, rfl⟩
abbrev main_v411 : Ref sig .tc := ⟨.hbm, 568, rfl⟩
abbrev main_v412 : Ref sig .tc := ⟨.hbm, 569, rfl⟩
abbrev main_v413 : Ref sig .tc := ⟨.hbm, 570, rfl⟩
abbrev main_v414 : Ref sig .tc := ⟨.hbm, 571, rfl⟩
abbrev main_v415 : Ref sig .tc := ⟨.hbm, 572, rfl⟩
abbrev main_v416 : Ref sig .tc := ⟨.hbm, 573, rfl⟩
abbrev main_v417 : Ref sig .tc := ⟨.hbm, 574, rfl⟩
abbrev main_v418 : Ref sig .tc := ⟨.hbm, 575, rfl⟩
abbrev main_v419 : Ref sig .tc := ⟨.hbm, 576, rfl⟩
abbrev main_v420 : Ref sig .tc := ⟨.hbm, 577, rfl⟩
abbrev main_v421 : Ref sig .tc := ⟨.hbm, 578, rfl⟩
abbrev main_v422 : Ref sig .tc := ⟨.hbm, 579, rfl⟩
abbrev main_v423 : Ref sig .tc := ⟨.hbm, 580, rfl⟩
abbrev main_cst_99 : Ref sig .tc := ⟨.hbm, 581, rfl⟩
abbrev main_v424 : Ref sig .tc := ⟨.hbm, 582, rfl⟩
abbrev main_v425 : Ref sig .tc := ⟨.hbm, 583, rfl⟩
abbrev main_cst_100 : Ref sig .tc := ⟨.hbm, 584, rfl⟩
abbrev main_call16_v0 : Ref sig .tc := ⟨.hbm, 585, rfl⟩
abbrev main_call16_v1 : Ref sig .tc := ⟨.hbm, 586, rfl⟩
abbrev main_call16_v2 : Ref sig .tc := ⟨.hbm, 587, rfl⟩
abbrev main_v426 : Ref sig .tc := ⟨.hbm, 588, rfl⟩
abbrev main_v427 : Ref sig .tc := ⟨.hbm, 589, rfl⟩
abbrev main_v428 : Ref sig .tc := ⟨.hbm, 590, rfl⟩
abbrev main_cst_101 : Ref sig .tc := ⟨.hbm, 591, rfl⟩
abbrev main_call17_v0 : Ref sig .tc := ⟨.hbm, 592, rfl⟩
abbrev main_call17_v1 : Ref sig .tc := ⟨.hbm, 593, rfl⟩
abbrev main_call17_v2 : Ref sig .tc := ⟨.hbm, 594, rfl⟩
abbrev main_call17_v3 : Ref sig .tc := ⟨.hbm, 595, rfl⟩
abbrev main_v429 : Ref sig .tc := ⟨.hbm, 596, rfl⟩
abbrev main_cst_102 : Ref sig .tc := ⟨.hbm, 597, rfl⟩
abbrev main_v430 : Ref sig .tc := ⟨.hbm, 598, rfl⟩
abbrev main_cst_103 : Ref sig .tc := ⟨.hbm, 599, rfl⟩
abbrev main_v431 : Ref sig .tc := ⟨.hbm, 600, rfl⟩
abbrev main_v432 : Ref sig .tc := ⟨.hbm, 601, rfl⟩
abbrev main_cst_104 : Ref sig .tc := ⟨.hbm, 602, rfl⟩
abbrev main_call18_v0 : Ref sig .tc := ⟨.hbm, 603, rfl⟩
abbrev main_call18_v1 : Ref sig .tc := ⟨.hbm, 604, rfl⟩
abbrev main_v433 : Ref sig .tc := ⟨.hbm, 605, rfl⟩
abbrev main_cst_105 : Ref sig .tc := ⟨.hbm, 606, rfl⟩
abbrev main_v434 : Ref sig .tc := ⟨.hbm, 607, rfl⟩
abbrev main_v435 : Ref sig .tc := ⟨.hbm, 608, rfl⟩
abbrev main_v436 : Ref sig .tc := ⟨.hbm, 609, rfl⟩
abbrev main_cst_106 : Ref sig .tc := ⟨.hbm, 610, rfl⟩
abbrev main_v437 : Ref sig .tc := ⟨.hbm, 611, rfl⟩
abbrev main_v438 : Ref sig .tc := ⟨.hbm, 612, rfl⟩
abbrev main_v439 : Ref sig .tc := ⟨.hbm, 613, rfl⟩
abbrev main_v440 : Ref sig .tc := ⟨.hbm, 614, rfl⟩
abbrev main_v441 : Ref sig .tc := ⟨.hbm, 615, rfl⟩
abbrev main_cst_107 : Ref sig .tc := ⟨.hbm, 616, rfl⟩
abbrev main_v442 : Ref sig .tc := ⟨.hbm, 617, rfl⟩
abbrev main_v443 : Ref sig .tc := ⟨.hbm, 618, rfl⟩
abbrev main_v444 : Ref sig .tc := ⟨.hbm, 619, rfl⟩
abbrev main_v445 : Ref sig .tc := ⟨.hbm, 620, rfl⟩
abbrev main_v446 : Ref sig .tc := ⟨.hbm, 621, rfl⟩
abbrev main_v447 : Ref sig .tc := ⟨.hbm, 622, rfl⟩
abbrev main_v448 : Ref sig .tc := ⟨.hbm, 623, rfl⟩
abbrev main_v449 : Ref sig .tc := ⟨.hbm, 624, rfl⟩
abbrev main_cst_108 : Ref sig .tc := ⟨.hbm, 625, rfl⟩
abbrev main_v450 : Ref sig .tc := ⟨.hbm, 626, rfl⟩
abbrev main_v451 : Ref sig .tc := ⟨.hbm, 627, rfl⟩
abbrev main_v452 : Ref sig .tc := ⟨.hbm, 628, rfl⟩
abbrev main_v453 : Ref sig .tc := ⟨.hbm, 629, rfl⟩
abbrev main_cst_109 : Ref sig .tc := ⟨.hbm, 630, rfl⟩
abbrev main_v454 : Ref sig .tc := ⟨.hbm, 631, rfl⟩
abbrev main_v455 : Ref sig .tc := ⟨.hbm, 632, rfl⟩
abbrev main_cst_110 : Ref sig .tc := ⟨.hbm, 633, rfl⟩
abbrev main_call19_v0 : Ref sig .tc := ⟨.hbm, 634, rfl⟩
abbrev main_call19_v1 : Ref sig .tc := ⟨.hbm, 635, rfl⟩
abbrev main_v456 : Ref sig .tc := ⟨.hbm, 636, rfl⟩
abbrev main_v457 : Ref sig .tc := ⟨.hbm, 637, rfl⟩
abbrev main_cst_111 : Ref sig .tc := ⟨.hbm, 638, rfl⟩
abbrev main_v458 : Ref sig .tc := ⟨.hbm, 639, rfl⟩
abbrev main_v459 : Ref sig .tc := ⟨.hbm, 640, rfl⟩
abbrev main_c_112 : Ref sig .tc := ⟨.hbm, 641, rfl⟩
abbrev main_v460 : Ref sig .tc := ⟨.hbm, 642, rfl⟩
abbrev main_v461 : Ref sig .tc := ⟨.hbm, 643, rfl⟩
abbrev main_c_113 : Ref sig .tc := ⟨.hbm, 644, rfl⟩
abbrev main_v462 : Ref sig .tc := ⟨.hbm, 645, rfl⟩
abbrev main_v463 : Ref sig .tc := ⟨.hbm, 646, rfl⟩
abbrev main_v464 : Ref sig .tc := ⟨.hbm, 647, rfl⟩
abbrev main_v465 : Ref sig .tc := ⟨.hbm, 648, rfl⟩
abbrev main_v466 : Ref sig .tc := ⟨.hbm, 649, rfl⟩
abbrev main_v467 : Ref sig .tc := ⟨.hbm, 650, rfl⟩
abbrev main_c_114 : Ref sig .tc := ⟨.hbm, 651, rfl⟩
abbrev main_v468 : Ref sig .tc := ⟨.hbm, 652, rfl⟩
abbrev main_v469 : Ref sig .tc := ⟨.hbm, 653, rfl⟩
abbrev main_c_115 : Ref sig .tc := ⟨.hbm, 654, rfl⟩
abbrev main_v470 : Ref sig .tc := ⟨.hbm, 655, rfl⟩
abbrev main_v471 : Ref sig .tc := ⟨.hbm, 656, rfl⟩
abbrev main_v472 : Ref sig .tc := ⟨.hbm, 657, rfl⟩
abbrev main_v473 : Ref sig .tc := ⟨.hbm, 658, rfl⟩
abbrev main_v474 : Ref sig .tc := ⟨.hbm, 659, rfl⟩
abbrev main_v475 : Ref sig .tc := ⟨.hbm, 660, rfl⟩
abbrev main_c_116 : Ref sig .tc := ⟨.hbm, 661, rfl⟩
abbrev main_v476 : Ref sig .tc := ⟨.hbm, 662, rfl⟩
abbrev main_v477 : Ref sig .tc := ⟨.hbm, 663, rfl⟩
abbrev main_c_117 : Ref sig .tc := ⟨.hbm, 664, rfl⟩
abbrev main_v478 : Ref sig .tc := ⟨.hbm, 665, rfl⟩
abbrev main_v479 : Ref sig .tc := ⟨.hbm, 666, rfl⟩
abbrev main_v480 : Ref sig .tc := ⟨.hbm, 667, rfl⟩
abbrev main_v481 : Ref sig .tc := ⟨.hbm, 668, rfl⟩
abbrev main_v482 : Ref sig .tc := ⟨.hbm, 669, rfl⟩
abbrev main_v483 : Ref sig .tc := ⟨.hbm, 670, rfl⟩
abbrev main_v484 : Ref sig .tc := ⟨.hbm, 671, rfl⟩
abbrev main_v485 : Ref sig .tc := ⟨.hbm, 672, rfl⟩
abbrev main_cst_118 : Ref sig .tc := ⟨.hbm, 673, rfl⟩
abbrev main_v486 : Ref sig .tc := ⟨.hbm, 674, rfl⟩
abbrev main_v487 : Ref sig .tc := ⟨.hbm, 675, rfl⟩
abbrev main_v488 : Ref sig .tc := ⟨.hbm, 676, rfl⟩
abbrev main_v489 : Ref sig .tc := ⟨.hbm, 677, rfl⟩
abbrev main_v490 : Ref sig .tc := ⟨.hbm, 678, rfl⟩
abbrev main_v491 : Ref sig .tc := ⟨.hbm, 679, rfl⟩
abbrev main_v492 : Ref sig .tc := ⟨.hbm, 680, rfl⟩
abbrev main_v493 : Ref sig .tc := ⟨.hbm, 681, rfl⟩
abbrev main_v494 : Ref sig .tc := ⟨.hbm, 682, rfl⟩
abbrev main_v495 : Ref sig .tc := ⟨.hbm, 683, rfl⟩
abbrev main_v496 : Ref sig .tc := ⟨.hbm, 684, rfl⟩
abbrev main_v497 : Ref sig .tc := ⟨.hbm, 685, rfl⟩
abbrev main_v498 : Ref sig .tc := ⟨.hbm, 686, rfl⟩
abbrev main_v499 : Ref sig .tc := ⟨.hbm, 687, rfl⟩
abbrev main_call20_cst : Ref sig .tc := ⟨.hbm, 688, rfl⟩
abbrev main_call20_v0 : Ref sig .tc := ⟨.hbm, 689, rfl⟩
abbrev main_v500 : Ref sig .tc := ⟨.hbm, 690, rfl⟩
abbrev main_v501 : Ref sig .tc := ⟨.hbm, 691, rfl⟩
abbrev main_cst_119 : Ref sig .tc := ⟨.hbm, 692, rfl⟩
abbrev main_v502 : Ref sig .tc := ⟨.hbm, 693, rfl⟩
abbrev main_v503 : Ref sig .tc := ⟨.hbm, 694, rfl⟩
abbrev main_v504 : Ref sig .tc := ⟨.hbm, 695, rfl⟩
abbrev main_v505 : Ref sig .tc := ⟨.hbm, 696, rfl⟩
abbrev main_cst_120 : Ref sig .tc := ⟨.hbm, 697, rfl⟩
abbrev main_v506 : Ref sig .tc := ⟨.hbm, 698, rfl⟩
abbrev main_v507 : Ref sig .tc := ⟨.hbm, 699, rfl⟩
abbrev main_cst_121 : Ref sig .tc := ⟨.hbm, 700, rfl⟩
abbrev main_call21_v0 : Ref sig .tc := ⟨.hbm, 701, rfl⟩
abbrev main_call21_v1 : Ref sig .tc := ⟨.hbm, 702, rfl⟩
abbrev main_v508 : Ref sig .tc := ⟨.hbm, 703, rfl⟩
abbrev main_v509 : Ref sig .tc := ⟨.hbm, 704, rfl⟩
abbrev main_cst_122 : Ref sig .tc := ⟨.hbm, 705, rfl⟩
abbrev main_v510 : Ref sig .tc := ⟨.hbm, 706, rfl⟩
abbrev main_v511 : Ref sig .tc := ⟨.hbm, 707, rfl⟩
abbrev main_c_123 : Ref sig .tc := ⟨.hbm, 708, rfl⟩
abbrev main_v512 : Ref sig .tc := ⟨.hbm, 709, rfl⟩
abbrev main_v513 : Ref sig .tc := ⟨.hbm, 710, rfl⟩
abbrev main_c_124 : Ref sig .tc := ⟨.hbm, 711, rfl⟩
abbrev main_v514 : Ref sig .tc := ⟨.hbm, 712, rfl⟩
abbrev main_v515 : Ref sig .tc := ⟨.hbm, 713, rfl⟩
abbrev main_v516 : Ref sig .tc := ⟨.hbm, 714, rfl⟩
abbrev main_v517 : Ref sig .tc := ⟨.hbm, 715, rfl⟩
abbrev main_v518 : Ref sig .tc := ⟨.hbm, 716, rfl⟩
abbrev main_v519 : Ref sig .tc := ⟨.hbm, 717, rfl⟩
abbrev main_c_125 : Ref sig .tc := ⟨.hbm, 718, rfl⟩
abbrev main_v520 : Ref sig .tc := ⟨.hbm, 719, rfl⟩
abbrev main_v521 : Ref sig .tc := ⟨.hbm, 720, rfl⟩
abbrev main_c_126 : Ref sig .tc := ⟨.hbm, 721, rfl⟩
abbrev main_v522 : Ref sig .tc := ⟨.hbm, 722, rfl⟩
abbrev main_v523 : Ref sig .tc := ⟨.hbm, 723, rfl⟩
abbrev main_v524 : Ref sig .tc := ⟨.hbm, 724, rfl⟩
abbrev main_v525 : Ref sig .tc := ⟨.hbm, 725, rfl⟩
abbrev main_v526 : Ref sig .tc := ⟨.hbm, 726, rfl⟩
abbrev main_v527 : Ref sig .tc := ⟨.hbm, 727, rfl⟩
abbrev main_c_127 : Ref sig .tc := ⟨.hbm, 728, rfl⟩
abbrev main_v528 : Ref sig .tc := ⟨.hbm, 729, rfl⟩
abbrev main_v529 : Ref sig .tc := ⟨.hbm, 730, rfl⟩
abbrev main_c_128 : Ref sig .tc := ⟨.hbm, 731, rfl⟩
abbrev main_v530 : Ref sig .tc := ⟨.hbm, 732, rfl⟩
abbrev main_v531 : Ref sig .tc := ⟨.hbm, 733, rfl⟩
abbrev main_v532 : Ref sig .tc := ⟨.hbm, 734, rfl⟩
abbrev main_v533 : Ref sig .tc := ⟨.hbm, 735, rfl⟩
abbrev main_v534 : Ref sig .tc := ⟨.hbm, 736, rfl⟩
abbrev main_v535 : Ref sig .tc := ⟨.hbm, 737, rfl⟩
abbrev main_v536 : Ref sig .tc := ⟨.hbm, 738, rfl⟩
abbrev main_cst_129 : Ref sig .tc := ⟨.hbm, 739, rfl⟩
abbrev main_v537 : Ref sig .tc := ⟨.hbm, 740, rfl⟩
abbrev main_v538 : Ref sig .tc := ⟨.hbm, 741, rfl⟩
abbrev main_v539 : Ref sig .tc := ⟨.hbm, 742, rfl⟩
abbrev main_v540 : Ref sig .tc := ⟨.hbm, 743, rfl⟩
abbrev main_v541 : Ref sig .tc := ⟨.hbm, 744, rfl⟩
abbrev main_v542 : Ref sig .tc := ⟨.hbm, 745, rfl⟩
abbrev main_v543 : Ref sig .tc := ⟨.hbm, 746, rfl⟩
abbrev main_v544 : Ref sig .tc := ⟨.hbm, 747, rfl⟩
abbrev main_v545 : Ref sig .tc := ⟨.hbm, 748, rfl⟩
abbrev main_v546 : Ref sig .tc := ⟨.hbm, 749, rfl⟩
abbrev main_v547 : Ref sig .tc := ⟨.hbm, 750, rfl⟩
abbrev main_v548 : Ref sig .tc := ⟨.hbm, 751, rfl⟩
abbrev main_v549 : Ref sig .tc := ⟨.hbm, 752, rfl⟩
abbrev main_cst_130 : Ref sig .tc := ⟨.hbm, 753, rfl⟩
abbrev main_v550 : Ref sig .tc := ⟨.hbm, 754, rfl⟩
abbrev main_v551 : Ref sig .tc := ⟨.hbm, 755, rfl⟩
abbrev main_cst_131 : Ref sig .tc := ⟨.hbm, 756, rfl⟩
abbrev main_call22_v0 : Ref sig .tc := ⟨.hbm, 757, rfl⟩
abbrev main_call22_v1 : Ref sig .tc := ⟨.hbm, 758, rfl⟩
abbrev main_v552 : Ref sig .tc := ⟨.hbm, 759, rfl⟩
abbrev main_v553 : Ref sig .tc := ⟨.hbm, 760, rfl⟩
abbrev main_call23_v0 : Ref sig .tc := ⟨.hbm, 761, rfl⟩
abbrev main_call23_v1_0 : Ref sig .tc := ⟨.hbm, 762, rfl⟩
abbrev main_v554 : Ref sig .tc := ⟨.hbm, 763, rfl⟩
abbrev main_c_132 : Ref sig .tc := ⟨.hbm, 764, rfl⟩
abbrev main_v555 : Ref sig .tc := ⟨.hbm, 765, rfl⟩
abbrev main_v556 : Ref sig .tc := ⟨.hbm, 766, rfl⟩
abbrev main_c_133 : Ref sig .tc := ⟨.hbm, 767, rfl⟩
abbrev main_v557 : Ref sig .tc := ⟨.hbm, 768, rfl⟩
abbrev main_v558 : Ref sig .tc := ⟨.hbm, 769, rfl⟩
abbrev main_v559 : Ref sig .tc := ⟨.hbm, 770, rfl⟩
abbrev main_v560 : Ref sig .tc := ⟨.hbm, 771, rfl⟩
abbrev main_v561 : Ref sig .tc := ⟨.hbm, 772, rfl⟩
abbrev main_call24_v0 : Ref sig .tc := ⟨.hbm, 773, rfl⟩
abbrev main_call24_v1_0 : Ref sig .tc := ⟨.hbm, 774, rfl⟩
abbrev main_v562 : Ref sig .tc := ⟨.hbm, 775, rfl⟩
abbrev main_c_134 : Ref sig .tc := ⟨.hbm, 776, rfl⟩
abbrev main_v563 : Ref sig .tc := ⟨.hbm, 777, rfl⟩
abbrev main_v564 : Ref sig .tc := ⟨.hbm, 778, rfl⟩
abbrev main_c_135 : Ref sig .tc := ⟨.hbm, 779, rfl⟩
abbrev main_v565 : Ref sig .tc := ⟨.hbm, 780, rfl⟩
abbrev main_v566 : Ref sig .tc := ⟨.hbm, 781, rfl⟩
abbrev main_v567 : Ref sig .tc := ⟨.hbm, 782, rfl⟩
abbrev main_v568 : Ref sig .tc := ⟨.hbm, 783, rfl⟩
abbrev main_v569 : Ref sig .tc := ⟨.hbm, 784, rfl⟩
abbrev main_v570 : Ref sig .tc := ⟨.hbm, 785, rfl⟩
abbrev main_c_136 : Ref sig .tc := ⟨.hbm, 786, rfl⟩
abbrev main_v571 : Ref sig .tc := ⟨.hbm, 787, rfl⟩
abbrev main_c_137 : Ref sig .tc := ⟨.hbm, 788, rfl⟩
abbrev main_v572 : Ref sig .tc := ⟨.hbm, 789, rfl⟩
abbrev main_v573 : Ref sig .tc := ⟨.hbm, 790, rfl⟩
abbrev main_c_138 : Ref sig .tc := ⟨.hbm, 791, rfl⟩
abbrev main_v574 : Ref sig .tc := ⟨.hbm, 792, rfl⟩
abbrev main_v575 : Ref sig .tc := ⟨.hbm, 793, rfl⟩
abbrev main_v576 : Ref sig .tc := ⟨.hbm, 794, rfl⟩
abbrev main_v577 : Ref sig .tc := ⟨.hbm, 795, rfl⟩
abbrev main_v578 : Ref sig .tc := ⟨.hbm, 796, rfl⟩
abbrev main_c_139 : Ref sig .tc := ⟨.hbm, 797, rfl⟩
abbrev main_v579 : Ref sig .tc := ⟨.hbm, 798, rfl⟩
abbrev main_v580 : Ref sig .tc := ⟨.hbm, 799, rfl⟩
abbrev main_c_140 : Ref sig .tc := ⟨.hbm, 800, rfl⟩
abbrev main_v581 : Ref sig .tc := ⟨.hbm, 801, rfl⟩
abbrev main_v582 : Ref sig .tc := ⟨.hbm, 802, rfl⟩
abbrev main_v583 : Ref sig .tc := ⟨.hbm, 803, rfl⟩
abbrev main_v584 : Ref sig .tc := ⟨.hbm, 804, rfl⟩
abbrev main_v585 : Ref sig .tc := ⟨.hbm, 805, rfl⟩
abbrev main_v586 : Ref sig .tc := ⟨.hbm, 806, rfl⟩
abbrev main_c_141 : Ref sig .tc := ⟨.hbm, 807, rfl⟩
abbrev main_v587 : Ref sig .tc := ⟨.hbm, 808, rfl⟩
abbrev main_v588 : Ref sig .tc := ⟨.hbm, 809, rfl⟩
abbrev main_c_142 : Ref sig .tc := ⟨.hbm, 810, rfl⟩
abbrev main_v589 : Ref sig .tc := ⟨.hbm, 811, rfl⟩
abbrev main_v590 : Ref sig .tc := ⟨.hbm, 812, rfl⟩
abbrev main_v591 : Ref sig .tc := ⟨.hbm, 813, rfl⟩
abbrev main_v592 : Ref sig .tc := ⟨.hbm, 814, rfl⟩
abbrev main_v593 : Ref sig .tc := ⟨.hbm, 815, rfl⟩
abbrev main_cst_143 : Ref sig .tc := ⟨.hbm, 816, rfl⟩
abbrev main_v594 : Ref sig .tc := ⟨.hbm, 817, rfl⟩
abbrev main_v595 : Ref sig .tc := ⟨.hbm, 818, rfl⟩
abbrev main_v596 : Ref sig .tc := ⟨.hbm, 819, rfl⟩
abbrev main_cst_144 : Ref sig .tc := ⟨.hbm, 820, rfl⟩
abbrev main_v597 : Ref sig .tc := ⟨.hbm, 821, rfl⟩
abbrev main_v598 : Ref sig .tc := ⟨.hbm, 822, rfl⟩
abbrev main_v599 : Ref sig .tc := ⟨.hbm, 823, rfl⟩
abbrev main_v600 : Ref sig .tc := ⟨.hbm, 824, rfl⟩
abbrev main_c_145 : Ref sig .tc := ⟨.hbm, 825, rfl⟩
abbrev main_v601 : Ref sig .tc := ⟨.hbm, 826, rfl⟩
abbrev main_v602 : Ref sig .tc := ⟨.hbm, 827, rfl⟩
abbrev main_c_146 : Ref sig .tc := ⟨.hbm, 828, rfl⟩
abbrev main_v603 : Ref sig .tc := ⟨.hbm, 829, rfl⟩
abbrev main_v604 : Ref sig .tc := ⟨.hbm, 830, rfl⟩
abbrev main_v605 : Ref sig .tc := ⟨.hbm, 831, rfl⟩
abbrev main_v606 : Ref sig .tc := ⟨.hbm, 832, rfl⟩
abbrev main_v607 : Ref sig .tc := ⟨.hbm, 833, rfl⟩
abbrev main_v608 : Ref sig .tc := ⟨.hbm, 834, rfl⟩
abbrev main_cst_147 : Ref sig .tc := ⟨.hbm, 835, rfl⟩
abbrev main_v609 : Ref sig .tc := ⟨.hbm, 836, rfl⟩
abbrev main_v610 : Ref sig .tc := ⟨.hbm, 837, rfl⟩
abbrev main_v611 : Ref sig .tc := ⟨.hbm, 838, rfl⟩
abbrev main_v612 : Ref sig .tc := ⟨.hbm, 839, rfl⟩
abbrev main_v613 : Ref sig .tc := ⟨.hbm, 840, rfl⟩
abbrev main_v614 : Ref sig .tc := ⟨.hbm, 841, rfl⟩
abbrev main_v615 : Ref sig .tc := ⟨.hbm, 842, rfl⟩
abbrev main_v616 : Ref sig .tc := ⟨.hbm, 843, rfl⟩
abbrev main_v617 : Ref sig .tc := ⟨.hbm, 844, rfl⟩
abbrev main_v618 : Ref sig .tc := ⟨.hbm, 845, rfl⟩
abbrev main_v619 : Ref sig .tc := ⟨.hbm, 846, rfl⟩
abbrev main_c_148 : Ref sig .tc := ⟨.hbm, 847, rfl⟩
abbrev main_v620 : Ref sig .tc := ⟨.hbm, 848, rfl⟩
abbrev main_v621 : Ref sig .tc := ⟨.hbm, 849, rfl⟩
abbrev main_c_149 : Ref sig .tc := ⟨.hbm, 850, rfl⟩
abbrev main_v622 : Ref sig .tc := ⟨.hbm, 851, rfl⟩
abbrev main_v623 : Ref sig .tc := ⟨.hbm, 852, rfl⟩
abbrev main_v624 : Ref sig .tc := ⟨.hbm, 853, rfl⟩
abbrev main_v625 : Ref sig .tc := ⟨.hbm, 854, rfl⟩
abbrev main_v626 : Ref sig .tc := ⟨.hbm, 855, rfl⟩
abbrev main_c_150 : Ref sig .tc := ⟨.hbm, 856, rfl⟩
abbrev main_v627 : Ref sig .tc := ⟨.hbm, 857, rfl⟩
abbrev main_v628 : Ref sig .tc := ⟨.hbm, 858, rfl⟩
abbrev main_c_151 : Ref sig .tc := ⟨.hbm, 859, rfl⟩
abbrev main_v629 : Ref sig .tc := ⟨.hbm, 860, rfl⟩
abbrev main_v630 : Ref sig .tc := ⟨.hbm, 861, rfl⟩
abbrev main_v631 : Ref sig .tc := ⟨.hbm, 862, rfl⟩
abbrev main_v632 : Ref sig .tc := ⟨.hbm, 863, rfl⟩
abbrev main_v633 : Ref sig .tc := ⟨.hbm, 864, rfl⟩
abbrev main_v634 : Ref sig .tc := ⟨.hbm, 865, rfl⟩
abbrev main_v635 : Ref sig .tc := ⟨.hbm, 866, rfl⟩
abbrev main_v636 : Ref sig .tc := ⟨.hbm, 867, rfl⟩
abbrev main_v637 : Ref sig .tc := ⟨.hbm, 868, rfl⟩
abbrev main_v638 : Ref sig .tc := ⟨.hbm, 869, rfl⟩
abbrev main_v639 : Ref sig .tc := ⟨.hbm, 870, rfl⟩
abbrev main_v640 : Ref sig .tc := ⟨.hbm, 871, rfl⟩
abbrev main_v641 : Ref sig .tc := ⟨.hbm, 872, rfl⟩
abbrev main_cst_152 : Ref sig .tc := ⟨.hbm, 873, rfl⟩
abbrev main_v642 : Ref sig .tc := ⟨.hbm, 874, rfl⟩
abbrev main_v643 : Ref sig .tc := ⟨.hbm, 875, rfl⟩
abbrev main_cst_153 : Ref sig .tc := ⟨.hbm, 876, rfl⟩
abbrev main_call25_v0 : Ref sig .tc := ⟨.hbm, 877, rfl⟩
abbrev main_call25_v1 : Ref sig .tc := ⟨.hbm, 878, rfl⟩
abbrev main_call25_v2 : Ref sig .tc := ⟨.hbm, 879, rfl⟩
abbrev main_v644 : Ref sig .tc := ⟨.hbm, 880, rfl⟩
abbrev main_v645 : Ref sig .tc := ⟨.hbm, 881, rfl⟩
abbrev main_v646 : Ref sig .tc := ⟨.hbm, 882, rfl⟩
abbrev main_cst_154 : Ref sig .tc := ⟨.hbm, 883, rfl⟩
abbrev main_call26_v0 : Ref sig .tc := ⟨.hbm, 884, rfl⟩
abbrev main_call26_v1 : Ref sig .tc := ⟨.hbm, 885, rfl⟩
abbrev main_call26_v2 : Ref sig .tc := ⟨.hbm, 886, rfl⟩
abbrev main_call26_v3 : Ref sig .tc := ⟨.hbm, 887, rfl⟩
abbrev main_v647 : Ref sig .tc := ⟨.hbm, 888, rfl⟩
abbrev main_cst_155 : Ref sig .tc := ⟨.hbm, 889, rfl⟩
abbrev main_v648 : Ref sig .tc := ⟨.hbm, 890, rfl⟩
abbrev main_cst_156 : Ref sig .tc := ⟨.hbm, 891, rfl⟩
abbrev main_v649 : Ref sig .tc := ⟨.hbm, 892, rfl⟩
abbrev main_v650 : Ref sig .tc := ⟨.hbm, 893, rfl⟩
abbrev main_cst_157 : Ref sig .tc := ⟨.hbm, 894, rfl⟩
abbrev main_call27_v0 : Ref sig .tc := ⟨.hbm, 895, rfl⟩
abbrev main_call27_v1 : Ref sig .tc := ⟨.hbm, 896, rfl⟩
abbrev main_v651 : Ref sig .tc := ⟨.hbm, 897, rfl⟩
abbrev main_cst_158 : Ref sig .tc := ⟨.hbm, 898, rfl⟩
abbrev main_v652 : Ref sig .tc := ⟨.hbm, 899, rfl⟩
abbrev main_v653 : Ref sig .tc := ⟨.hbm, 900, rfl⟩
abbrev main_v654 : Ref sig .tc := ⟨.hbm, 901, rfl⟩
abbrev main_cst_159 : Ref sig .tc := ⟨.hbm, 902, rfl⟩
abbrev main_v655 : Ref sig .tc := ⟨.hbm, 903, rfl⟩
abbrev main_v656 : Ref sig .tc := ⟨.hbm, 904, rfl⟩
abbrev main_v657 : Ref sig .tc := ⟨.hbm, 905, rfl⟩
abbrev main_v658 : Ref sig .tc := ⟨.hbm, 906, rfl⟩
abbrev main_v659 : Ref sig .tc := ⟨.hbm, 907, rfl⟩
abbrev main_cst_160 : Ref sig .tc := ⟨.hbm, 908, rfl⟩
abbrev main_v660 : Ref sig .tc := ⟨.hbm, 909, rfl⟩
abbrev main_v661 : Ref sig .tc := ⟨.hbm, 910, rfl⟩
abbrev main_v662 : Ref sig .tc := ⟨.hbm, 911, rfl⟩
abbrev main_v663 : Ref sig .tc := ⟨.hbm, 912, rfl⟩
abbrev main_v664 : Ref sig .tc := ⟨.hbm, 913, rfl⟩
abbrev main_v665 : Ref sig .tc := ⟨.hbm, 914, rfl⟩
abbrev main_v666 : Ref sig .tc := ⟨.hbm, 915, rfl⟩
abbrev main_v667 : Ref sig .tc := ⟨.hbm, 916, rfl⟩
abbrev main_v668 : Ref sig .tc := ⟨.hbm, 917, rfl⟩
abbrev main_v669 : Ref sig .tc := ⟨.hbm, 918, rfl⟩
abbrev main_v670 : Ref sig .tc := ⟨.hbm, 919, rfl⟩
abbrev main_v671 : Ref sig .tc := ⟨.hbm, 920, rfl⟩
abbrev main_v672 : Ref sig .tc := ⟨.hbm, 921, rfl⟩
abbrev main_call28_cst : Ref sig .tc := ⟨.hbm, 922, rfl⟩
abbrev main_call28_v0 : Ref sig .tc := ⟨.hbm, 923, rfl⟩
abbrev main_v673 : Ref sig .tc := ⟨.hbm, 924, rfl⟩
abbrev main_v674 : Ref sig .tc := ⟨.hbm, 925, rfl⟩
abbrev main_v675 : Ref sig .tc := ⟨.hbm, 926, rfl⟩
abbrev main_v676 : Ref sig .tc := ⟨.hbm, 927, rfl⟩
abbrev main_v677 : Ref sig .tc := ⟨.hbm, 928, rfl⟩
abbrev main_call29_cst : Ref sig .tc := ⟨.hbm, 929, rfl⟩
abbrev main_call29_v0 : Ref sig .tc := ⟨.hbm, 930, rfl⟩
abbrev main_v678 : Ref sig .tc := ⟨.hbm, 931, rfl⟩
abbrev main_v679 : Ref sig .tc := ⟨.hbm, 932, rfl⟩
abbrev main_v680 : Ref sig .tc := ⟨.hbm, 933, rfl⟩
abbrev main_v681 : Ref sig .tc := ⟨.hbm, 934, rfl⟩
abbrev main_v682 : Ref sig .tc := ⟨.hbm, 935, rfl⟩
abbrev main_call30_cst : Ref sig .tc := ⟨.hbm, 936, rfl⟩
abbrev main_call30_v0 : Ref sig .tc := ⟨.hbm, 937, rfl⟩
abbrev main_call30_cst_0 : Ref sig .tc := ⟨.hbm, 938, rfl⟩
abbrev main_call30_v1 : Ref sig .tc := ⟨.hbm, 939, rfl⟩
abbrev main_call30_v2 : Ref sig .tc := ⟨.hbm, 940, rfl⟩
abbrev main_call30_v3 : Ref sig .tc := ⟨.hbm, 941, rfl⟩
abbrev main_call30_v4 : Ref sig .tc := ⟨.hbm, 942, rfl⟩
abbrev main_call30_v5 : Ref sig .tc := ⟨.hbm, 943, rfl⟩
abbrev main_call30_v6 : Ref sig .tc := ⟨.hbm, 944, rfl⟩
abbrev main_call30_cst_1 : Ref sig .tc := ⟨.hbm, 945, rfl⟩
abbrev main_call30_v7 : Ref sig .tc := ⟨.hbm, 946, rfl⟩
abbrev main_call30_v8 : Ref sig .tc := ⟨.hbm, 947, rfl⟩
abbrev main_call30_v9 : Ref sig .tc := ⟨.hbm, 948, rfl⟩
abbrev main_call30_v10 : Ref sig .tc := ⟨.hbm, 949, rfl⟩
abbrev main_v683 : Ref sig .tc := ⟨.hbm, 950, rfl⟩

abbrev nD : Nat := 1
abbrev τ : Topo := Topo.v7x

variable {F : FTy → Type} [FloatOps F]
-- ==== Proof.Run.lean ====
/-
  The kernel's run, read at every buffer that outlives the launch: each ends with what the last boundary's contents
  hold there.
-/
module

public import proofs.«01_k».proof.Proof.Gen.KernelIdeal.Frame

@[expose] public section

set_option maxRecDepth 16384

noncomputable section

namespace Cert.Gnn.Run

open Cert.KernelIdeal Cert.KernelIdeal.Gen
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] (m : (l : Loc nD τ sig) → Buf (Elt F) l) (ρ : Dev nD → PrngReg)

set_option backward.isDefEq.respectTransparency.types false in
/-- Every buffer that outlives the launch ends with the last boundary's contents. -/
theorem run : θ_run defs (onTc (τ := τ) (main (F := F))) ⟨m, fun _ => 0, ρ⟩
    (fun r => ∀ c : Dev nD, ∀ b ∈ Pipeline.ucRefs τ sig, r.2.mem (((c : Thread nD τ)).1, b) = W57 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl,
      fun c => by
        dsimp only [Pipeline.Seg.post, hseg, Pipeline.HostSeg.ofOps]
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W57 m ρ c b)
    (hfin := fun c s' => by
      iintro ⟨⟨Hh, -⟩, HSI⟩
      unfold StableHlo.held
      imodintro
      iapply (pointsTo_read_all (Pipeline.ucRefs τ sig) (fun b => (((c : Thread nD τ)).1, b)) (W57 m ρ c) s')
      isplitl [Hh] <;> iassumption)
    (hQ := fun s h _ => h)

end Cert.Gnn.Run

end
-- ==== Proof.Model.lean ====
/-
  The network as functions on arrays at the exact reals: one function per step of a layer (the edge coefficients, the
  graph convolution, the scores, the pooling, the readout) and the classifier, each written with the operations the
  reference is printed with. Both programs' buffers are stated through these, so that a fact about a step is proved
  once and serves all three layers.
-/
module

public import proofs.«01_k».proof.ReferenceIdeal
public import proofs.«01_k».proof.Proof.Gen.ReferenceIdeal
public import Idealize.ShloMosaic.PureOps.Ideal

@[expose] public section

noncomputable section

namespace Cert.Gnn

open Idealize.ShloMosaic Cert.ReferenceIdeal Cert.ReferenceIdeal.Facts₀

/-- A float array of shape `S`. -/
abbrev A (S : Shape) := FVec Ideal S .f32
/-- An array of 32-bit words of shape `S`. -/
abbrev I (S : Shape) := IVec S 32

/-- The scalar `b` denotes, at every node. -/
def splatN (b : BitVec 32) : A S10000 := broadcastInDim S10000 ![] bcast_S_S10000 (constant S_ .f32 b)
/-- The scalar `b` denotes, at every edge. -/
def splatE (b : BitVec 32) : A S320000 := broadcastInDim S320000 ![] bcast_S_S320000 (constant S_ .f32 b)
/-- The scalar `b` denotes, at every graph. -/
def splatB (b : BitVec 32) : A S128 := broadcastInDim S128 ![] bcast_S_S128 (constant S_ .f32 b)

/-- An edge's node indices as a gather reads them: a negative one counts from the end. -/
def wrapE (v : I S320000) : I S320000x1 :=
  broadcastInDim S320000x1 ![0] bcast_S320000_S320000x1_0 (select (cmpi .slt v (broadcastInDim S320000 ![] bcast_S_S320000 (constantI S_ 32 0#32))) (addi v (broadcastInDim S320000 ![] bcast_S_S320000 (constantI S_ 32 10000#32))) v)
/-- Node indices per node as a gather reads them, into an array of `n` entries. -/
def wrapN (n : BitVec 32) (v : I S10000) : I S10000x1 :=
  broadcastInDim S10000x1 ![0] bcast_S10000_S10000x1_0 (select (cmpi .slt v (broadcastInDim S10000 ![] bcast_S_S10000 (constantI S_ 32 0#32))) (addi v (broadcastInDim S10000 ![] bcast_S_S10000 (constantI S_ 32 n))) v)
/-- The edges' target nodes as a column, the segments of a sum over edges. -/
def colE (v : I S320000) : I S320000x1 := broadcastInDim S320000x1 ![0] bcast_S320000_S320000x1_0 v
/-- The nodes' graphs as a column, the segments of a sum over nodes. -/
def colN (v : I S10000) : I S10000x1 := broadcastInDim S10000x1 ![0] bcast_S10000_S10000x1_0 v

/-- The edges' source nodes. -/
def srcOf (e : I S2x320000) : I S320000 :=
  shapeCast _ (extractStridedSlice S1x320000 ![0, 0] e slices_S2x320000_S1x320000_0_0) shapeCasts_S1x320000_S320000
/-- The edges' target nodes. -/
def dstOf (e : I S2x320000) : I S320000 :=
  shapeCast _ (extractStridedSlice S1x320000 ![1, 0] e slices_S2x320000_S1x320000_1_0) shapeCasts_S1x320000_S320000
/-- The number of nodes of each graph. -/
def totals (batch : I S10000) : A S128 :=
  Host.scatterAdd scatter_S128_S10000x1_S10000_n_0_0_1 (splatB 0x00000000#32) (colN batch) (splatN 0x3F800000#32)
/-- Each graph's first position once nodes are grouped by graph. -/
def segStart (batch : I S10000) : I S128 :=
  fptosi 32 (subf (Host.reduceWindowAdd ![128] ![1] ![127] ![0] (totals batch) (broadcastInDim S_ ![] bcast_S_S_ (constant S_ .f32 0x00000000#32)) reduceWindows_S128_S128_w128s1p127_0 h_S_) (totals batch))

/-- A node's weighted in-degree with its own mask. -/
def deg (dst : I S320000) (ew : A S320000) (mask : A S10000) : A S10000 :=
  addf (Host.scatterAdd scatter_S10000_S320000x1_S320000_n_0_0_1 (splatN 0x00000000#32) (colE dst) ew) mask
/-- The degree where it is positive, one elsewhere. -/
def degSafe (dst : I S320000) (ew : A S320000) (mask : A S10000) : A S10000 :=
  select (cmpf .ogt (deg dst ew mask) (splatN 0x00000000#32)) (deg dst ew mask) (broadcastInDim S10000 ![] bcast_S_S10000 (id (constant S_ .f32 0x3F800000#32)))
/-- One over the root of the degree. -/
def inv (d : A S10000) : A S10000 := Host.divf (splatN 0x3F800000#32) (Host.sqrt d)
/-- An edge's coefficient: its weight times its two ends' `q`. -/
def coef (q : A S10000) (src dst : I S320000) (ew : A S320000) : A S320000 :=
  mulf (mulf ew (Host.gather gather_S10000_S320000x1_S320000_n_0_n_n_0_1_1 q (wrapE src))) (Host.gather gather_S10000_S320000x1_S320000_n_0_n_n_0_1_1 q (wrapE dst))
/-- The features' matrix product with a layer's weights. -/
def feat (x : A S10000x128) (W : A S128x128) : A S10000x128 :=
  Host.dotGeneral dot_S10000x128_S128x128_S10000x128_1_0_0_1_n_n none x W
/-- The neighbours' features, weighted and summed at each node. -/
def agg (hw : A S10000x128) (c : A S320000) (src dst : I S320000) : A S10000x128 :=
  Host.scatterAdd scatter_S10000x128_S320000x1_S320000x128_1_0_0_1 (broadcastInDim S10000x128 ![] bcast_S_S10000x128 (constant S_ .f32 0x00000000#32)) (colE dst)
    (mulf (Host.gather gather_S10000x128_S320000x1_S320000x128_1_0_n_n_0_1_1128 hw (wrapE src))
      (broadcastInDim S320000x128 ![0, 1] bcast_S320000x1_S320000x128_0_1 (broadcastInDim S320000x1 ![0] bcast_S320000_S320000x1_0 c)))
/-- A node's number as a column. -/
def col (v : A S10000) : A S10000x1 := broadcastInDim S10000x1 ![0] bcast_S10000_S10000x1_0 v
/-- A node's number repeated along its features. -/
def rows (v : A S10000) : A S10000x128 := broadcastInDim S10000x128 ![0, 1] bcast_S10000x1_S10000x128_0_1 (col v)
/-- The rest of a convolution: the node's own scaled features, the bias, the mask, the cut at zero. -/
def epi (g hw : A S10000x128) (scale mask : A S10000) (b : A S128) : A S10000x128 :=
  maximumf (mulf (addf (addf g (mulf hw (rows scale))) (broadcastInDim S10000x128 ![0, 1] bcast_S1x128_S10000x128_0_1 (broadcastInDim S1x128 ![1] bcast_S128_S1x128_1 b))) (rows mask))
    (broadcastInDim S10000x128 ![] bcast_S_S10000x128 (constant S_ .f32 0x00000000#32))
/-- A graph convolution of the features `x`, cut at zero, over a given degree. -/
def convD (x : A S10000x128) (W : A S128x128) (b : A S128) (src dst : I S320000) (ew : A S320000) (mask d : A S10000) : A S10000x128 :=
  epi (agg (feat x W) (coef (inv d) src dst ew) src dst) (feat x W) (Host.divf mask d) mask b
/-- A graph convolution of the features `x`, cut at zero. -/
def conv (x : A S10000x128) (W : A S128x128) (b : A S128) (src dst : I S320000) (ew : A S320000) (mask : A S10000) : A S10000x128 :=
  convD x W b src dst ew mask (degSafe dst ew mask)

/-- The features' product with a score vector. -/
def proj (h : A S10000x128) (p : A S128x1) : A S10000x1 := Host.dotGeneral dot_S10000x128_S128x1_S10000x1_1_0_0_1_n_n none h p
/-- The convolution to one feature per node, over a given degree. -/
def scoreD (hp : A S10000x1) (pb : A S1) (src dst : I S320000) (ew : A S320000) (mask d : A S10000) : A S10000 :=
  shapeCast _ (mulf (addf (addf (Host.scatterAdd scatter_S10000x1_S320000x1_S320000x1_1_0_0_1 (broadcastInDim S10000x1 ![] bcast_S_S10000x1 (constant S_ .f32 0x00000000#32)) (colE dst)
      (mulf (Host.gather gather_S10000x1_S320000x1_S320000x1_1_0_n_n_0_1_11 hp (wrapE src)) (broadcastInDim S320000x1 ![0] bcast_S320000_S320000x1_0 (coef (inv d) src dst ew))))
    (mulf hp (col (Host.divf mask d)))) (broadcastInDim S10000x1 ![0, 1] bcast_S1x1_S10000x1_0_1 (broadcastInDim S1x1 ![1] bcast_S1_S1x1_1 pb))) (col mask)) shapeCasts_S10000x1_S10000
/-- The score of every node. -/
def score (h : A S10000x128) (p : A S128x1) (pb : A S1) (src dst : I S320000) (ew : A S320000) (mask : A S10000) : A S10000 :=
  scoreD (proj h p) pb src dst ew mask (degSafe dst ew mask)

/-- The score's negative, with nodes already dropped placed last. -/
def negScore (s mask : A S10000) : A S10000 :=
  Host.negf (select (cmpf .ogt mask (splatN 0x00000000#32)) s (broadcastInDim S10000 ![] bcast_S_S10000 (id (constant S_ .f32 0xF149F2CA#32))))
/-- The nodes by descending score. -/
def byScore (v : A S10000) : I S10000 := (Host.sort2 S10000 0 (comparator_f32_i32_d0 (F := Ideal)) v (iotaInDim S10000 32 0)).2
/-- The entries of `t` at the nodes `v`. -/
def at_ (t v : I S10000) : I S10000 := Host.gather gather_S10000_S10000x1_S10000_n_0_n_n_0_1_1 t (wrapN 10000#32 v)
/-- The positions in order of the words `v`, equal ones as they stand. -/
def byWord (v : I S10000) : I S10000 := (Host.sort2 S10000 0 comparator_i32_i32_d0 v (iotaInDim S10000 32 0)).2
/-- The nodes grouped by graph, by descending score within a graph. -/
def order (idx batch : I S10000) : I S10000 := at_ idx (byWord (at_ batch idx))
/-- Each node's rank within its graph, from the nodes in order `o`. -/
def rank (o batch : I S10000) (start : I S128) : I S10000 :=
  Host.scatter scatter_S10000_S10000x1_S10000_n_0_0_1 (fun _ b => b) (broadcastInDim S10000 ![] bcast_S_S10000 (constantI S_ 32 0#32)) (wrapN 10000#32 o)
    (subi (iotaInDim S10000 32 0) (Host.gather gather_S128_S10000x1_S10000_n_0_n_n_0_1_1 start (wrapN 128#32 (at_ batch o))))
/-- The sum of `v` over the nodes of each graph. -/
def perGraph (batch : I S10000) (v : A S10000) : A S128 :=
  Host.scatterAdd scatter_S128_S10000x1_S10000_n_0_0_1 (splatB 0x00000000#32) (colN batch) v
/-- The mask of the nodes kept: the first half of each graph's, rounded up, among those not yet dropped. -/
def keepMask (o batch : I S10000) (start : I S128) (mask : A S10000) : A S10000 :=
  uitofp .f32 (andi (cmpi .slt (rank o batch start)
      (Host.gather gather_S128_S10000x1_S10000_n_0_n_n_0_1_1 (fptosi 32 (Host.ceil (mulf (splatB 0x3F000000#32) (perGraph batch mask)))) (wrapN 128#32 batch)))
    (cmpf .ogt mask (splatN 0x00000000#32)))
/-- The mask after a pooling by the scores `s`. -/
def newMask (s : A S10000) (batch : I S10000) (start : I S128) (mask : A S10000) : A S10000 :=
  keepMask (order (byScore (negScore s mask)) batch) batch start mask
/-- The features after a pooling: scaled by the scores, zero at nodes dropped. -/
def newFeat (h : A S10000x128) (s mask : A S10000) : A S10000x128 := mulf (mulf h (rows (Host.tanh s))) (rows mask)
/-- The edges' weights after a pooling: one where both ends are kept. -/
def newEdge (mask : A S10000) (src dst : I S320000) : A S320000 :=
  mulf (Host.gather gather_S10000_S320000x1_S320000_n_0_n_n_0_1_1 mask (wrapE src)) (Host.gather gather_S10000_S320000x1_S320000_n_0_n_n_0_1_1 mask (wrapE dst))

/-- The largest of each feature over the nodes of each graph that are kept. -/
def gmax (x : A S10000x128) (mask : A S10000) (batch : I S10000) : A S128x128 :=
  Host.reduce FloatOps.maximumf (select (broadcastInDim S10000x128x128 ![0, 1, 2] bcast_S10000x128x1_S10000x128x128_0_1_2 (broadcastInDim S10000x128x1 ![0, 1] bcast_S10000x128_S10000x128x1_0_1 (cmpi .eq (broadcastInDim S10000x128 ![0, 1] bcast_S10000x1_S10000x128_0_1 (colN batch)) (broadcastInDim S10000x128 ![0, 1] bcast_S1x128_S10000x128_0_1 (broadcastInDim S1x128 ![1] bcast_S128_S1x128_1 (iotaInDim S128 32 0))))))
    (broadcastInDim S10000x128x128 ![0, 1, 2] bcast_S10000x1x128_S10000x128x128_0_1_2 (broadcastInDim S10000x1x128 ![0, 2] bcast_S10000x128_S10000x1x128_0_2
      (select (broadcastInDim S10000x128 ![0, 1] bcast_S10000x1_S10000x128_0_1 (cmpf .ogt (col mask) (broadcastInDim S10000x1 ![] bcast_S_S10000x1 (constant S_ .f32 0x00000000#32)))) x (broadcastInDim S10000x128 ![] bcast_S_S10000x128 (id (constant S_ .f32 0xF149F2CA#32))))))
    (broadcastInDim S10000x128x128 ![] bcast_S_S10000x128x128 (id (constant S_ .f32 0xFF800000#32)))) (constant S_ .f32 0xFF800000#32) reducesTo_S10000x128x128_S128x128_d0 h_S_
/-- The sum of each feature over the nodes of each graph that are kept. -/
def gsum (x : A S10000x128) (mask : A S10000) (batch : I S10000) : A S128x128 :=
  Host.scatterAdd scatter_S128x128_S10000x1_S10000x128_1_0_0_1 (broadcastInDim S128x128 ![] bcast_S_S128x128 (constant S_ .f32 0x00000000#32)) (colN batch) (mulf x (rows mask))
/-- A readout from the largest values, the sums and the counts: zero where a graph has no node left, the mean beside it. -/
def readoutOf (mx sm : A S128x128) (cnt : A S128) : A S128x256 :=
  concatenate S128x256 1 [⟨S128x128, (select (cmpf .ole mx (broadcastInDim S128x128 ![] bcast_S_S128x128 (constant S_ .f32 0xEFA18F08#32))) (broadcastInDim S128x128 ![] bcast_S_S128x128 (id (constant S_ .f32 0x00000000#32))) mx)⟩,
    ⟨S128x128, (Host.divf sm (broadcastInDim S128x128 ![0, 1] bcast_S128x1_S128x128_0_1 (broadcastInDim S128x1 ![0] bcast_S128_S128x1_0 (maximumf cnt (splatB 0x3F800000#32)))))⟩] concatenates_S128x128_S128x128_S128x256_d1
/-- The readout of a layer. -/
def readout (x : A S10000x128) (mask : A S10000) (batch : I S10000) : A S128x256 :=
  readoutOf (gmax x mask batch) (gsum x mask batch) (perGraph batch mask)

/-- The classifier's second hidden layer, before the cut at zero. -/
def hidden (z : A S128x256) (W₁ : A S256x128) (b₁ : A S128) (W₂ : A S128x64) (b₂ : A S64) : A S128x64 :=
  addf (Host.dotGeneral dot_S128x128_S128x64_S128x64_1_0_0_1_n_n none (maximumf (addf (Host.dotGeneral dot_S128x256_S256x128_S128x128_1_0_0_1_n_n none z W₁)
      (broadcastInDim S128x128 ![0, 1] bcast_S1x128_S128x128_0_1 (broadcastInDim S1x128 ![1] bcast_S128_S1x128_1 b₁))) (broadcastInDim S128x128 ![] bcast_S_S128x128 (constant S_ .f32 0x00000000#32))) W₂)
    (broadcastInDim S128x64 ![0, 1] bcast_S1x64_S128x64_0_1 (broadcastInDim S1x64 ![1] bcast_S64_S1x64_1 b₂))
/-- The classifier's ten outputs. -/
def logits (t : A S128x64) (W₃ : A S64x10) (b₃ : A S10) : A S128x10 :=
  addf (Host.dotGeneral dot_S128x64_S64x10_S128x10_1_0_0_1_n_n none (maximumf t (broadcastInDim S128x64 ![] bcast_S_S128x64 (constant S_ .f32 0x00000000#32))) W₃)
    (broadcastInDim S128x10 ![0, 1] bcast_S1x10_S128x10_0_1 (broadcastInDim S1x10 ![1] bcast_S10_S1x10_1 b₃))
/-- Each row less its largest entry. -/
def shifted (l : A S128x10) : A S128x10 :=
  subf l (broadcastInDim S128x10 ![0, 1] bcast_S128x1_S128x10_0_1 (broadcastInDim S128x1 ![0] bcast_S128_S128x1_0 (maximumf (broadcastInDim S128 ![] bcast_S_S128 (constant S_ .f32 0xFF800000#32)) (Host.reduce FloatOps.maximumf l (constant S_ .f32 0xFF800000#32) reducesTo_S128x10_S128_d1 h_S_))))
/-- The logarithm of the softmax of each row. -/
def logSoftmax (l : A S128x10) : A S128x10 :=
  subf (shifted l) (broadcastInDim S128x10 ![0, 1] bcast_S128x1_S128x10_0_1 (Host.log (broadcastInDim S128x1 ![0] bcast_S128_S128x1_0 (Host.reduceAdd (Host.exp (shifted l)) (constant S_ .f32 0x00000000#32) reducesTo_S128x10_S128_d1 h_S_))))

/-! ## What the kernel's host operations compute their own way -/

/-- A convolution to one feature per node computed on plain vectors. -/
def scoreVec (hp : A S10000) (c : A S320000) (src dst : I S320000) (mask d : A S10000) (pb : A S_) : A S10000 :=
  mulf (addf (addf (Host.scatterAdd scatter_S10000_S320000x1_S320000_n_0_0_1 (splatN 0x00000000#32) (colE dst)
      (mulf (Host.gather gather_S10000_S320000x1_S320000_n_0_n_n_0_1_1 hp (wrapE src)) c))
    (mulf hp (Host.divf mask d))) (broadcastInDim S10000 ![] bcast_S_S10000 pb)) mask
/-- One at a node's own graph, zero at the others. -/
def member (batch : I S10000) : A S10000x128 :=
  uitofp .f32 (cmpi .eq (broadcastInDim S10000x128 ![0, 1] bcast_S10000x1_S10000x128_0_1 (colN batch)) (broadcastInDim S10000x128 ![0, 1] bcast_S1x128_S10000x128_0_1 (broadcastInDim S1x128 ![1] bcast_S128_S1x128_1 (iotaInDim S128 32 0))))

end Cert.Gnn

end
-- ==== Proof.Epilogue.lean ====
/-
  What the three epilogue kernels leave: the neighbours' sums with the node's own features, the bias and the mask, cut at zero.
-/
module

public import proofs.«01_k».proof.Proof.Model
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Gnn.Epilogue

open Idealize.ShloMosaic Idealize.ShloMosaic.TcCoe Cert.KernelIdeal Cert.KernelIdeal.Gen

/-- The epilogue over columns of scales and masks and a row of biases. -/
def epiCols (g hw : A S10000x128) (s k : A S10000x1) (b : A S1x128) : A S10000x128 :=
  maximumf (mulf (addf (addf g (mulf hw (broadcastInDim S10000x128 ![0, 1] Cert.ReferenceIdeal.Facts₀.bcast_S10000x1_S10000x128_0_1 s))) (broadcastInDim S10000x128 ![0, 1] Cert.ReferenceIdeal.Facts₀.bcast_S1x128_S10000x128_0_1 b))
      (broadcastInDim S10000x128 ![0, 1] Cert.ReferenceIdeal.Facts₀.bcast_S10000x1_S10000x128_0_1 k))
    (broadcastInDim S10000x128 ![] Cert.ReferenceIdeal.Facts₀.bcast_S_S10000x128 (constant S_ .f32 0x00000000#32))
/-- Over columns and a row made from vectors it is the epilogue. -/
theorem epiCols_eq (g hw : A S10000x128) (s k : A S10000) (b : A S128) :
    epiCols g hw (col s) (col k) (shapeCast S1x128 b Facts₀.shapeCasts_S128_S1x128) = epi g hw s k b := by
  have h : shapeCast S1x128 b Facts₀.shapeCasts_S128_S1x128 = broadcastInDim S1x128 ![1] Cert.ReferenceIdeal.Facts₀.bcast_S128_S1x128_1 b := by
    funext j; pointwise
  rw [h]; rfl

variable (V : (c : Dev nD) → (b : Ref sig .tc) → Buf (Elt Ideal) ((c : Thread nD τ).loc b))

/-- The blocks of the first epilogue at a grid point. -/
theorem idx1 : ∀ t : Fin cfg1.N, win1_0.index t = ![t.val, 0] ∧ win1_1.index t = ![t.val, 0] ∧ win1_2.index t = ![t.val, 0]
    ∧ win1_3.index t = ![t.val, 0] ∧ win1_4.index t = ![0, 0] ∧ win1_5.index t = ![t.val, 0] :=
  (by decide +kernel : ∀ t : Fin grid1.N, _)
/-- The first epilogue. -/
theorem final1 (c : Dev nD) : (dat1 V c).arrAt 5 cfg1.N = epiCols (V c main_v57) (V c main_v20) (V c main_v59) (V c main_v60) (V c main_v61) := by
  refine (dat1 V c).arrAt_eq_of_covers 5 _ (by decide +kernel) fun t _ y => ?_
  blk_simp
  rw [after1_5]; frame_out
  pointwise [k1_pay1, epiCols]
  blk_point [iblk1, idx1 t]

/-- The blocks of the second epilogue at a grid point. -/
theorem idx4 : ∀ t : Fin cfg4.N, win4_0.index t = ![t.val, 0] ∧ win4_1.index t = ![t.val, 0] ∧ win4_2.index t = ![t.val, 0]
    ∧ win4_3.index t = ![t.val, 0] ∧ win4_4.index t = ![0, 0] ∧ win4_5.index t = ![t.val, 0] :=
  (by decide +kernel : ∀ t : Fin grid4.N, _)
/-- The second epilogue. -/
theorem final4 (c : Dev nD) : (dat4 V c).arrAt 5 cfg4.N = epiCols (V c main_v217) (V c main_v180) (V c main_v219) (V c main_v220) (V c main_v221) := by
  refine (dat4 V c).arrAt_eq_of_covers 5 _ (by decide +kernel) fun t _ y => ?_
  blk_simp
  rw [after4_5]; frame_out
  pointwise [k4_pay1, epiCols]
  blk_point [iblk4, idx4 t]

/-- The blocks of the third epilogue at a grid point. -/
theorem idx7 : ∀ t : Fin cfg7.N, win7_0.index t = ![t.val, 0] ∧ win7_1.index t = ![t.val, 0] ∧ win7_2.index t = ![t.val, 0]
    ∧ win7_3.index t = ![t.val, 0] ∧ win7_4.index t = ![0, 0] ∧ win7_5.index t = ![t.val, 0] :=
  (by decide +kernel : ∀ t : Fin grid7.N, _)
/-- The third epilogue. -/
theorem final7 (c : Dev nD) : (dat7 V c).arrAt 5 cfg7.N = epiCols (V c main_v377) (V c main_v340) (V c main_v379) (V c main_v380) (V c main_v381) := by
  refine (dat7 V c).arrAt_eq_of_covers 5 _ (by decide +kernel) fun t _ y => ?_
  blk_simp
  rw [after7_5]; frame_out
  pointwise [k7_pay1, epiCols]
  blk_point [iblk7, idx7 t]

end Cert.Gnn.Epilogue

end
-- ==== Proof.Words.lean ====
/-
  The extended reals that the programs' float words denote, and what a bit is as a number.
-/
module

public import Idealize.ShloMosaic.PureOps.Ideal
public import Idealize.ShloMosaic.Lib.Pointwise

@[expose] public section

noncomputable section

namespace Cert.Gnn.Words

open Idealize.ShloMosaic

/-- The stand-in for minus infinity. -/
def low : EReal := Ideal.ofBits FTy.f32 0xF149F2CA#32
/-- The threshold under which a maximum counts as that of an empty graph. -/
def thr : EReal := Ideal.ofBits FTy.f32 0xEFA18F08#32

/-- The word of minus infinity. -/
theorem bot_word : Ideal.ofBits FTy.f32 0xFF800000#32 = ⊥ := by
  show Ideal.ieee 8 23 (0xFF800000#32 : BitVec 32) = ⊥
  simp [Ideal.ieee]
/-- The word of plus infinity. -/
theorem top_word : Ideal.ofBits FTy.f32 0x7F800000#32 = ⊤ := by
  show Ideal.ieee 8 23 (0x7F800000#32 : BitVec 32) = ⊤
  simp [Ideal.ieee]
/-- The word of zero. -/
theorem zero_word : Ideal.ofBits FTy.f32 0x00000000#32 = 0 := by
  show Ideal.ieee 8 23 (0x00000000#32 : BitVec 32) = 0
  simp [Ideal.ieee]
/-- The word of one. -/
theorem one_word : Ideal.ofBits FTy.f32 0x3F800000#32 = 1 := by
  show Ideal.ieee 8 23 (0x3F800000#32 : BitVec 32) = 1
  simp [Ideal.ieee]
  rw [← EReal.coe_mul, ← EReal.coe_one]; norm_num
/-- The stand-in is a real number, -/
theorem low_real : ∃ r : ℝ, low = (r : EReal) ∧ r = -(13234890 * 2 ^ 76) := by
  refine ⟨_, ?_, rfl⟩
  show Ideal.ieee 8 23 (0xF149F2CA#32 : BitVec 32) = _
  simp [Ideal.ieee]
/-- and so is the threshold, -/
theorem thr_real : ∃ r : ℝ, thr = (r : EReal) ∧ r = -(10587912 * 2 ^ 73) := by
  refine ⟨_, ?_, rfl⟩
  show Ideal.ieee 8 23 (0xEFA18F08#32 : BitVec 32) = _
  simp [Ideal.ieee]
/-- which is the larger. -/
theorem low_le_thr : low ≤ thr := by
  obtain ⟨a, ha, ea⟩ := low_real
  obtain ⟨b, hb, eb⟩ := thr_real
  rw [ha, hb, EReal.coe_le_coe_iff, ea, eb]; norm_num

/-- Vectors that agree at every index are equal. -/
theorem ext1 {α : Type} {a : ℕ} {f g : (⟨1, ![a]⟩ : Shape).Idx → α} (h : ∀ i, f (ix1 i) = g (ix1 i)) : f = g :=
  funext fun j => by rw [eq_ix1 j]; exact h _
/-- Matrices that agree at every index are equal. -/
theorem ext2 {α : Type} {a b : ℕ} {f g : (⟨2, ![a, b]⟩ : Shape).Idx → α} (h : ∀ i k, f (ix2 i k) = g (ix2 i k)) : f = g :=
  funext fun j => by rw [eq_ix2 j]; exact h _ _

/-- A bit as a number is zero or one. -/
theorem bit_num (b : BitVec 1) : (FloatOps.uitofp (F := Ideal) .f32 b : EReal) = 0 ∨ (FloatOps.uitofp (F := Ideal) .f32 b : EReal) = 1 := by
  show ((b.toNat : ℝ) : EReal) = 0 ∨ ((b.toNat : ℝ) : EReal) = 1
  have : b.toNat < 2 := b.isLt
  interval_cases b.toNat <;> simp

end Cert.Gnn.Words

end
-- ==== Proof.Scatter.lean ====
/-
  Where the one-word scatters of the graph land and what the one-word gathers read, at an index.
-/
module

public import proofs.«01_k».proof.Proof.Model
public import Idealize.ShloMosaic.Lib.Pointwise

@[expose] public section

set_option maxRecDepth 16384

noncomputable section

namespace Cert.Gnn.Scatter

open Idealize.ShloMosaic

/-- An update lands at a place exactly when its start and its window coordinate add up to the place on every axis. -/
theorem lands {s si u : Shape} {w : Nat} (d : ScatterDims s si u) (k : u.Idx) (idx : IVec si w) (y : s.Idx) :
    d.resultIdx? k idx = some y ↔ ∀ a, d.start k idx a + (d.window k a : Int) = ((y a).val : Int) := by
  rw [ScatterDims.resultIdx?]
  split_ifs with h
  · rw [Option.some_inj, funext_iff]
    refine forall_congr' fun a => ?_
    rw [Fin.ext_iff]
    have := (h a).1
    show (d.start k idx a + (d.window k a : Int)).toNat = (y a).val ↔ _
    omega
  · refine ⟨fun e => (by cases e), fun e => (h fun a => ?_).elim⟩
    have := (y a).isLt
    rw [e a]; omega

variable {R K C : ℕ}

/-- An update of one number per start word lands at the place its word names. -/
theorem lands_one (wf : ScatterDims.WF ⟨1, ![R]⟩ ⟨2, ![K, 1]⟩ ⟨1, ![K]⟩ [] [0] [0] 1) (idx : IVec ⟨2, ![K, 1]⟩ 32) (k : Fin K) (r : Fin R) :
    (ScatterDims.mk (s := ⟨1, ![R]⟩) (si := ⟨2, ![K, 1]⟩) (u := ⟨1, ![K]⟩) [] [0] [0] 1 wf).resultIdx? (ix1 k) idx = some (ix1 r)
      ↔ (idx (ix2 k 0)).toInt = (r.val : Int) := by
  rw [lands]
  have hs : (ScatterDims.mk (s := ⟨1, ![R]⟩) (si := ⟨2, ![K, 1]⟩) (u := ⟨1, ![K]⟩) [] [0] [0] 1 wf).start (ix1 k) idx 0 = (idx (ix2 k 0)).toInt := by
    show (idx _).toInt = _
    congr 2; funext b
    match b with
    | ⟨0, _⟩ => rfl
    | ⟨1, _⟩ => rfl
  have hw : (ScatterDims.mk (s := ⟨1, ![R]⟩) (si := ⟨2, ![K, 1]⟩) (u := ⟨1, ![K]⟩) [] [0] [0] 1 wf).window (ix1 k) 0 = 0 := rfl
  constructor
  · intro h; have := h 0; rw [hs, hw] at this; simpa using this
  · intro h a
    obtain rfl : a = 0 := Subsingleton.elim _ _
    rw [hs, hw, h]; simp

/-- An update of one row per start word lands at its own column of the row its word names. -/
theorem lands_row (wf : ScatterDims.WF ⟨2, ![R, C]⟩ ⟨2, ![K, 1]⟩ ⟨2, ![K, C]⟩ [1] [0] [0] 1) (idx : IVec ⟨2, ![K, 1]⟩ 32) (k : Fin K) (c : Fin C) (r : Fin R) (c' : Fin C) :
    (ScatterDims.mk (s := ⟨2, ![R, C]⟩) (si := ⟨2, ![K, 1]⟩) (u := ⟨2, ![K, C]⟩) [1] [0] [0] 1 wf).resultIdx? (ix2 k c) idx = some (ix2 r c')
      ↔ (idx (ix2 k 0)).toInt = (r.val : Int) ∧ c = c' := by
  rw [lands]
  have hs : (ScatterDims.mk (s := ⟨2, ![R, C]⟩) (si := ⟨2, ![K, 1]⟩) (u := ⟨2, ![K, C]⟩) [1] [0] [0] 1 wf).start (ix2 k c) idx 0 = (idx (ix2 k 0)).toInt := by
    show (idx _).toInt = _
    congr 2; funext b
    match b with
    | ⟨0, _⟩ => rfl
    | ⟨1, _⟩ => rfl
  have hs1 : (ScatterDims.mk (s := ⟨2, ![R, C]⟩) (si := ⟨2, ![K, 1]⟩) (u := ⟨2, ![K, C]⟩) [1] [0] [0] 1 wf).start (ix2 k c) idx 1 = 0 := rfl
  have hw : (ScatterDims.mk (s := ⟨2, ![R, C]⟩) (si := ⟨2, ![K, 1]⟩) (u := ⟨2, ![K, C]⟩) [1] [0] [0] 1 wf).window (ix2 k c) 0 = 0 := rfl
  have hw1 : (ScatterDims.mk (s := ⟨2, ![R, C]⟩) (si := ⟨2, ![K, 1]⟩) (u := ⟨2, ![K, C]⟩) [1] [0] [0] 1 wf).window (ix2 k c) 1 = c.val := rfl
  constructor
  · intro h
    have h0 := h 0; rw [hs, hw] at h0
    have h1 := h 1; rw [hs1, hw1] at h1
    refine ⟨by simpa using h0, Fin.ext ?_⟩
    have : (c.val : Int) = (c'.val : Int) := by simpa using h1
    omega
  · rintro ⟨h, rfl⟩ a
    match a with
    | ⟨0, _⟩ => exact (congrArg₂ (fun (p : Int) (q : ℕ) => p + (q : Int)) (hs.trans h) hw).trans (by simp)
    | ⟨1, _⟩ => exact (congrArg₂ (fun (p : Int) (q : ℕ) => p + (q : Int)) hs1 hw1).trans (by simp)

/-- A gather of one number per start word reads the place its word names, clamped into the array. -/
theorem gather_one {α : Type} (hR : 0 < R) (wf : GatherDims.WF ⟨1, ![R]⟩ ⟨2, ![K, 1]⟩ ⟨1, ![K]⟩ [] [0] [] [0] [] 1 ![1]) (x : (⟨1, ![R]⟩ : Shape).Idx → α) (idx : IVec ⟨2, ![K, 1]⟩ 32) (k : Fin K) :
    Host.gather (GatherDims.mk (s := ⟨1, ![R]⟩) (si := ⟨2, ![K, 1]⟩) (t := ⟨1, ![K]⟩) [] [0] [] [] [0] 1 ![1] wf) x idx (ix1 k)
      = x (ix1 ⟨min (idx (ix2 k 0)).toInt.toNat (R - 1), by omega⟩) := by
  unfold Host.gather
  congr 1; funext a
  obtain rfl : a = 0 := Subsingleton.elim _ _
  refine Fin.ext ?_
  refine congrArg (fun i => min (idx i).toInt.toNat (R - 1)) (?_ : _ = (ix2 k 0 : (⟨2, ![K, 1]⟩ : Shape).Idx))
  funext b
  match b with
  | ⟨0, _⟩ => rfl
  | ⟨1, _⟩ => rfl

/-- A gather of one row per start word reads its own column of the row its word names, clamped into the array. -/
theorem gather_row {α : Type} (hR : 0 < R) (wf : GatherDims.WF ⟨2, ![R, C]⟩ ⟨2, ![K, 1]⟩ ⟨2, ![K, C]⟩ [1] [0] [] [0] [] 1 ![1, C]) (x : (⟨2, ![R, C]⟩ : Shape).Idx → α) (idx : IVec ⟨2, ![K, 1]⟩ 32) (k : Fin K) (c : Fin C) :
    Host.gather (GatherDims.mk (s := ⟨2, ![R, C]⟩) (si := ⟨2, ![K, 1]⟩) (t := ⟨2, ![K, C]⟩) [1] [0] [] [] [0] 1 ![1, C] wf) x idx (ix2 k c)
      = x (ix2 ⟨min (idx (ix2 k 0)).toInt.toNat (R - 1), by omega⟩ c) := by
  unfold Host.gather
  congr 1; funext a
  refine Fin.ext ?_
  match a with
  | ⟨0, _⟩ =>
    refine congrArg (fun i => min (idx i).toInt.toNat (R - 1)) (?_ : _ = (ix2 k 0 : (⟨2, ![K, 1]⟩ : Shape).Idx))
    funext b
    match b with
    | ⟨0, _⟩ => rfl
    | ⟨1, _⟩ => rfl
  | ⟨1, _⟩ =>
    show 0 + 0 + c.val = c.val
    omega

/-- A scatter that adds one number per start word: each place collects the updates whose word names it. -/
theorem sum_one (wf : ScatterDims.WF ⟨1, ![R]⟩ ⟨2, ![K, 1]⟩ ⟨1, ![K]⟩ [] [0] [0] 1) (x : FVec Ideal ⟨1, ![R]⟩ .f32) (idx : IVec ⟨2, ![K, 1]⟩ 32) (u : FVec Ideal ⟨1, ![K]⟩ .f32) (r : Fin R) :
    Host.scatterAdd (ScatterDims.mk (s := ⟨1, ![R]⟩) (si := ⟨2, ![K, 1]⟩) (u := ⟨1, ![K]⟩) [] [0] [0] 1 wf) x idx u (ix1 r)
      = (x (ix1 r) : EReal) + ∑ k : Fin K, if (idx (ix2 k 0)).toInt = (r.val : Int) then (u (ix1 k) : EReal) else 0 := by
  show (x (ix1 r) : EReal) + (∑ j ∈ Finset.univ.filter _, (u j : EReal)) = _
  rw [Finset.sum_filter, sum_idx1]
  congr 1
  refine Finset.sum_congr rfl fun k _ => if_congr ?_ rfl rfl
  rw [← lands_one wf]

/-- A scatter that adds one row per start word: each place collects its column of the updates whose word names its row. -/
theorem sum_row (wf : ScatterDims.WF ⟨2, ![R, C]⟩ ⟨2, ![K, 1]⟩ ⟨2, ![K, C]⟩ [1] [0] [0] 1) (x : FVec Ideal ⟨2, ![R, C]⟩ .f32) (idx : IVec ⟨2, ![K, 1]⟩ 32) (u : FVec Ideal ⟨2, ![K, C]⟩ .f32) (r : Fin R) (c : Fin C) :
    Host.scatterAdd (ScatterDims.mk (s := ⟨2, ![R, C]⟩) (si := ⟨2, ![K, 1]⟩) (u := ⟨2, ![K, C]⟩) [1] [0] [0] 1 wf) x idx u (ix2 r c)
      = (x (ix2 r c) : EReal) + ∑ k : Fin K, if (idx (ix2 k 0)).toInt = (r.val : Int) then (u (ix2 k c) : EReal) else 0 := by
  show (x (ix2 r c) : EReal) + (∑ j ∈ Finset.univ.filter _, (u j : EReal)) = _
  rw [Finset.sum_filter, sum_idx2]
  congr 1
  refine Finset.sum_congr rfl fun k _ => ?_
  rw [Finset.sum_eq_single c]
  · refine if_congr ?_ rfl rfl
    rw [lands_row wf]; simp
  · intro c' _ hc
    rw [if_neg]; rw [lands_row wf]; exact fun e => hc e.2
  · exact fun h => (h (Finset.mem_univ c)).elim

end Cert.Gnn.Scatter

end
-- ==== Proof.Score.lean ====
/-
  The scores of the nodes: a convolution to one feature per node is the same on plain vectors as on matrices of one
  column; and the reciprocal square root of a degree made positive is one over its root.
-/
module

public import proofs.«01_k».proof.Proof.Model
public import proofs.«01_k».proof.KernelIdeal
public import proofs.«01_k».proof.Proof.Words
public import proofs.«01_k».proof.Proof.Scatter

@[expose] public section

set_option maxRecDepth 20000

noncomputable section

namespace Cert.Gnn.Score

open Idealize.ShloMosaic Cert.ReferenceIdeal Cert.Gnn.Words

/-- The neighbours' sum of a column read at a node. -/
theorem neighbours_eq (hp : A S10000x1) (c : A S320000) (src dst : I S320000) (n : Fin 10000) :
    (Host.scatterAdd scatter_S10000x1_S320000x1_S320000x1_1_0_0_1 (broadcastInDim S10000x1 ![] Facts₀.bcast_S_S10000x1 (constant S_ .f32 0x00000000#32)) (colE dst)
      (mulf (Host.gather gather_S10000x1_S320000x1_S320000x1_1_0_n_n_0_1_11 hp (wrapE src)) (broadcastInDim S320000x1 ![0] Facts₀.bcast_S320000_S320000x1_0 c)) (ix2 n 0) : EReal)
    = (Host.scatterAdd scatter_S10000_S320000x1_S320000_n_0_0_1 (splatN 0x00000000#32) (colE dst)
      (mulf (Host.gather gather_S10000_S320000x1_S320000_n_0_n_n_0_1_1 (shapeCast S10000 hp Facts₀.shapeCasts_S10000x1_S10000) (wrapE src)) c) (ix1 n) : EReal) := by
  refine (Scatter.sum_row Facts₀.scatter_S10000x1_S320000x1_S320000x1_1_0_0_1_wf _ _ _ n 0).trans (Eq.trans ?_ (Scatter.sum_one Facts₀.scatter_S10000_S320000x1_S320000_n_0_0_1_wf _ _ _ n).symm)
  refine congrArg₂ (fun a b : EReal => a + b) ?_ ?_
  · pointwise [splatN]
  · refine Finset.sum_congr rfl fun k _ => if_congr Iff.rfl ?_ rfl
    refine congrArg₂ (fun a b : EReal => a * b) ?_ ?_
    · refine (Scatter.gather_row (by decide) Facts₀.gather_S10000x1_S320000x1_S320000x1_1_0_n_n_0_1_11_wf _ _ k 0).trans (Eq.trans ?_ (Scatter.gather_one (by decide) Facts₀.gather_S10000_S320000x1_S320000_n_0_n_n_0_1_1_wf _ _ k).symm)
      generalize (⟨_, _⟩ : Fin 10000) = r
      pointwise
    · pointwise

/-- The rest of the convolution is the same on a column as on the plain vector. -/
theorem tail_eq (g hp : A S10000x1) (g' mask d : A S10000) (pb : A S1) (h : ∀ n, (g (ix2 n 0) : EReal) = (g' (ix1 n) : EReal))
    (hs : Cert.KernelIdeal.S10000x1.ShapeCasts Cert.KernelIdeal.S10000) (hb : Cert.KernelIdeal.S1.ShapeCasts Cert.KernelIdeal.S_) :
    mulf (addf (addf g' (mulf (shapeCast S10000 hp hs) (Host.divf mask d))) (broadcastInDim S10000 ![] Facts₀.bcast_S_S10000 (shapeCast S_ pb hb))) mask
      = shapeCast S10000 (mulf (addf (addf g (mulf hp (col (Host.divf mask d)))) (broadcastInDim S10000x1 ![0, 1] Facts₀.bcast_S1x1_S10000x1_0_1 (broadcastInDim S1x1 ![1] Facts₀.bcast_S1_S1x1_1 pb))) (col mask)) Facts₀.shapeCasts_S10000x1_S10000 := by
  refine ext1 fun n => ?_
  show (_ : EReal) = _
  pointwise [col]
  rw [h n]

/-- The scores on plain vectors are the scores on one-column matrices. -/
theorem scoreVec_eq (hp : A S10000x1) (pb : A S1) (src dst : I S320000) (ew : A S320000) (mask d : A S10000)
    (hs : Cert.KernelIdeal.S10000x1.ShapeCasts Cert.KernelIdeal.S10000) (hb : Cert.KernelIdeal.S1.ShapeCasts Cert.KernelIdeal.S_) :
    scoreVec (shapeCast S10000 hp hs) (coef (inv d) src dst ew) src dst mask d (shapeCast S_ pb hb) = scoreD hp pb src dst ew mask d :=
  tail_eq _ hp _ mask d pb (neighbours_eq hp (coef (inv d) src dst ew) src dst) hs hb

/-- The degrees are positive. -/
theorem degSafe_pos (dst : I S320000) (ew : A S320000) (mask : A S10000) (n : Fin 10000) : 0 < (degSafe dst ew mask (ix1 n) : EReal) := by
  unfold degSafe
  generalize deg dst ew mask = g
  pointwise [splatN]
  by_cases h : 0 < (g (ix1 n) : EReal)
  · rw [if_pos h]; exact h
  · rw [if_neg h]
    show (0 : EReal) < Ideal.ofBits FTy.f32 0x3F800000#32
    rw [one_word]; exact zero_lt_one

/-- The reciprocal root of a positive number is one over its root. -/
theorem rsqrt_one (x : EReal) (h : 0 < x) : Ideal.rsqrt x = Ideal.div 1 (Ideal.sqrt x) := by
  induction x with
  | bot => exact absurd h (by simp)
  | top =>
    show (0 : EReal) = Ideal.div 1 ⊤
    rw [Ideal.div, if_neg (by simp)]; simp
  | coe r =>
    have hr : 0 < r := by exact_mod_cast h
    have hs : (Real.sqrt r) ≠ 0 := (Real.sqrt_pos.mpr hr).ne'
    show (if r < 0 then (⊥ : EReal) else if r = 0 then ⊤ else ((Real.sqrt r)⁻¹ : ℝ)) = Ideal.div 1 (if r < 0 then ⊥ else (Real.sqrt r : EReal))
    rw [if_neg hr.not_gt, if_neg hr.ne', if_neg hr.not_gt, Ideal.div_coe hs, one_mul, one_div]

/-- The reciprocal root of a positive array. -/
theorem rsqrt_eq (d : A S10000) (h : ∀ n, 0 < (d (ix1 n) : EReal)) : Host.rsqrt d = inv d := by
  refine ext1 fun n => ?_
  show (_ : EReal) = _
  pointwise [inv, splatN]
  exact rsqrt_one _ (h n)

end Cert.Gnn.Score

end
-- ==== Proof.Running.lean ====
/-
  A running maximum over the rows of a block, taken fifty rows at a time in a loop, and over the blocks of a grid.
-/
module

public import proofs.«01_k».proof.Proof.Model
public import proofs.«01_k».proof.Proof.Words
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Gnn.Running

open Cert.Gnn.Words Idealize.ShloMosaic Idealize.ShloMosaic.TcCoe Cert.KernelIdeal Cert.KernelIdeal.Gen

/-- What node `n` offers to the maximum of graph `b`: its feature if it is a member that is kept, the stand-in otherwise. -/
def offer {N : ℕ} (x o : A ⟨2, ![N, 128]⟩) (m : A ⟨2, ![N, 1]⟩) (n : Fin N) (b h : Fin 128) : EReal :=
  if 0 < (o (ix2 n b) : EReal) * (m (ix2 n 0) : EReal) then (x (ix2 n h) : EReal) else low

/-- A fold of maxima is below a bound exactly when its start and every entry are. -/
theorem fold_max_le {ι : Type} [Fintype ι] (a : EReal) (f : ι → EReal) (y : EReal) :
    Finset.fold max a f Finset.univ ≤ y ↔ a ≤ y ∧ ∀ i, f i ≤ y := by
  rw [Finset.fold_max_le]; simp

/-- One trip: the bounds of the new maximum are those of the old one and of the fifty rows. -/
theorem pay8_le (x o : Vec Ideal S50x128 .f32) (m : Vec Ideal S50x1 .f32) (g : Vec Ideal S128x128 .f32) (b h : Fin 128) (y : EReal) :
    (k2_pay8 x o m g (ix2 b h) : EReal) ≤ y ↔ (g (ix2 b h) : EReal) ≤ y ∧ ∀ r : Fin 50, offer (N := 50) x o m r b h ≤ y := by
  have e : (k2_pay8 x o m g (ix2 b h) : EReal) = max (g (ix2 b h) : EReal) (Finset.fold max (Ideal.ofBits FTy.f32 0xFF800000#32) (fun r : Fin 50 => offer (N := 50) x o m r b h) Finset.univ) := by
    pointwise [k2_pay8, offer, low]
  rw [e, max_le_iff, fold_max_le, bot_word]
  simp

/-- Row `r` of the fifty that trip `k` reads. -/
abbrev rowOf (k : Fin 40) (r : Fin 50) : Fin 2000 := ⟨50 * k.val + r.val, by have := k.isLt; have := r.isLt; omega⟩

/-- Every row of a block is read by one trip. -/
theorem rows_iff (P : Fin 2000 → Prop) : (∀ (k : Fin 40) (r : Fin 50), P (rowOf k r)) ↔ ∀ n, P n := by
  refine ⟨fun h n => ?_, fun h k r => h _⟩
  have := h ⟨n.val / 50, by have := n.isLt; omega⟩ ⟨n.val % 50, by omega⟩
  rwa [show rowOf ⟨n.val / 50, _⟩ ⟨n.val % 50, _⟩ = n from Fin.ext (Nat.div_add_mod n.val 50)] at this

/-- Row `r` of the block at grid point `t`. -/
abbrev nodeOf (t : Fin 5) (r : Fin 2000) : Fin 10000 := ⟨t.val * 2000 + r.val, by have := t.isLt; have := r.isLt; omega⟩

/-- Every node lies in one block. -/
theorem nodes_iff (P : Fin 10000 → Prop) : (∀ (t : Fin 5) (r : Fin 2000), P (nodeOf t r)) ↔ ∀ n, P n := by
  refine ⟨fun h n => ?_, fun h k r => h _⟩
  have := h ⟨n.val / 2000, by have := n.isLt; omega⟩ ⟨n.val % 2000, by omega⟩
  rwa [show nodeOf ⟨n.val / 2000, _⟩ ⟨n.val % 2000, _⟩ = n from Fin.ext (Nat.div_add_mod' n.val 2000)] at this

section Loop

variable (v : View sig .tc .vmem S128x128 .f32) (G : v.ty.Contents (Elt Ideal)) (pb : ℕ → List (View.Piece (Elt Ideal) S128x128 .f32))
  (x o : A S2000x128) (m : A S2000x1)

/-- The trips before `k + 1` are those before `k` and one more, which stores the new maximum over the whole array from its fifty rows. -/
def Trip (k : Fin 40) : Prop := ∃ (xs os : Vec Ideal S50x128 .f32) (ms : Vec Ideal S50x1 .f32),
  (∀ r h, xs (ix2 r h) = x (ix2 (rowOf k r) h)) ∧ (∀ r h, os (ix2 r h) = o (ix2 (rowOf k r) h)) ∧ (∀ r, ms (ix2 r 0) = m (ix2 (rowOf k r) 0))
    ∧ pb (k.val + 1) = ⟨Rect.unit ![0, 0] S128x128.size inb_S128x128_S128x128_0_0, k2_pay8 xs os ms (v.read (Elt Ideal) (v.writes (Elt Ideal) G (pb k.val)))⟩ :: pb k.val

/-- After a store over the whole array it reads what was stored. -/
theorem read_store (w : S128x128.Idx → Elt Ideal .f32) (L : List (View.Piece (Elt Ideal) S128x128 .f32)) :
    v.read (Elt Ideal) (v.writes (Elt Ideal) G (⟨Rect.unit ![0, 0] S128x128.size inb_S128x128_S128x128_0_0, w⟩ :: L)) = w := by
  have hz : (![0, 0] : Fin S128x128.rank → ℕ) = fun _ => 0 := by decide
  rw [View.read_writes_eq_canon _ _ _ fun y => ⟨_, List.mem_cons_self, View.mem_set_unit_zero hz inb_S128x128_S128x128_0_0 y⟩]
  exact View.canon_cons_unit_zero hz inb_S128x128_S128x128_0_0 w L

/-- The bounds of the maximum before trip `n` are those of the start and of the rows read so far. -/
theorem read_le (h0 : pb 0 = []) (hs : ∀ k, Trip v G pb x o m k) (b h : Fin 128) (y : EReal) : ∀ n, n ≤ 40 →
    ((v.read (Elt Ideal) (v.writes (Elt Ideal) G (pb n)) (ix2 b h) : EReal) ≤ y
      ↔ (v.read (Elt Ideal) G (ix2 b h) : EReal) ≤ y ∧ ∀ (k : Fin 40), k.val < n → ∀ r : Fin 50, offer x o m (rowOf k r) b h ≤ y)
  | 0, _ => by rw [h0]; simp [View.writes_nil]
  | n + 1, hn => by
    obtain ⟨xs, os, ms, hx, ho, hm, e⟩ := hs ⟨n, hn⟩
    rw [show pb (n + 1) = _ from e, read_store, pay8_le, read_le h0 hs b h y n (by omega), and_assoc]
    refine and_congr_right fun _ => ?_
    have hr : ∀ r, offer (N := 50) xs os ms r b h = offer x o m (rowOf ⟨n, hn⟩ r) b h := fun r => by
      unfold offer; rw [hx, ho, hm]
    simp only [hr]
    constructor
    · rintro ⟨ha, hb⟩ k hk
      rcases Nat.lt_succ_iff_lt_or_eq.mp hk with hk | hk
      · exact ha k hk
      · obtain rfl : k = ⟨n, hn⟩ := Fin.ext hk
        exact hb
    · exact fun ha => ⟨fun k hk => ha k (by omega), ha ⟨n, hn⟩ (Nat.lt_succ_self n)⟩

/-- What the loop leaves, whatever was stored before it: its bounds are those of the start and of every row of the block. -/
theorem loop_le (h0 : pb 0 = []) (hs : ∀ k, Trip v G pb x o m k) (L : List (View.Piece (Elt Ideal) S128x128 .f32)) (b h : Fin 128) (y : EReal) :
    (View.canon (pb 40 ++ L) (ix2 b h) : EReal) ≤ y ↔ (v.read (Elt Ideal) G (ix2 b h) : EReal) ≤ y ∧ ∀ n, offer x o m n b h ≤ y := by
  have hz : (![0, 0] : Fin S128x128.rank → ℕ) = fun _ => 0 := by decide
  have hr := read_le v G pb x o m h0 hs b h y 40 le_rfl
  obtain ⟨xs, os, ms, hx, ho, hm, e⟩ := hs 39
  have e : pb 40 = _ :: _ := e
  rw [e, read_store] at hr
  rw [e, List.cons_append, View.canon_cons_unit_zero hz, hr, ← rows_iff]
  refine and_congr_right fun _ => ⟨fun hk k => hk k k.isLt, fun hk k _ => hk k⟩

end Loop

/-- Over the five blocks: from the stand-in on, the bounds are those of every node. -/
theorem points_le {N : ℕ} (hN : N = 5) (f : (n : ℕ) → n < N → EReal) (y : EReal) (P : Fin N → Prop)
    (hA : ∀ t : Fin N, t.val % 5 = 0 → (f t.val t.isLt ≤ y ↔ low ≤ y ∧ P t))
    (hB : ∀ t : Fin N, ¬ t.val % 5 = 0 → (f t.val t.isLt ≤ y ↔ f (t.val - 1) (Nat.lt_of_le_of_lt (Nat.sub_le _ _) t.isLt) ≤ y ∧ P t)) :
    f 4 (by omega) ≤ y ↔ low ≤ y ∧ ∀ t, P t := by
  subst hN
  have h4 : f 4 _ ≤ y ↔ f 3 _ ≤ y ∧ P 4 := hB 4 (by decide)
  have h3 : f 3 _ ≤ y ↔ f 2 _ ≤ y ∧ P 3 := hB 3 (by decide)
  have h2 : f 2 _ ≤ y ↔ f 1 _ ≤ y ∧ P 2 := hB 2 (by decide)
  have h1 : f 1 _ ≤ y ↔ f 0 _ ≤ y ∧ P 1 := hB 1 (by decide)
  have h0 : f 0 _ ≤ y ↔ low ≤ y ∧ P 0 := hA 0 (by decide)
  rw [h4, h3, h2, h1, h0]
  simp only [Fin.forall_fin_succ, Fin.forall_fin_zero, and_assoc, and_true]; rfl

end Cert.Gnn.Running

end
-- ==== Proof.Trips.lean ====
/-
  The loops of the three readout kernels: each trip stores the maximum of what it found and of its fifty rows.
-/
module

public import proofs.«01_k».proof.Proof.Running

@[expose] public section

set_option maxRecDepth 16384

noncomputable section

namespace Cert.Gnn.Trips

open Cert.Gnn.Running Idealize.ShloMosaic Idealize.ShloMosaic.TcCoe Cert.KernelIdeal Cert.KernelIdeal.Gen

/-- Fifty rows read from row `50 * k` on are the rows of trip `k`. -/
theorem rows_read {C : ℕ} (k : Fin 40) (off : Fin 2 → ℕ) (hoff : off = ![50 * k.val, 0]) (inb : ∀ a, off a + (![50, C] : Fin 2 → ℕ) a ≤ (⟨2, ![2000, C]⟩ : Shape).size a)
    (sh : Memref sig .tc .vmem ⟨2, ![2000, C]⟩ .f32) (hw : sh.IsWhole) (x : A ⟨2, ![2000, C]⟩) (r : Fin 50) (h : Fin C) :
    View.readAt (Elt Ideal) sh.view (Rect.unit (s := ⟨2, ![2000, C]⟩) off ![50, C] inb).toLoadRect (hw.unread x) (ix2 r h) = x (ix2 (rowOf k r) h) := by
  subst hoff
  rw [View.readAt_eq_ld, Memref.IsWhole.read_unread]
  refine congrArg x (funext fun a => Fin.ext ?_)
  match a with
  | ⟨0, _⟩ => show 50 * k.val + 1 * r.val = 50 * k.val + r.val; omega
  | ⟨1, _⟩ => show 0 + 1 * h.val = h.val; omega

/-- A whole array read through the rectangle that covers it. -/
theorem whole_read (v : View sig .tc .vmem S128x128 .f32) (f : v.ty.Contents (Elt Ideal)) :
    View.readAt (Elt Ideal) v (Rect.unit (s := S128x128) ![0, 0] ![128, 128] inb_S128x128_S128x128_0_0).toLoadRect f = v.read (Elt Ideal) f := by
  rw [View.readAt_eq_ld]
  exact View.ld_unit_zero (by decide : (![0, 0] : Fin S128x128.rank → ℕ) = fun _ => 0) inb_S128x128_S128x128_0_0 _

variable (𝒱 : Variants) (c : Dev nD) (bd : Option 𝒱.V)
    (arg1 : Memref sig .tc .vmem S2000x128 .f32) (harg1 : arg1.IsWhole) (arg2 : Memref sig .tc .vmem S2000x1 .f32) (harg2 : arg2.IsWhole)
    (arg3 : Memref sig .tc .vmem S2000x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (x o : A S2000x128) (m : A S2000x1) (G : BufTy.Contents (Elt Ideal) arg4.view.ty) (k : Fin 40)

/-- A trip of the first layer's loop. -/
theorem trip2 (i : grid2.Coords) : Trip arg4.view G (pb_k2_t1 (F := Ideal) 𝒱 c bd i arg1 harg1 arg2 harg2 arg3 harg3 arg4 harg4 arg5 harg5 arg6 harg6 (harg1.unread x) (harg2.unread m) (harg3.unread o) G) x o m k := by
  have e := pb_k2_t1_succ (F := Ideal) 𝒱 c bd i arg1 harg1 arg2 harg2 arg3 harg3 arg4 harg4 arg5 harg5 arg6 harg6 (harg1.unread x) (harg2.unread m) (harg3.unread o) G k
  unfold tripL_k2_t1 trip_k2_t1 at e
  dsimp only at e
  rw [whole_read] at e
  exact ⟨_, _, _, fun r h => rows_read k _ (k2_off1_eq k) _ arg1 harg1 x r h, fun r h => rows_read k _ (k2_off1_eq k) _ arg3 harg3 o r h,
    fun r => rows_read k _ (k2_off2_eq k) _ arg2 harg2 m r 0, e⟩
/-- A trip of the second layer's loop. -/
theorem trip5 (i : grid5.Coords) : Trip arg4.view G (pb_k5_t1 (F := Ideal) 𝒱 c bd i arg1 harg1 arg2 harg2 arg3 harg3 arg4 harg4 arg5 harg5 arg6 harg6 (harg1.unread x) (harg2.unread m) (harg3.unread o) G) x o m k := by
  have e := pb_k5_t1_succ (F := Ideal) 𝒱 c bd i arg1 harg1 arg2 harg2 arg3 harg3 arg4 harg4 arg5 harg5 arg6 harg6 (harg1.unread x) (harg2.unread m) (harg3.unread o) G k
  unfold tripL_k5_t1 trip_k5_t1 at e
  dsimp only at e
  rw [whole_read] at e
  exact ⟨_, _, _, fun r h => rows_read k _ (k5_off1_eq k) _ arg1 harg1 x r h, fun r h => rows_read k _ (k5_off1_eq k) _ arg3 harg3 o r h,
    fun r => rows_read k _ (k5_off2_eq k) _ arg2 harg2 m r 0, e⟩
/-- A trip of the third layer's loop. -/
theorem trip8 (i : grid8.Coords) : Trip arg4.view G (pb_k8_t1 (F := Ideal) 𝒱 c bd i arg1 harg1 arg2 harg2 arg3 harg3 arg4 harg4 arg5 harg5 arg6 harg6 (harg1.unread x) (harg2.unread m) (harg3.unread o) G) x o m k := by
  have e := pb_k8_t1_succ (F := Ideal) 𝒱 c bd i arg1 harg1 arg2 harg2 arg3 harg3 arg4 harg4 arg5 harg5 arg6 harg6 (harg1.unread x) (harg2.unread m) (harg3.unread o) G k
  unfold tripL_k8_t1 trip_k8_t1 at e
  dsimp only at e
  rw [whole_read] at e
  exact ⟨_, _, _, fun r h => rows_read k _ (k8_off1_eq k) _ arg1 harg1 x r h, fun r h => rows_read k _ (k8_off1_eq k) _ arg3 harg3 o r h,
    fun r => rows_read k _ (k8_off2_eq k) _ arg2 harg2 m r 0, e⟩

end Cert.Gnn.Trips

end
-- ==== Proof.Readout.lean ====
/-
  What a readout kernel's running maxima, sums and counts are over a grid of five points.
-/
module

public import proofs.«01_k».proof.Proof.Trips

@[expose] public section

set_option maxRecDepth 16384

noncomputable section

namespace Cert.Gnn.Readout

open Cert.Gnn.Words Cert.Gnn.Running Cert.Gnn.Trips Idealize.ShloMosaic Idealize.ShloMosaic.TcCoe Cert.KernelIdeal Cert.KernelIdeal.Gen

/-- The bounds of `mx` are those of the stand-in and of what every node offers. -/
def IsMax (mx : A S128x128) (x o : A S10000x128) (m : A S10000x1) : Prop := ∀ (b h : Fin 128) (y : EReal),
  (mx (ix2 b h) : EReal) ≤ y ↔ low ≤ y ∧ ∀ n, offer x o m n b h ≤ y
/-- `sm` sums, per graph and feature, the features of the members that are kept. -/
def IsSum (sm : A S128x128) (x o : A S10000x128) (m : A S10000x1) : Prop := ∀ (b h : Fin 128),
  (sm (ix2 b h) : EReal) = ∑ n : Fin 10000, (o (ix2 n b) : EReal) * (m (ix2 n 0) : EReal) * ((x (ix2 n h) : EReal) * (m (ix2 n 0) : EReal))
/-- `ct` counts, per graph, the members that are kept. -/
def IsCount (ct : A S1x128) (o : A S10000x128) (m : A S10000x1) : Prop := ∀ (b : Fin 128),
  (ct (ix2 0 b) : EReal) = ∑ n : Fin 10000, (o (ix2 n b) : EReal) * (m (ix2 n 0) : EReal)

/-- The accumulating payload of the sums. -/
theorem pay6_apply (x o : Vec Ideal S2000x128 .f32) (m : Vec Ideal S2000x1 .f32) (g : Vec Ideal S128x128 .f32) (b h : Fin 128) :
    (k2_pay6 x m o g (ix2 b h) : EReal) = (g (ix2 b h) : EReal) + ∑ n : Fin 2000, (o (ix2 n b) : EReal) * (m (ix2 n 0) : EReal) * ((x (ix2 n h) : EReal) * (m (ix2 n 0) : EReal)) := by
  pointwise [k2_pay6, k2_pay5, k2_pay4]
/-- The accumulating payload of the counts. -/
theorem pay7_apply (o : Vec Ideal S2000x128 .f32) (m : Vec Ideal S2000x1 .f32) (g : Vec Ideal S1x128 .f32) (b : Fin 128) :
    (k2_pay7 m o g (ix2 0 b) : EReal) = (g (ix2 0 b) : EReal) + ∑ n : Fin 2000, (o (ix2 n b) : EReal) * (m (ix2 n 0) : EReal) := by
  pointwise [k2_pay7, k2_pay5, k2_pay4]
/-- The sums start from zero, -/
theorem pay2_apply (b h : Fin 128) : (k2_pay2 (F := Ideal) (ix2 b h) : EReal) = 0 := by pointwise [k2_pay2]
/-- and so do the counts. -/
theorem pay3_apply (b : Fin 128) : (k2_pay3 (F := Ideal) (ix2 0 b) : EReal) = 0 := by pointwise [k2_pay3]
/-- The maxima start from the stand-in. -/
theorem pay1_apply (b h : Fin 128) : (k2_pay1 (F := Ideal) (ix2 b h) : EReal) = low := by pointwise [k2_pay1, low]

/-- What a row of a block offers is what its node offers. -/
theorem offer_block (t : Fin 5) (x o : A S10000x128) (m : A S10000x1) (xb ob : A S2000x128) (mb : A S2000x1)
    (hx : ∀ r h, xb (ix2 r h) = x (ix2 (nodeOf t r) h)) (ho : ∀ r h, ob (ix2 r h) = o (ix2 (nodeOf t r) h)) (hm : ∀ r, mb (ix2 r 0) = m (ix2 (nodeOf t r) 0))
    (r : Fin 2000) (b h : Fin 128) : offer xb ob mb r b h = offer x o m (nodeOf t r) b h := by
  unfold offer; rw [hx, ho, hm]

/-- Over a grid of five points that start from the stand-in, the bounds are those of every node. -/
theorem max_points {N : ℕ} (hN : N = 5) (f : (n : ℕ) → n < N → EReal) (x o : A S10000x128) (m : A S10000x1) (b h : Fin 128) (y : EReal)
    (hA : ∀ t : Fin N, t.val % 5 = 0 → (f t.val t.isLt ≤ y ↔ low ≤ y ∧ ∀ r, offer x o m (nodeOf (t.cast hN) r) b h ≤ y))
    (hB : ∀ t : Fin N, ¬ t.val % 5 = 0 → (f t.val t.isLt ≤ y ↔ f (t.val - 1) (Nat.lt_of_le_of_lt (Nat.sub_le _ _) t.isLt) ≤ y ∧ ∀ r, offer x o m (nodeOf (t.cast hN) r) b h ≤ y)) :
    f 4 (by omega) ≤ y ↔ low ≤ y ∧ ∀ n, offer x o m n b h ≤ y := by
  rw [points_le hN f y _ hA hB, ← nodes_iff]
  subst hN; rfl

/-- Over a grid of five points that start from zero, the total is the sum over every node. -/
theorem sum_points {N : ℕ} (hN : N = 5) (f : (n : ℕ) → n < N → EReal) (g : Fin 10000 → EReal)
    (hA : ∀ t : Fin N, t.val % 5 = 0 → f t.val t.isLt = 0 + ∑ r, g (nodeOf (t.cast hN) r))
    (hB : ∀ t : Fin N, ¬ t.val % 5 = 0 → f t.val t.isLt = f (t.val - 1) (Nat.lt_of_le_of_lt (Nat.sub_le _ _) t.isLt) + ∑ r, g (nodeOf (t.cast hN) r)) :
    f 4 (by omega) = ∑ n, g n := by
  subst hN
  have h4 : f 4 _ = f 3 _ + ∑ r, g (nodeOf 4 r) := hB 4 (by decide)
  have h3 : f 3 _ = f 2 _ + ∑ r, g (nodeOf 3 r) := hB 3 (by decide)
  have h2 : f 2 _ = f 1 _ + ∑ r, g (nodeOf 2 r) := hB 2 (by decide)
  have h1 : f 1 _ = f 0 _ + ∑ r, g (nodeOf 1 r) := hB 1 (by decide)
  have h0 : f 0 _ = 0 + ∑ r, g (nodeOf 0 r) := hA 0 (by decide)
  rw [h4, h3, h2, h1, h0, zero_add]
  have : ∑ n, g n = ∑ t : Fin 5, ∑ r : Fin 2000, g (nodeOf t r) :=
    (Fin.sum_mul_add_fin 5 2000 g).symm
  rw [this]
  simp only [Fin.sum_univ_five]

/-- The start of a run of maxima is a store of the stand-in over the whole array. -/
theorem start_read (v : View sig .tc .vmem S128x128 .f32) (b h : Fin 128) :
    (v.read (Elt Ideal) (v.writes (Elt Ideal) v.junk [⟨Rect.unit ![0, 0] S128x128.size inb_S128x128_S128x128_0_0, k2_pay1 (F := Ideal)⟩]) (ix2 b h) : EReal) = low := by
  rw [read_store]; exact pay1_apply b h

/-- Equal numbers have the same bounds. -/
theorem le_of_same {a b y : EReal} (h : a = b) : a ≤ y ↔ b ≤ y := h ▸ Iff.rfl

end Cert.Gnn.Readout

end
-- ==== Proof.Pooled.lean ====
/-
  The readout computed from running maxima, sums and counts over all nodes is the readout over graphs.
-/
module

public import proofs.«01_k».proof.Proof.Readout
public import proofs.«01_k».proof.Proof.Scatter

@[expose] public section

set_option maxRecDepth 16384

noncomputable section

namespace Cert.Gnn.Pooled

open Cert.Gnn.Words Cert.Gnn.Running Cert.Gnn.Readout Idealize.ShloMosaic Cert.ReferenceIdeal

/-- A mask of zeros and ones. -/
def IsMask (m : A S10000) : Prop := ∀ n, (m (ix1 n) : EReal) = 0 ∨ (m (ix1 n) : EReal) = 1

/-- A word read signed is a small number exactly when it is that number's word. -/
theorem toInt_eq (w : BitVec 32) (b : Fin 128) : w.toInt = (b.val : Int) ↔ w = BitVec.ofNat 32 b.val := by
  have hb := b.isLt
  constructor
  · intro h
    apply BitVec.eq_of_toInt_eq
    rw [h, BitVec.toInt_ofNat']
    simp [Int.bmod]; omega
  · rintro rfl
    rw [BitVec.toInt_ofNat']
    simp [Int.bmod]; omega

/-- Membership at a node and a graph. -/
theorem member_apply (batch : I S10000) (n : Fin 10000) (b : Fin 128) :
    (member batch (ix2 n b) : EReal) = if batch (ix1 n) = BitVec.ofNat 32 b.val then 1 else 0 := by
  have e : (member batch (ix2 n b) : EReal) = (FloatOps.uitofp (F := Ideal) .f32 (IntOp.cmpi CmpIPredicate.eq (batch (ix1 n)) (BitVec.ofNat 32 b.val)) : EReal) := by
    pointwise [member, colN]
  rw [e]
  show (((IntOp.cmpi CmpIPredicate.eq (batch (ix1 n)) (BitVec.ofNat 32 b.val)).toNat : ℝ) : EReal) = _
  by_cases h : batch (ix1 n) = BitVec.ofNat 32 b.val <;> simp [IntOp.cmpi, h]

/-- The mask's column at a node. -/
theorem col_apply (m : A S10000) (n : Fin 10000) : (col m (ix2 n 0) : EReal) = (m (ix1 n) : EReal) := by pointwise [col]

/-- The largest entries per graph, at an index. -/
theorem gmax_le (x : A S10000x128) (m : A S10000) (batch : I S10000) (b h : Fin 128) (y : EReal) :
    (gmax x m batch (ix2 b h) : EReal) ≤ y ↔ ∀ n, batch (ix1 n) = BitVec.ofNat 32 b.val → (if 0 < (m (ix1 n) : EReal) then (x (ix2 n h) : EReal) else low) ≤ y := by
  have e : (gmax x m batch (ix2 b h) : EReal) = Finset.fold max (Ideal.ofBits FTy.f32 0xFF800000#32) (fun n : Fin 10000 =>
      Scalar.select (IntOp.cmpi CmpIPredicate.eq (batch (ix1 n)) (BitVec.ofNat 32 b.val))
        (if 0 < (m (ix1 n) : EReal) then (x (ix2 n h) : EReal) else low) (Ideal.ofBits FTy.f32 0xFF800000#32)) Finset.univ := by
    pointwise [gmax, col, colN, low]
    rfl
  rw [e, fold_max_le, bot_word]
  refine (and_iff_right bot_le).trans (forall_congr' fun n => ?_)
  by_cases hb : batch (ix1 n) = BitVec.ofNat 32 b.val
  · simp [IntOp.cmpi, Scalar.select, hb]
  · have : (batch (ix1 n) == BitVec.ofNat 32 b.val) = false := by simpa using hb
    simp [IntOp.cmpi, Scalar.select, hb, this]

/-- The sums per graph. -/
theorem gsum_apply (x : A S10000x128) (m : A S10000) (batch : I S10000) (b h : Fin 128) :
    (gsum x m batch (ix2 b h) : EReal) = ∑ n : Fin 10000, if batch (ix1 n) = BitVec.ofNat 32 b.val then (x (ix2 n h) : EReal) * (m (ix1 n) : EReal) else 0 := by
  refine (Scatter.sum_row Facts₀.scatter_S128x128_S10000x1_S10000x128_1_0_0_1_wf _ _ _ b h).trans ?_
  have hz : (broadcastInDim S128x128 ![] Facts₀.bcast_S_S128x128 (constant (F := Ideal) S_ .f32 0x00000000#32) (ix2 b h) : EReal) = 0 := by pointwise
  rw [show ((broadcastInDim S128x128 ![] _ (constant (F := Ideal) S_ .f32 0x00000000#32) (ix2 b h) : Ideal .f32) : EReal) = 0 from hz, zero_add]
  refine Finset.sum_congr rfl fun n _ => ?_
  have hc : colN batch (ix2 n 0) = batch (ix1 n) := by pointwise [colN]
  have hm : (mulf x (rows m) (ix2 n h) : EReal) = (x (ix2 n h) : EReal) * (m (ix1 n) : EReal) := by pointwise [rows, col]
  rw [hc]
  exact if_congr (toInt_eq _ _) hm rfl

/-- The counts per graph. -/
theorem perGraph_apply (m : A S10000) (batch : I S10000) (b : Fin 128) :
    (perGraph batch m (ix1 b) : EReal) = ∑ n : Fin 10000, if batch (ix1 n) = BitVec.ofNat 32 b.val then (m (ix1 n) : EReal) else 0 := by
  refine (Scatter.sum_one Facts₀.scatter_S128_S10000x1_S10000_n_0_0_1_wf _ _ _ b).trans ?_
  have hz : (splatB 0x00000000#32 (ix1 b) : EReal) = 0 := by pointwise [splatB]
  rw [hz, zero_add]
  refine Finset.sum_congr rfl fun n _ => ?_
  have hc : colN batch (ix2 n 0) = batch (ix1 n) := by pointwise [colN]
  rw [hc]
  exact if_congr (toInt_eq _ _) rfl rfl

/-- The threshold's choice does not see the stand-in. -/
theorem choice_eq (mx g : EReal) (h : mx = max low g) : (if mx ≤ thr then (0 : EReal) else mx) = if g ≤ thr then 0 else g := by
  subst h
  by_cases hg : g ≤ thr
  · rw [if_pos hg, if_pos (max_le low_le_thr hg)]
  · rw [if_neg hg, if_neg (fun h => hg ((le_max_right _ _).trans h)), max_eq_right]
    exact low_le_thr.trans (not_le.mp hg).le

/-- The largest values as the readout shows them: zero for a graph without a node. -/
def shown (g : A S128x128) : A S128x128 :=
  select (cmpf .ole g (broadcastInDim S128x128 ![] Facts₀.bcast_S_S128x128 (constant S_ .f32 0xEFA18F08#32))) (broadcastInDim S128x128 ![] Facts₀.bcast_S_S128x128 (id (constant S_ .f32 0x00000000#32))) g

/-- Zero is shown for a value below the threshold, every other value as it is. -/
theorem shown_apply (g : A S128x128) (b h : Fin 128) :
    (shown g (ix2 b h) : EReal) = if (g (ix2 b h) : EReal) ≤ thr then (0 : EReal) else (g (ix2 b h) : EReal) := by
  pointwise [shown, thr]
  exact if_congr Iff.rfl zero_word rfl

/-- The readout from the running maxima, sums and counts of the kept members is the readout of the layer. -/
theorem readout_eq (x : A S10000x128) (m : A S10000) (batch : I S10000) (hmask : IsMask m) (mx sm : A S128x128) (ct : A S1x128)
    (hmx : IsMax mx x (member batch) (col m)) (hsm : IsSum sm x (member batch) (col m)) (hct : IsCount ct (member batch) (col m))
    (hs : Cert.KernelIdeal.S1x128.ShapeCasts Cert.KernelIdeal.S128) :
    readoutOf mx sm (shapeCast S128 ct hs) = readout x m batch := by
  have e1 : sm = gsum x m batch := by
    refine ext2 fun b h => ?_
    show (_ : EReal) = _
    rw [hsm, gsum_apply]
    refine Finset.sum_congr rfl fun n _ => ?_
    rw [member_apply, col_apply]
    rcases hmask n with h0 | h0 <;> rw [h0] <;> split_ifs <;> simp
  have e2 : shapeCast S128 ct hs = perGraph batch m := by
    refine ext1 fun b => ?_
    show (_ : EReal) = _
    rw [perGraph_apply]
    have : (shapeCast S128 ct hs (ix1 b) : EReal) = (ct (ix2 0 b) : EReal) := by pointwise
    rw [this, hct]
    refine Finset.sum_congr rfl fun n _ => ?_
    rw [member_apply, col_apply]
    split_ifs <;> simp
  have e3 : ∀ b h, (mx (ix2 b h) : EReal) = max low (gmax x m batch (ix2 b h) : EReal) := fun b h => by
    refine eq_of_forall_ge_iff fun y => ?_
    rw [hmx, max_le_iff, gmax_le]
    refine and_congr_right fun hl => forall_congr' fun n => ?_
    unfold offer
    rw [member_apply, col_apply]
    by_cases hb : batch (ix1 n) = BitVec.ofNat 32 b.val <;> simp [hb, hl]
  have e4 : shown mx = shown (gmax x m batch) :=
    ext2 fun b h => (shown_apply mx b h).trans ((choice_eq _ _ (e3 b h)).trans (shown_apply _ b h).symm)
  rw [e1, e2]
  exact congrArg (fun z => concatenate S128x256 1 [⟨S128x128, z⟩, ⟨S128x128, _⟩] Facts₀.concatenates_S128x128_S128x128_S128x256_d1) e4

end Cert.Gnn.Pooled

end
-- ==== Proof.Finite.lean ====
/-
  Arrays whose every entry is a real number, and that the network keeps to them: from real features, weights and
  biases every step's result is real. Scores need not be: they enter the features through a hyperbolic tangent only.
-/
module

public import proofs.«01_k».proof.Proof.Model
public import proofs.«01_k».proof.Proof.Words
public import proofs.«01_k».proof.Proof.Score
public import proofs.«01_k».proof.Proof.Pooled

@[expose] public section

set_option maxRecDepth 20000

noncomputable section

namespace Cert.Gnn.Finite

open Idealize.ShloMosaic Cert.ReferenceIdeal Cert.Gnn.Words

/-- A number that is neither infinity. -/
def IsReal (x : EReal) : Prop := ∃ r : ℝ, x = (r : EReal)
/-- An array of numbers none of which is an infinity. -/
def AllReal {S : Shape} (a : A S) : Prop := ∀ j, IsReal (a j : EReal)

/-- Zero is real. -/
theorem isReal_zero : IsReal 0 := ⟨0, by simp⟩
/-- One is real. -/
theorem isReal_one : IsReal 1 := ⟨1, by simp⟩
/-- A sum of two reals is real. -/
theorem IsReal.add {x y : EReal} : IsReal x → IsReal y → IsReal (x + y) := by
  rintro ⟨a, rfl⟩ ⟨b, rfl⟩; exact ⟨a + b, (EReal.coe_add a b).symm⟩
/-- A difference of two reals is real. -/
theorem IsReal.sub {x y : EReal} : IsReal x → IsReal y → IsReal (x - y) := by
  rintro ⟨a, rfl⟩ ⟨b, rfl⟩; exact ⟨a - b, (EReal.coe_sub a b).symm⟩
/-- A product of two reals is real. -/
theorem IsReal.mul {x y : EReal} : IsReal x → IsReal y → IsReal (x * y) := by
  rintro ⟨a, rfl⟩ ⟨b, rfl⟩; exact ⟨a * b, (EReal.coe_mul a b).symm⟩
/-- The larger of two reals is real. -/
theorem IsReal.max {x y : EReal} (hx : IsReal x) (hy : IsReal y) : IsReal (max x y) := by
  rcases max_choice x y with h | h <;> rw [h] <;> assumption
/-- A quotient by a real other than zero is real. -/
theorem IsReal.div {x y : EReal} : IsReal x → IsReal y → y ≠ 0 → IsReal (Ideal.div x y) := by
  rintro hx ⟨b, rfl⟩ h
  rw [Ideal.div_coe (by exact_mod_cast h)]
  exact hx.mul ⟨_, rfl⟩
/-- A finite sum of reals is real. -/
theorem isReal_sum {ι : Type} (s : Finset ι) (f : ι → EReal) (h : ∀ i ∈ s, IsReal (f i)) : IsReal (∑ i ∈ s, f i) :=
  Finset.sum_induction f IsReal (fun _ _ => IsReal.add) isReal_zero h
/-- A hyperbolic tangent is real, whatever its argument. -/
theorem isReal_tanh (x : EReal) : IsReal (Ideal.tanh x) := by
  induction x with
  | bot => exact ⟨-1, by show (-1 : EReal) = _; simp⟩
  | top => exact ⟨1, by show (1 : EReal) = _; simp⟩
  | coe r => exact ⟨_, rfl⟩
/-- The root of a positive real is real, and not zero. -/
theorem isReal_sqrt {x : EReal} (hx : IsReal x) (h : 0 < x) : IsReal (Ideal.sqrt x) ∧ Ideal.sqrt x ≠ 0 := by
  obtain ⟨r, rfl⟩ := hx
  have hr : 0 < r := by exact_mod_cast h
  have e : Ideal.sqrt (r : EReal) = ((Real.sqrt r : ℝ) : EReal) := if_neg hr.not_gt
  rw [e]
  exact ⟨⟨_, rfl⟩, by exact_mod_cast (Real.sqrt_pos.mpr hr).ne'⟩

section Ops
variable {S T U : Shape}
/-- Sums of arrays. -/
theorem AllReal.addf {a b : A S} (ha : AllReal a) (hb : AllReal b) : AllReal (addf a b) := fun j => (ha j).add (hb j)
/-- Products of arrays. -/
theorem AllReal.mulf {a b : A S} (ha : AllReal a) (hb : AllReal b) : AllReal (mulf a b) := fun j => (ha j).mul (hb j)
/-- Maxima of arrays. -/
theorem AllReal.maximumf {a b : A S} (ha : AllReal a) (hb : AllReal b) : AllReal (maximumf a b) := fun j => (ha j).max (hb j)
/-- Quotients of arrays. -/
theorem AllReal.divf {a b : A S} (ha : AllReal a) (hb : AllReal b) (h : ∀ j, (b j : EReal) ≠ 0) : AllReal (Host.divf a b) := fun j => (ha j).div (hb j) (h j)
/-- Roots of arrays of positive reals. -/
theorem AllReal.sqrt {a : A S} (ha : AllReal a) (h : ∀ j, 0 < (a j : EReal)) : AllReal (Host.sqrt a) ∧ ∀ j, (Host.sqrt a j : EReal) ≠ 0 :=
  ⟨fun j => (isReal_sqrt (ha j) (h j)).1, fun j => (isReal_sqrt (ha j) (h j)).2⟩
/-- Choices among arrays. -/
theorem AllReal.select (c : IVec S 1) {a b : A S} (ha : AllReal a) (hb : AllReal b) : AllReal (select c a b) := fun j => by
  show IsReal (if c j = 1#1 then a j else b j)
  split_ifs
  exacts [ha j, hb j]
/-- An array repeated. -/
theorem AllReal.broadcast {a : A S} (d : Fin S.rank → Fin T.rank) (h : S.BroadcastsInDim T d) (ha : AllReal a) : AllReal (broadcastInDim T d h a) := fun _ => ha _
/-- An array gathered from. -/
theorem AllReal.gather {a : A S} (d : GatherDims S U T) (idx : I U) (ha : AllReal a) : AllReal (S := T) (Host.gather d a idx) := fun _ => ha _
/-- Updates summed into an array. -/
theorem AllReal.scatter {a : A S} {u : A T} (d : ScatterDims S U T) (idx : I U) (ha : AllReal a) (hu : AllReal u) : AllReal (Host.scatterAdd d a idx u) := fun i =>
  (ha i).add (isReal_sum _ _ fun j _ => hu j)
/-- A product of matrices. -/
theorem AllReal.dot {a : A S} {b : A T} (d : DotDims S T U) (ha : AllReal a) (hb : AllReal b) : AllReal (Host.dotGeneral d none a b) := fun j =>
  isReal_zero.add (isReal_sum _ _ fun k _ => (ha _).mul (hb _))
/-- Two arrays side by side. -/
theorem AllReal.beside {a : A T} {b : A U} (x : Fin S.rank) (h : Shape.Concatenates [T, U] S x) (ha : AllReal a) (hb : AllReal b) :
    AllReal (concatenate S x [⟨T, a⟩, ⟨U, b⟩] h) := fun j => by
  have hm : ∀ p ∈ ([⟨T, a⟩, ⟨U, b⟩] : List ((s : Shape) × A s)), AllReal p.2 := by
    intro p hp
    rcases List.mem_cons.mp hp with rfl | hp
    · exact ha
    · rcases List.mem_singleton.mp hp with rfl
      exact hb
  exact hm _ (List.getElem_mem _) _
end Ops

/-- The constant zero is real. -/
theorem real_zero {S : Shape} : AllReal (constant (F := Ideal) S .f32 0x00000000#32) := fun _ => by
  show IsReal (Ideal.ofBits FTy.f32 0x00000000#32); rw [zero_word]; exact isReal_zero
/-- The constant one is real. -/
theorem real_one {S : Shape} : AllReal (constant (F := Ideal) S .f32 0x3F800000#32) := fun _ => by
  show IsReal (Ideal.ofBits FTy.f32 0x3F800000#32); rw [one_word]; exact isReal_one
/-- A mask is real. -/
theorem real_mask {m : A S10000} (h : Pooled.IsMask m) : AllReal m := fun j => by
  rw [eq_ix1 j]
  rcases h (j 0) with e | e
  · exact e ▸ isReal_zero
  · exact e ▸ isReal_one

/-- Degrees made positive are real. -/
theorem real_degSafe (dst : I S320000) {ew : A S320000} {mask : A S10000} (he : AllReal ew) (hm : AllReal mask) : AllReal (degSafe dst ew mask) :=
  have hd : AllReal (deg dst ew mask) := (AllReal.scatter _ _ (real_zero.broadcast _ _) he).addf hm
  hd.select _ (real_one.broadcast _ _)
/-- The neighbours' sums of real features are real. -/
theorem real_agg {hw : A S10000x128} {c : A S320000} (src dst : I S320000) (hh : AllReal hw) (hc : AllReal c) : AllReal (agg hw c src dst) :=
  AllReal.scatter scatter_S10000x128_S320000x1_S320000x128_1_0_0_1 (colE dst) (real_zero.broadcast _ _)
    ((hh.gather gather_S10000x128_S320000x1_S320000x128_1_0_n_n_0_1_1128 (wrapE src)).mulf ((hc.broadcast _ _).broadcast _ _))
/-- The rest of a convolution of real arrays is real. -/
theorem real_epi {g hw : A S10000x128} {s m : A S10000} {b : A S128} (hg : AllReal g) (hh : AllReal hw) (hs : AllReal s) (hm : AllReal m) (hb : AllReal b) :
    AllReal (epi g hw s m b) :=
  (((hg.addf (hh.mulf ((hs.broadcast _ _).broadcast _ _))).addf ((hb.broadcast _ _).broadcast _ _)).mulf ((hm.broadcast _ _).broadcast _ _)).maximumf
    (real_zero.broadcast _ _)
/-- A convolution of real arrays is real. -/
theorem real_conv {x : A S10000x128} {W : A S128x128} {b : A S128} (src dst : I S320000) {ew : A S320000} {mask : A S10000}
    (hx : AllReal x) (hW : AllReal W) (hb : AllReal b) (he : AllReal ew) (hm : AllReal mask) : AllReal (conv x W b src dst ew mask) := by
  have hf : AllReal (feat x W) := AllReal.dot _ hx hW
  have hd := real_degSafe dst he hm
  have hp : ∀ j, 0 < (degSafe dst ew mask j : EReal) := fun j => by rw [eq_ix1 j]; exact Score.degSafe_pos dst ew mask (j 0)
  have hi : AllReal (inv (degSafe dst ew mask)) := AllReal.divf (real_one.broadcast _ _) (AllReal.sqrt hd hp).1 (AllReal.sqrt hd hp).2
  have hc : AllReal (coef (inv (degSafe dst ew mask)) src dst ew) := (he.mulf (hi.gather _ _)).mulf (hi.gather _ _)
  have hs : AllReal (Host.divf mask (degSafe dst ew mask)) := hm.divf hd fun j => (hp j).ne'
  exact real_epi (real_agg src dst hf hc) hf hs hm hb
/-- Pooled features are real. -/
theorem real_feat {h : A S10000x128} (s : A S10000) {mask : A S10000} (hh : AllReal h) (hm : AllReal mask) : AllReal (newFeat h s mask) := by
  have ht : AllReal (Host.tanh s) := fun j => isReal_tanh _
  exact (hh.mulf ((ht.broadcast _ _).broadcast _ _)).mulf ((hm.broadcast _ _).broadcast _ _)
/-- Pooled edges' weights are real. -/
theorem real_edge {mask : A S10000} (src dst : I S320000) (hm : AllReal mask) : AllReal (newEdge mask src dst) :=
  (hm.gather _ _).mulf (hm.gather _ _)
/-- The pooled mask is a mask. -/
theorem isMask_new (s : A S10000) (batch : I S10000) (start : I S128) (mask : A S10000) : Pooled.IsMask (newMask s batch start mask) := fun _ => bit_num _

/-- A readout of real features is real. -/
theorem real_readout {x : A S10000x128} {mask : A S10000} (batch : I S10000) (hx : AllReal x) (hm : AllReal mask) : AllReal (readout x mask batch) := by
  have hg : ∀ b h, (gmax x mask batch (ix2 b h) : EReal) ≠ ⊤ := fun b h => by
    have hr : ∀ n : Fin 10000, IsReal (if 0 < (mask (ix1 n) : EReal) then (x (ix2 n h) : EReal) else low) := fun n => by
      split_ifs
      · exact hx _
      · exact ⟨_, low_real.choose_spec.1⟩
    choose r hr using hr
    refine ((Pooled.gmax_le x mask batch b h ((∑ n, |r n| : ℝ) : EReal)).mpr fun n _ => ?_).trans_lt (EReal.coe_lt_top _) |>.ne
    rw [hr n, EReal.coe_le_coe_iff]
    exact (le_abs_self _).trans (Finset.single_le_sum (f := fun n => |r n|) (fun i _ => abs_nonneg (r i)) (Finset.mem_univ n))
  have h1 : AllReal (Pooled.shown (gmax x mask batch)) := fun j => by
    rw [eq_ix2 j]
    refine (Pooled.shown_apply _ (j 0) (j 1)) ▸ ?_
    split_ifs with h
    · exact isReal_zero
    · exact ⟨_, (EReal.coe_toReal (hg _ _) (bot_le.trans_lt (not_le.mp h)).ne').symm⟩
  have h2 : AllReal (gsum x mask batch) := AllReal.scatter _ _ (real_zero.broadcast _ _) (hx.mulf ((hm.broadcast _ _).broadcast _ _))
  have h3 : AllReal (perGraph batch mask) := AllReal.scatter _ _ (real_zero.broadcast _ _) hm
  have h4 : AllReal (maximumf (perGraph batch mask) (splatB 0x3F800000#32)) := h3.maximumf (real_one.broadcast _ _)
  have h5 : ∀ j, (maximumf (perGraph batch mask) (splatB 0x3F800000#32) j : EReal) ≠ 0 := fun j => by
    have h : (1 : EReal) ≤ (maximumf (perGraph batch mask) (splatB 0x3F800000#32) j : EReal) := by
      rw [← one_word]; exact le_max_right _ _
    exact (zero_lt_one.trans_le h).ne'
  exact AllReal.beside _ Facts₀.concatenates_S128x128_S128x128_S128x256_d1 h1 (h2.divf ((h4.broadcast _ _).broadcast _ _) fun j => h5 _)

/-- The classifier's outputs are real. -/
theorem real_logits {z : A S128x256} {W₁ : A S256x128} {b₁ : A S128} {W₂ : A S128x64} {b₂ : A S64} {W₃ : A S64x10} {b₃ : A S10}
    (hz : AllReal z) (h1 : AllReal W₁) (k1 : AllReal b₁) (h2 : AllReal W₂) (k2 : AllReal b₂) (h3 : AllReal W₃) (k3 : AllReal b₃) :
    AllReal (logits (hidden z W₁ b₁ W₂ b₂) W₃ b₃) := by
  have ha : AllReal (hidden z W₁ b₁ W₂ b₂) :=
    (AllReal.dot _ (((AllReal.dot _ hz h1).addf ((k1.broadcast _ _).broadcast _ _)).maximumf (real_zero.broadcast _ _)) h2).addf ((k2.broadcast _ _).broadcast _ _)
  exact (AllReal.dot _ (ha.maximumf (real_zero.broadcast _ _)) h3).addf ((k3.broadcast _ _).broadcast _ _)

end Cert.Gnn.Finite

end
-- ==== Proof.Layer.lean ====
/-
  A layer as a function of what it is given, the whole network from its 21 arrays, and the kernel's own way to a
  layer's convolution and scores.
-/
module

public import proofs.«01_k».proof.Proof.Model
public import proofs.«01_k».proof.Proof.Epilogue
public import proofs.«01_k».proof.Proof.Score
public import proofs.«01_k».proof.Proof.Finite

@[expose] public section

set_option maxRecDepth 20000

noncomputable section

namespace Cert.Gnn

open Idealize.ShloMosaic Cert.ReferenceIdeal

/-- What a layer is given. -/
structure Given where
  /-- The features. -/
  x : A S10000x128
  /-- The convolution's weights. -/
  W : A S128x128
  /-- The convolution's bias. -/
  b : A S128
  /-- The score vector. -/
  p : A S128x1
  /-- The scores' bias. -/
  pb : A S1
  /-- The edges' sources. -/
  src : I S320000
  /-- The edges' targets. -/
  dst : I S320000
  /-- The graphs' first positions. -/
  start : I S128
  /-- The nodes' graphs. -/
  batch : I S10000
  /-- The edges' weights. -/
  ew : A S320000
  /-- The mask of the nodes not yet dropped. -/
  mask : A S10000

namespace Given
variable (i : Given)
/-- The degrees made positive. -/
def d : A S10000 := degSafe i.dst i.ew i.mask
/-- The edges' coefficients as the kernel computes them. -/
def q : A S320000 := coef (Host.rsqrt i.d) i.src i.dst i.ew
/-- The convolution. -/
def h : A S10000x128 := conv i.x i.W i.b i.src i.dst i.ew i.mask
/-- The scores. -/
def s : A S10000 := score i.h i.p i.pb i.src i.dst i.ew i.mask
/-- The mask of the nodes kept. -/
def mask' : A S10000 := newMask i.s i.batch i.start i.mask
/-- The features pooled. -/
def x' : A S10000x128 := newFeat i.h i.s i.mask'
/-- The edges' new weights. -/
def ew' : A S320000 := newEdge i.mask' i.src i.dst
/-- The readout. -/
def out : A S128x256 := readout i.x' i.mask' i.batch
/-- What the next layer is given. -/
def next (W : A S128x128) (b : A S128) (p : A S128x1) (pb : A S1) : Given := ⟨i.x', W, b, p, pb, i.src, i.dst, i.start, i.batch, i.ew', i.mask'⟩

/-- The kernel's epilogue leaves the convolution. -/
theorem conv_eq : Epilogue.epiCols (agg (feat i.x i.W) i.q i.src i.dst) (feat i.x i.W) (col (Host.divf i.mask i.d)) (col i.mask)
    (shapeCast S1x128 i.b Cert.KernelIdeal.Facts₀.shapeCasts_S128_S1x128) = i.h := by
  rw [Epilogue.epiCols_eq]
  unfold q
  rw [Score.rsqrt_eq i.d (Score.degSafe_pos _ _ _)]
  rfl
/-- The kernel's scores are the layer's. -/
theorem score_eq : scoreVec (shapeCast S10000 (proj i.h i.p) Cert.KernelIdeal.Facts₀.shapeCasts_S10000x1_S10000) i.q i.src i.dst i.mask i.d
    (shapeCast S_ i.pb Cert.KernelIdeal.Facts₀.shapeCasts_S1_S_) = i.s := by
  unfold q
  rw [Score.rsqrt_eq i.d (Score.degSafe_pos _ _ _)]
  exact Score.scoreVec_eq _ _ _ _ _ _ _ _ _
/-- The kernel's readout is the layer's. -/
theorem out_eq (mx sm : A S128x128) (ct : A S1x128) (hmx : Readout.IsMax mx i.x' (member i.batch) (col i.mask')) (hsm : Readout.IsSum sm i.x' (member i.batch) (col i.mask'))
    (hct : Readout.IsCount ct (member i.batch) (col i.mask')) : readoutOf mx sm (shapeCast S128 ct Cert.KernelIdeal.Facts₀.shapeCasts_S1x128_S128) = i.out :=
  Pooled.readout_eq _ _ _ (Finite.isMask_new _ _ _ _) mx sm ct hmx hsm hct _

/-- From arrays that hold what the layer is given and its product, the kernel's host operations and its epilogue make the degrees, the coefficients and the convolution. -/
theorem conv_of {src dst : I S320000} {ew q : A S320000} {mask d : A S10000} {b : A S128} {hw hw' ag h : A S10000x128} {sc mc : A S10000x1} {bi : A S1x128}
    (hsrc : src = i.src) (hdst : dst = i.dst) (hew : ew = i.ew) (hmask : mask = i.mask) (hb : b = i.b) (hhw : hw = feat i.x i.W) (hhw' : hw' = hw)
    (hd : d = degSafe dst ew mask) (hq : q = coef (Host.rsqrt d) src dst ew) (hag : ag = agg hw (coef (Host.rsqrt d) src dst ew) src dst)
    (hsc : sc = col (Host.divf mask d)) (hmc : mc = col mask) (hbi : bi = shapeCast S1x128 b Cert.KernelIdeal.Facts₀.shapeCasts_S128_S1x128)
    (hh : h = Epilogue.epiCols ag hw' sc mc bi) : d = i.d ∧ q = i.q ∧ h = i.h := by
  subst hsrc hdst hew hmask hb hhw hhw' hd hq hag hsc hmc hbi hh
  exact ⟨rfl, rfl, i.conv_eq⟩
/-- From the convolution on, the kernel's host operations make the scores, the new mask, the pooled features and the new weights. -/
theorem pool_of {src dst : I S320000} {start : I S128} {batch : I S10000} {q ne : A S320000} {mask d s nm : A S10000} {p : A S128x1} {pb : A S1} {h nx : A S10000x128} {nc : A S10000x1}
    (hsrc : src = i.src) (hdst : dst = i.dst) (hstart : start = i.start) (hbatch : batch = i.batch) (hmask : mask = i.mask) (hp : p = i.p) (hpb : pb = i.pb)
    (hd : d = i.d) (hq : q = i.q) (hh : h = i.h)
    (hs : s = scoreVec (shapeCast S10000 (proj h p) Cert.KernelIdeal.Facts₀.shapeCasts_S10000x1_S10000) q src dst mask d (shapeCast S_ pb Cert.KernelIdeal.Facts₀.shapeCasts_S1_S_))
    (hnm : nm = newMask s batch start mask) (hnx : nx = newFeat h s nm) (hne : ne = newEdge nm src dst) (hnc : nc = col nm) :
    nm = i.mask' ∧ nx = i.x' ∧ ne = i.ew' ∧ nc = col i.mask' := by
  subst hsrc hdst hstart hbatch hmask hp hpb hd hq hh
  have e : s = i.s := hs.trans i.score_eq
  subst e hnm hnx hne hnc
  exact ⟨rfl, rfl, rfl, rfl⟩
/-- The kernel's readout, of arrays that hold the pooled features, the membership and the new mask, is the layer's. -/
theorem out_of {x : A S10000x128} {mem : A S10000x128} {k : A S10000x1} {mx sm : A S128x128} {ct : A S1x128} (hx : x = i.x') (hmem : mem = member i.batch) (hk : k = col i.mask')
    (hmx : Readout.IsMax mx x mem k) (hsm : Readout.IsSum sm x mem k) (hct : Readout.IsCount ct mem k) :
    readoutOf mx sm (shapeCast S128 ct Cert.KernelIdeal.Facts₀.shapeCasts_S1x128_S128) = i.out := by
  subst hx hmem hk
  exact i.out_eq mx sm ct hmx hsm hct

/-- From real features and weights a layer's features and readout are real. -/
theorem real (hx : Finite.AllReal i.x) (hW : Finite.AllReal i.W) (hb : Finite.AllReal i.b) (he : Finite.AllReal i.ew) (hm : Finite.AllReal i.mask) :
    Finite.AllReal i.x' ∧ Finite.AllReal i.mask' ∧ Finite.AllReal i.ew' ∧ Finite.AllReal i.out := by
  have h1 : Finite.AllReal i.mask' := Finite.real_mask (Finite.isMask_new _ _ _ _)
  have h2 : Finite.AllReal i.x' := Finite.real_feat _ (Finite.real_conv _ _ hx hW hb he hm) h1
  exact ⟨h2, h1, Finite.real_edge _ _ h1, Finite.real_readout _ h2 h1⟩
end Given

/-- The network's 21 arrays. -/
structure Args where
  /-- The nodes' features. -/
  x : A S10000x128
  /-- The edges. -/
  e : I S2x320000
  /-- The nodes' graphs. -/
  batch : I S10000
  /-- Layer 1's weights. -/
  W₁ : A S128x128
  /-- Layer 1's bias. -/
  b₁ : A S128
  /-- Layer 2's weights. -/
  W₂ : A S128x128
  /-- Layer 2's bias. -/
  b₂ : A S128
  /-- Layer 3's weights. -/
  W₃ : A S128x128
  /-- Layer 3's bias. -/
  b₃ : A S128
  /-- Layer 1's score vector. -/
  p₁ : A S128x1
  /-- Layer 1's scores' bias. -/
  pb₁ : A S1
  /-- Layer 2's score vector. -/
  p₂ : A S128x1
  /-- Layer 2's scores' bias. -/
  pb₂ : A S1
  /-- Layer 3's score vector. -/
  p₃ : A S128x1
  /-- Layer 3's scores' bias. -/
  pb₃ : A S1
  /-- The classifier's first weights. -/
  l₁ : A S256x128
  /-- The classifier's first bias. -/
  c₁ : A S128
  /-- The classifier's second weights. -/
  l₂ : A S128x64
  /-- The classifier's second bias. -/
  c₂ : A S64
  /-- The classifier's last weights. -/
  l₃ : A S64x10
  /-- The classifier's last bias. -/
  c₃ : A S10

namespace Args
variable (a : Args)
/-- What layer 1 is given. -/
def in1 : Given := ⟨a.x, a.W₁, a.b₁, a.p₁, a.pb₁, srcOf a.e, dstOf a.e, segStart a.batch, a.batch, splatE 0x3F800000#32, splatN 0x3F800000#32⟩
/-- What layer 2 is given. -/
def in2 : Given := a.in1.next a.W₂ a.b₂ a.p₂ a.pb₂
/-- What layer 3 is given. -/
def in3 : Given := a.in2.next a.W₃ a.b₃ a.p₃ a.pb₃
/-- The sum of the three readouts. -/
def z : A S128x256 := addf (addf a.in1.out a.in2.out) a.in3.out
/-- The ten outputs. -/
def outputs : A S128x10 := logits (hidden a.z a.l₁ a.c₁ a.l₂ a.c₂) a.l₃ a.c₃
/-- The network's result. -/
def result : A S128x10 := logSoftmax a.outputs

/-- From real arrays the ten outputs are real; the score vectors and their biases may be anything. -/
theorem real (h : Finite.AllReal a.x ∧ Finite.AllReal a.W₁ ∧ Finite.AllReal a.b₁ ∧ Finite.AllReal a.W₂ ∧ Finite.AllReal a.b₂ ∧ Finite.AllReal a.W₃ ∧ Finite.AllReal a.b₃
    ∧ Finite.AllReal a.l₁ ∧ Finite.AllReal a.c₁ ∧ Finite.AllReal a.l₂ ∧ Finite.AllReal a.c₂ ∧ Finite.AllReal a.l₃ ∧ Finite.AllReal a.c₃) : Finite.AllReal a.outputs := by
  obtain ⟨hx, hW₁, hb₁, hW₂, hb₂, hW₃, hb₃, hl₁, hc₁, hl₂, hc₂, hl₃, hc₃⟩ := h
  obtain ⟨x2, m2, e2, o1⟩ := a.in1.real hx hW₁ hb₁ (Finite.AllReal.broadcast (a := constant S_ .f32 0x3F800000#32) ![] Facts₀.bcast_S_S320000 Finite.real_one)
    (Finite.AllReal.broadcast (a := constant S_ .f32 0x3F800000#32) ![] Facts₀.bcast_S_S10000 Finite.real_one)
  obtain ⟨x3, m3, e3, o2⟩ := a.in2.real x2 hW₂ hb₂ e2 m2
  obtain ⟨-, -, -, o3⟩ := a.in3.real x3 hW₃ hb₃ e3 m3
  exact Finite.real_logits ((o1.addf o2).addf o3) hl₁ hc₁ hl₂ hc₂ hl₃ hc₃
end Args

end Cert.Gnn

end
-- ==== Proof.Carry.lean ====
/-
  The network's arrays in the launch memory, and the four arrays every layer reads, made before the first one and
  left alone afterwards.
-/
module

public import proofs.«01_k».proof.Proof.Layer
public import proofs.«01_k».proof.Proof.Gen.KernelIdeal.Launch

@[expose] public section

set_option maxRecDepth 16384

noncomputable section

namespace Cert.Gnn

open Idealize.ShloMosaic Idealize.ShloMosaic.TcCoe Cert.KernelIdeal

/-- The network's arrays as the launch memory holds them. -/
def args (m : (l : Loc nD τ sig) → Buf (Elt Ideal) l) (c : Dev nD) : Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20)⟩

/-- The buffers every layer reads. -/
def shared : List (Ref sig .tc) := [main_v1, main_v3, main_v10, main_v17]

/-- Contents that hold the sources, the targets, the graphs' first positions and the membership. -/
structure Holds (U : Valuation τ sig (Elt Ideal)) (i : Given) : Prop where
  /-- The sources. -/
  src : U (Proc.devRef .tc main_v1) = i.src
  /-- The targets. -/
  dst : U (Proc.devRef .tc main_v3) = i.dst
  /-- The first positions. -/
  start : U (Proc.devRef .tc main_v10) = i.start
  /-- The membership. -/
  mem : U (Proc.devRef .tc main_v17) = member i.batch

/-- Contents that agree with such ones at the shared buffers are such ones. -/
theorem Holds.of_eq {U U' : Valuation τ sig (Elt Ideal)} {i : Given} (h : Holds U i) (e : ∀ r ∈ shared, U' (Proc.devRef .tc r) = U (Proc.devRef .tc r)) : Holds U' i :=
  ⟨(e main_v1 (by simp [shared])).trans h.src, (e main_v3 (by simp [shared])).trans h.dst, (e main_v10 (by simp [shared])).trans h.start, (e main_v17 (by simp [shared])).trans h.mem⟩

/-- What a layer shares with the next. -/
theorem Holds.next {U : Valuation τ sig (Elt Ideal)} {i : Given} (h : Holds U i) (W b p pb) : Holds U (i.next W b p pb) := by
  constructor <;> simp only [Given.next]
  exacts [h.src, h.dst, h.start, h.mem]

end Cert.Gnn

end
-- ==== Proof.Reads3.lean ====
/-
  What the host operations around layer 3's kernels leave: each stretch read at the buffers the later steps use, from
  any contents `V` before it.
-/
module

public import proofs.«01_k».proof.Proof.Model
public import proofs.«01_k».proof.Proof.Gen.KernelIdeal.Launch
public import Idealize.ShloMosaic.Lib.StableHlo.RunRead

@[expose] public section

set_option maxRecDepth 8000

noncomputable section

namespace Cert.Gnn.Reads3

open Idealize.ShloMosaic Idealize.ShloMosaic.StableHlo Cert.KernelIdeal Cert.KernelIdeal.Gen

variable (V : Valuation τ sig (Elt Ideal))

/-- The contents after the stretch before the epilogue. -/
abbrev mid : Valuation τ sig (Elt Ideal) := after hostOps7_2 (after hostOps7_1 (after hostOps7 V))
/-- The contents after the stretch before the readout. -/
abbrev low : Valuation τ sig (Elt Ideal) :=
  after hostOps8_6 (after hostOps8_5 (after hostOps8_4 (after hostOps8_3 (after hostOps8_2 (after hostOps8_1 (after hostOps8 V))))))
/-- The contents before the nodes are ordered, within that stretch. -/
abbrev low3 : Valuation τ sig (Elt Ideal) := after hostOps8_3 (after hostOps8_2 (after hostOps8_1 (after hostOps8 V)))

/-- The choice between a degree and one, at its three operands. -/
theorem choice_read : after hostOps7_2 (after hostOps7_1 V) (Proc.devRef .tc main_v347) = select (V (Proc.devRef .tc main_v346)) (V (Proc.devRef .tc main_v344))
    (broadcastInDim S10000 ![] Facts₀.bcast_S_S10000 (id (V (Proc.devRef .tc main_cst_80)))) := by after_reads_simp; rfl
/-- The degrees before the epilogue. -/
theorem deg_read : mid V (Proc.devRef .tc main_v347) = degSafe (V (Proc.devRef .tc main_v3)) (V (Proc.devRef .tc main_v327)) (V (Proc.devRef .tc main_v305)) :=
  (choice_read (after hostOps7 V)).trans (by after_reads_simp; rfl)
/-- The edges' coefficients before the epilogue. -/
theorem coef_read : mid V (Proc.devRef .tc main_v364) = coef (Host.rsqrt (mid V (Proc.devRef .tc main_v347))) (V (Proc.devRef .tc main_v1)) (V (Proc.devRef .tc main_v3)) (V (Proc.devRef .tc main_v327)) := by
  after_reads_simp; rfl
/-- The neighbours' sums before the epilogue. -/
theorem agg_read : mid V (Proc.devRef .tc main_v377) = agg (V (Proc.devRef .tc main_v340)) (coef (Host.rsqrt (mid V (Proc.devRef .tc main_v347))) (V (Proc.devRef .tc main_v1)) (V (Proc.devRef .tc main_v3)) (V (Proc.devRef .tc main_v327))) (V (Proc.devRef .tc main_v1)) (V (Proc.devRef .tc main_v3)) := by
  after_reads_simp; rfl
/-- The nodes' own scales before the epilogue, a column. -/
theorem scale_read : mid V (Proc.devRef .tc main_v379) = col (Host.divf (F := Ideal) (V (Proc.devRef .tc main_v305)) (mid V (Proc.devRef .tc main_v347))) := by
  after_reads_simp; rfl
/-- The mask before the epilogue, a column. -/
theorem maskCol_read : mid V (Proc.devRef .tc main_v380) = col (V (Proc.devRef .tc main_v305)) := by after_reads_simp; rfl
/-- The bias before the epilogue, a row. -/
theorem bias_read : mid V (Proc.devRef .tc main_v381) = shapeCast S1x128 ((V (Proc.devRef .tc main_arg8)) : A S128) Facts₀.shapeCasts_S128_S1x128 := by after_reads_simp; rfl

/-- The scores before the readout. -/
theorem score_read : low V (Proc.devRef .tc main_v402) = scoreVec (shapeCast S10000 (proj (V (Proc.devRef .tc main_v382)) (V (Proc.devRef .tc main_arg13))) Facts₀.shapeCasts_S10000x1_S10000) (V (Proc.devRef .tc main_v364)) (V (Proc.devRef .tc main_v1)) (V (Proc.devRef .tc main_v3)) (V (Proc.devRef .tc main_v305)) (V (Proc.devRef .tc main_v347))
    (shapeCast S_ ((V (Proc.devRef .tc main_arg14)) : A S1) Facts₀.shapeCasts_S1_S_) := by after_reads_simp; rfl
/-- The nodes by score, from the scores. -/
theorem idx_read : low3 V (Proc.devRef .tc main_v407) = byScore (negScore (low V (Proc.devRef .tc main_v402)) (V (Proc.devRef .tc main_v305))) := by after_reads_simp; rfl
/-- The mask of the nodes kept, from the nodes by score. -/
theorem mask_read_at : low V (Proc.devRef .tc main_v465) = keepMask (order (low3 V (Proc.devRef .tc main_v407)) (V (Proc.devRef .tc main_arg2))) (V (Proc.devRef .tc main_arg2)) (V (Proc.devRef .tc main_v10)) (V (Proc.devRef .tc main_v305)) := by
  generalize hU : low3 V = U
  rw [show (V (Proc.devRef .tc main_arg2)) = (U (Proc.devRef .tc main_arg2)) from by subst hU; after_reads_simp, show (V (Proc.devRef .tc main_v10)) = (U (Proc.devRef .tc main_v10)) from by subst hU; after_reads_simp,
    show (V (Proc.devRef .tc main_v305)) = (U (Proc.devRef .tc main_v305)) from by subst hU; after_reads_simp]
  show after hostOps8_6 (after hostOps8_5 (after hostOps8_4 (low3 V))) (Proc.devRef .tc main_v465) = _
  rw [hU]
  after_reads_simp; rfl
/-- The mask of the nodes kept, from the scores. -/
theorem mask_read : low V (Proc.devRef .tc main_v465) = newMask (low V (Proc.devRef .tc main_v402)) (V (Proc.devRef .tc main_arg2)) (V (Proc.devRef .tc main_v10)) (V (Proc.devRef .tc main_v305)) := by
  rw [mask_read_at, idx_read]; rfl
/-- The features pooled, from the scores and the new mask. -/
theorem feat_read : low V (Proc.devRef .tc main_v472) = newFeat (V (Proc.devRef .tc main_v382)) (low V (Proc.devRef .tc main_v402)) (low V (Proc.devRef .tc main_v465)) := by after_reads_simp; rfl
/-- The edges' new weights, from the new mask. -/
theorem edge_read : low V (Proc.devRef .tc main_v487) = newEdge (low V (Proc.devRef .tc main_v465)) (V (Proc.devRef .tc main_v1)) (V (Proc.devRef .tc main_v3)) := by after_reads_simp; rfl
/-- The new mask as a column. -/
theorem newCol_read : low V (Proc.devRef .tc main_v488) = col (low V (Proc.devRef .tc main_v465)) := by after_reads_simp; rfl
/-- The layer's readout, from the readout kernel's three results. -/
theorem readout_read : after hostOps9_2 (after hostOps9_1 (after hostOps9 V)) (Proc.devRef .tc main_v499) = readoutOf (V (Proc.devRef .tc main_v489_0)) (V (Proc.devRef .tc main_v489_1)) (shapeCast S128 ((V (Proc.devRef .tc main_v489_2)) : A S1x128) Facts₀.shapeCasts_S1x128_S128) := by
  after_reads_simp; rfl

end Cert.Gnn.Reads3

end
-- ==== Proof.Matmul.lean ====
/-
  What the three matrix-product kernels leave: the features' product with the layer's weights.
-/
module

public import proofs.«01_k».proof.Proof.Model
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Gnn.Matmul

open Idealize.ShloMosaic Idealize.ShloMosaic.TcCoe Cert.KernelIdeal Cert.KernelIdeal.Gen

variable (V : (c : Dev nD) → (b : Ref sig .tc) → Buf (Elt Ideal) ((c : Thread nD τ).loc b))

/-- The blocks of the first product at a grid point. -/
theorem idx0 : ∀ t : Fin cfg0.N, win0_0.index t = ![t.val, 0] ∧ win0_1.index t = ![0, 0] ∧ win0_2.index t = ![t.val, 0] :=
  (by decide +kernel : ∀ t : Fin grid0.N, _)
/-- The first product. -/
theorem final0 (c : Dev nD) : (dat0 V c).arrAt 2 cfg0.N = feat (V c main_arg0) (V c main_arg3) := by
  refine (dat0 V c).arrAt_eq_of_covers 2 _ (by decide +kernel) fun t _ y => ?_
  blk_simp
  rw [after0_2]; frame_out
  pointwise [k0_pay1, feat]
  blk_point [iblk0, idx0 t]

/-- The blocks of the second product at a grid point. -/
theorem idx3 : ∀ t : Fin cfg3.N, win3_0.index t = ![t.val, 0] ∧ win3_1.index t = ![0, 0] ∧ win3_2.index t = ![t.val, 0] :=
  (by decide +kernel : ∀ t : Fin grid3.N, _)
/-- The second product. -/
theorem final3 (c : Dev nD) : (dat3 V c).arrAt 2 cfg3.N = feat (V c main_v152) (V c main_arg5) := by
  refine (dat3 V c).arrAt_eq_of_covers 2 _ (by decide +kernel) fun t _ y => ?_
  blk_simp
  rw [after3_2]; frame_out
  pointwise [k3_pay1, feat]
  blk_point [iblk0, idx3 t]

/-- The blocks of the third product at a grid point. -/
theorem idx6 : ∀ t : Fin cfg6.N, win6_0.index t = ![t.val, 0] ∧ win6_1.index t = ![0, 0] ∧ win6_2.index t = ![t.val, 0] :=
  (by decide +kernel : ∀ t : Fin grid6.N, _)
/-- The third product. -/
theorem final6 (c : Dev nD) : (dat6 V c).arrAt 2 cfg6.N = feat (V c main_v312) (V c main_arg7) := by
  refine (dat6 V c).arrAt_eq_of_covers 2 _ (by decide +kernel) fun t _ y => ?_
  blk_simp
  rw [after6_2]; frame_out
  pointwise [k6_pay1, feat]
  blk_point [iblk0, idx6 t]

end Cert.Gnn.Matmul

end
-- ==== Proof.Readout3.lean ====
/-
  What the readout kernel of the third layer leaves: the maxima, the sums and the counts over all nodes.
-/
module

public import proofs.«01_k».proof.Proof.Readout

@[expose] public section

set_option maxRecDepth 16384

noncomputable section

namespace Cert.Gnn.Readout

open Cert.Gnn.Words Cert.Gnn.Running Cert.Gnn.Trips Idealize.ShloMosaic Idealize.ShloMosaic.TcCoe Cert.KernelIdeal Cert.KernelIdeal.Gen

variable (V : (c : Dev nD) → (b : Ref sig .tc) → Buf (Elt Ideal) ((c : Thread nD τ).loc b))

/-- The blocks of the third readout at a grid point, -/
theorem idx8 : ∀ t : Fin cfg8.N, win8_0.index t = ![t.val, 0] ∧ win8_1.index t = ![t.val, 0] ∧ win8_2.index t = ![t.val, 0]
    ∧ win8_3.index t = ![0, 0] ∧ win8_4.index t = ![0, 0] ∧ win8_5.index t = ![0, 0] :=
  (by decide +kernel : ∀ t : Fin grid8.N, _)
/-- its features, -/
theorem blk8_0 (c : Dev nD) (t : Fin cfg8.N) (r : Fin 2000) (h : Fin 128) : (iblk8 V c 0 t : A S2000x128) (ix2 r h) = (V c main_v472 : A S10000x128) (ix2 (nodeOf (t.cast N_8) r) h) := by
  blk_point [iblk8, idx8 t]
/-- its mask -/
theorem blk8_1 (c : Dev nD) (t : Fin cfg8.N) (r : Fin 2000) : (iblk8 V c 1 t : A S2000x1) (ix2 r 0) = (V c main_v488 : A S10000x1) (ix2 (nodeOf (t.cast N_8) r) 0) := by
  blk_point [iblk8, idx8 t]
/-- and its membership. -/
theorem blk8_2 (c : Dev nD) (t : Fin cfg8.N) (r : Fin 2000) (h : Fin 128) : (iblk8 V c 2 t : A S2000x128) (ix2 r h) = (V c main_v17 : A S10000x128) (ix2 (nodeOf (t.cast N_8) r) h) := by
  blk_point [iblk8, idx8 t]

/-- The third readout's maxima. -/
theorem max8 (c : Dev nD) : IsMax ((dat8 V c).arrAt 3 cfg8.N) (V c main_v472) (V c main_v17) (V c main_v488) := by
  intro b h y
  have e : (dat8 V c).arrAt 3 cfg8.N = (outsAt8 V c 4 (by decide)).1 := by
    refine (dat8 V c).arrAt_eq_of_after_last 3 t8_4 (by decide +kernel) _ fun j => ?_
    blk_simp; rw [after8_3]; rfl
  rw [e]
  refine max_points N_8 (fun n hn => ((outsAt8 V c n hn).1 (ix2 b h) : EReal)) _ _ _ b h y (fun t ht => ?_) (fun t ht => ?_)
  · rw [outsAt8_A V c t ht]; frame_out
    refine (loop_le (ms8_3 t).view _ _ (iblk8 V c 0 t) (iblk8 V c 2 t) (iblk8 V c 1 t) rfl (fun k => trip8 _ c _ _ _ _ _ _ _ _ _ _ _ _ _ _ _ _ _ k _) _ b h y).trans ?_
    refine and_congr (le_of_same (start_read (ms8_3 t).view b h)) (forall_congr' fun r => le_of_same ?_)
    exact offer_block _ _ _ _ _ _ _ (blk8_0 V c t) (blk8_2 V c t) (blk8_1 V c t) r b h
  · rw [outsAt8_B V c t ht]; frame_out
    refine (List.append_nil _ ▸ loop_le (ms8_3 t).view _ _ (iblk8 V c 0 t) (iblk8 V c 2 t) (iblk8 V c 1 t) rfl (fun k => trip8 _ c _ _ _ _ _ _ _ _ _ _ _ _ _ _ _ _ _ k _) [] b h y).trans ?_
    rw [Memref.IsWhole.read_unread]
    refine and_congr Iff.rfl (forall_congr' fun r => le_of_same ?_)
    exact offer_block _ _ _ _ _ _ _ (blk8_0 V c t) (blk8_2 V c t) (blk8_1 V c t) r b h

/-- The third readout's sums. -/
theorem sum8 (c : Dev nD) : IsSum ((dat8 V c).arrAt 4 cfg8.N) (V c main_v472) (V c main_v17) (V c main_v488) := by
  intro b h
  have e : (dat8 V c).arrAt 4 cfg8.N = (outsAt8 V c 4 (by decide)).2.1 := by
    refine (dat8 V c).arrAt_eq_of_after_last 4 t8_4 (by decide +kernel) _ fun j => ?_
    blk_simp; rw [after8_4]; rfl
  rw [e]
  refine sum_points N_8 (fun n hn => ((outsAt8 V c n hn).2.1 (ix2 b h) : EReal)) _ (fun t ht => ?_) (fun t ht => ?_)
  · rw [outsAt8_A V c t ht]; frame_out
    refine (pay6_apply _ _ _ _ b h).trans (congrArg₂ (· + ·) (pay2_apply b h) (Finset.sum_congr rfl fun r _ => ?_))
    rw [blk8_0 V c t, blk8_1 V c t, blk8_2 V c t]
  · rw [outsAt8_B V c t ht]; frame_out
    refine (pay6_apply _ _ _ _ b h).trans (congrArg₂ (· + ·) rfl (Finset.sum_congr rfl fun r _ => ?_))
    rw [blk8_0 V c t, blk8_1 V c t, blk8_2 V c t]

/-- The third readout's counts. -/
theorem count8 (c : Dev nD) : IsCount ((dat8 V c).arrAt 5 cfg8.N) (V c main_v17) (V c main_v488) := by
  intro b
  have e : (dat8 V c).arrAt 5 cfg8.N = (outsAt8 V c 4 (by decide)).2.2 := by
    refine (dat8 V c).arrAt_eq_of_after_last 5 t8_4 (by decide +kernel) _ fun j => ?_
    blk_simp; rw [after8_5]; rfl
  rw [e]
  refine sum_points N_8 (fun n hn => ((outsAt8 V c n hn).2.2 (ix2 0 b) : EReal)) _ (fun t ht => ?_) (fun t ht => ?_)
  · rw [outsAt8_A V c t ht]; frame_out
    refine (pay7_apply _ _ _ b).trans (congrArg₂ (· + ·) (pay3_apply b) (Finset.sum_congr rfl fun r _ => ?_))
    rw [blk8_1 V c t, blk8_2 V c t]
  · rw [outsAt8_B V c t ht]; frame_out
    refine (pay7_apply _ _ _ b).trans (congrArg₂ (· + ·) rfl (Finset.sum_congr rfl fun r _ => ?_))
    rw [blk8_1 V c t, blk8_2 V c t]

end Cert.Gnn.Readout

end
-- ==== Proof.Reads2.lean ====
/-
  What the host operations around layer 2's kernels leave: each stretch read at the buffers the later steps use, from
  any contents `V` before it.
-/
module

public import proofs.«01_k».proof.Proof.Model
public import proofs.«01_k».proof.Proof.Gen.KernelIdeal.Launch
public import Idealize.ShloMosaic.Lib.StableHlo.RunRead

@[expose] public section

set_option maxRecDepth 8000

noncomputable section

namespace Cert.Gnn.Reads2

open Idealize.ShloMosaic Idealize.ShloMosaic.StableHlo Cert.KernelIdeal Cert.KernelIdeal.Gen

variable (V : Valuation τ sig (Elt Ideal))

/-- The contents after the stretch before the epilogue. -/
abbrev mid : Valuation τ sig (Elt Ideal) := after hostOps4_2 (after hostOps4_1 (after hostOps4 V))
/-- The contents after the stretch before the readout. -/
abbrev low : Valuation τ sig (Elt Ideal) :=
  after hostOps5_6 (after hostOps5_5 (after hostOps5_4 (after hostOps5_3 (after hostOps5_2 (after hostOps5_1 (after hostOps5 V))))))
/-- The contents before the nodes are ordered, within that stretch. -/
abbrev low3 : Valuation τ sig (Elt Ideal) := after hostOps5_3 (after hostOps5_2 (after hostOps5_1 (after hostOps5 V)))

/-- The choice between a degree and one, at its three operands. -/
theorem choice_read : after hostOps4_2 (after hostOps4_1 V) (Proc.devRef .tc main_v187) = select (V (Proc.devRef .tc main_v186)) (V (Proc.devRef .tc main_v184))
    (broadcastInDim S10000 ![] Facts₀.bcast_S_S10000 (id (V (Proc.devRef .tc main_cst_42)))) := by after_reads_simp; rfl
/-- The degrees before the epilogue. -/
theorem deg_read : mid V (Proc.devRef .tc main_v187) = degSafe (V (Proc.devRef .tc main_v3)) (V (Proc.devRef .tc main_v167)) (V (Proc.devRef .tc main_v145)) :=
  (choice_read (after hostOps4 V)).trans (by after_reads_simp; rfl)
/-- The edges' coefficients before the epilogue. -/
theorem coef_read : mid V (Proc.devRef .tc main_v204) = coef (Host.rsqrt (mid V (Proc.devRef .tc main_v187))) (V (Proc.devRef .tc main_v1)) (V (Proc.devRef .tc main_v3)) (V (Proc.devRef .tc main_v167)) := by
  after_reads_simp; rfl
/-- The neighbours' sums before the epilogue. -/
theorem agg_read : mid V (Proc.devRef .tc main_v217) = agg (V (Proc.devRef .tc main_v180)) (coef (Host.rsqrt (mid V (Proc.devRef .tc main_v187))) (V (Proc.devRef .tc main_v1)) (V (Proc.devRef .tc main_v3)) (V (Proc.devRef .tc main_v167))) (V (Proc.devRef .tc main_v1)) (V (Proc.devRef .tc main_v3)) := by
  after_reads_simp; rfl
/-- The nodes' own scales before the epilogue, a column. -/
theorem scale_read : mid V (Proc.devRef .tc main_v219) = col (Host.divf (F := Ideal) (V (Proc.devRef .tc main_v145)) (mid V (Proc.devRef .tc main_v187))) := by
  after_reads_simp; rfl
/-- The mask before the epilogue, a column. -/
theorem maskCol_read : mid V (Proc.devRef .tc main_v220) = col (V (Proc.devRef .tc main_v145)) := by after_reads_simp; rfl
/-- The bias before the epilogue, a row. -/
theorem bias_read : mid V (Proc.devRef .tc main_v221) = shapeCast S1x128 ((V (Proc.devRef .tc main_arg6)) : A S128) Facts₀.shapeCasts_S128_S1x128 := by after_reads_simp; rfl

/-- The scores before the readout. -/
theorem score_read : low V (Proc.devRef .tc main_v242) = scoreVec (shapeCast S10000 (proj (V (Proc.devRef .tc main_v222)) (V (Proc.devRef .tc main_arg11))) Facts₀.shapeCasts_S10000x1_S10000) (V (Proc.devRef .tc main_v204)) (V (Proc.devRef .tc main_v1)) (V (Proc.devRef .tc main_v3)) (V (Proc.devRef .tc main_v145)) (V (Proc.devRef .tc main_v187))
    (shapeCast S_ ((V (Proc.devRef .tc main_arg12)) : A S1) Facts₀.shapeCasts_S1_S_) := by after_reads_simp; rfl
/-- The nodes by score, from the scores. -/
theorem idx_read : low3 V (Proc.devRef .tc main_v247) = byScore (negScore (low V (Proc.devRef .tc main_v242)) (V (Proc.devRef .tc main_v145))) := by after_reads_simp; rfl
/-- The mask of the nodes kept, from the nodes by score. -/
theorem mask_read_at : low V (Proc.devRef .tc main_v305) = keepMask (order (low3 V (Proc.devRef .tc main_v247)) (V (Proc.devRef .tc main_arg2))) (V (Proc.devRef .tc main_arg2)) (V (Proc.devRef .tc main_v10)) (V (Proc.devRef .tc main_v145)) := by
  generalize hU : low3 V = U
  rw [show (V (Proc.devRef .tc main_arg2)) = (U (Proc.devRef .tc main_arg2)) from by subst hU; after_reads_simp, show (V (Proc.devRef .tc main_v10)) = (U (Proc.devRef .tc main_v10)) from by subst hU; after_reads_simp,
    show (V (Proc.devRef .tc main_v145)) = (U (Proc.devRef .tc main_v145)) from by subst hU; after_reads_simp]
  show after hostOps5_6 (after hostOps5_5 (after hostOps5_4 (low3 V))) (Proc.devRef .tc main_v305) = _
  rw [hU]
  after_reads_simp; rfl
/-- The mask of the nodes kept, from the scores. -/
theorem mask_read : low V (Proc.devRef .tc main_v305) = newMask (low V (Proc.devRef .tc main_v242)) (V (Proc.devRef .tc main_arg2)) (V (Proc.devRef .tc main_v10)) (V (Proc.devRef .tc main_v145)) := by
  rw [mask_read_at, idx_read]; rfl
/-- The features pooled, from the scores and the new mask. -/
theorem feat_read : low V (Proc.devRef .tc main_v312) = newFeat (V (Proc.devRef .tc main_v222)) (low V (Proc.devRef .tc main_v242)) (low V (Proc.devRef .tc main_v305)) := by after_reads_simp; rfl
/-- The edges' new weights, from the new mask. -/
theorem edge_read : low V (Proc.devRef .tc main_v327) = newEdge (low V (Proc.devRef .tc main_v305)) (V (Proc.devRef .tc main_v1)) (V (Proc.devRef .tc main_v3)) := by after_reads_simp; rfl
/-- The new mask as a column. -/
theorem newCol_read : low V (Proc.devRef .tc main_v328) = col (low V (Proc.devRef .tc main_v305)) := by after_reads_simp; rfl
/-- The layer's readout, from the readout kernel's three results. -/
theorem readout_read : after hostOps6_2 (after hostOps6_1 (after hostOps6 V)) (Proc.devRef .tc main_v339) = readoutOf (V (Proc.devRef .tc main_v329_0)) (V (Proc.devRef .tc main_v329_1)) (shapeCast S128 ((V (Proc.devRef .tc main_v329_2)) : A S1x128) Facts₀.shapeCasts_S1x128_S128) := by
  after_reads_simp; rfl

end Cert.Gnn.Reads2

end
-- ==== Proof.Readout2.lean ====
/-
  What the readout kernel of the second layer leaves: the maxima, the sums and the counts over all nodes.
-/
module

public import proofs.«01_k».proof.Proof.Readout

@[expose] public section

set_option maxRecDepth 16384

noncomputable section

namespace Cert.Gnn.Readout

open Cert.Gnn.Words Cert.Gnn.Running Cert.Gnn.Trips Idealize.ShloMosaic Idealize.ShloMosaic.TcCoe Cert.KernelIdeal Cert.KernelIdeal.Gen

variable (V : (c : Dev nD) → (b : Ref sig .tc) → Buf (Elt Ideal) ((c : Thread nD τ).loc b))

/-- The blocks of the second readout at a grid point, -/
theorem idx5 : ∀ t : Fin cfg5.N, win5_0.index t = ![t.val, 0] ∧ win5_1.index t = ![t.val, 0] ∧ win5_2.index t = ![t.val, 0]
    ∧ win5_3.index t = ![0, 0] ∧ win5_4.index t = ![0, 0] ∧ win5_5.index t = ![0, 0] :=
  (by decide +kernel : ∀ t : Fin grid5.N, _)
/-- its features, -/
theorem blk5_0 (c : Dev nD) (t : Fin cfg5.N) (r : Fin 2000) (h : Fin 128) : (iblk5 V c 0 t : A S2000x128) (ix2 r h) = (V c main_v312 : A S10000x128) (ix2 (nodeOf (t.cast N_5) r) h) := by
  blk_point [iblk5, idx5 t]
/-- its mask -/
theorem blk5_1 (c : Dev nD) (t : Fin cfg5.N) (r : Fin 2000) : (iblk5 V c 1 t : A S2000x1) (ix2 r 0) = (V c main_v328 : A S10000x1) (ix2 (nodeOf (t.cast N_5) r) 0) := by
  blk_point [iblk5, idx5 t]
/-- and its membership. -/
theorem blk5_2 (c : Dev nD) (t : Fin cfg5.N) (r : Fin 2000) (h : Fin 128) : (iblk5 V c 2 t : A S2000x128) (ix2 r h) = (V c main_v17 : A S10000x128) (ix2 (nodeOf (t.cast N_5) r) h) := by
  blk_point [iblk5, idx5 t]

/-- The second readout's maxima. -/
theorem max5 (c : Dev nD) : IsMax ((dat5 V c).arrAt 3 cfg5.N) (V c main_v312) (V c main_v17) (V c main_v328) := by
  intro b h y
  have e : (dat5 V c).arrAt 3 cfg5.N = (outsAt5 V c 4 (by decide)).1 := by
    refine (dat5 V c).arrAt_eq_of_after_last 3 t5_4 (by decide +kernel) _ fun j => ?_
    blk_simp; rw [after5_3]; rfl
  rw [e]
  refine max_points N_5 (fun n hn => ((outsAt5 V c n hn).1 (ix2 b h) : EReal)) _ _ _ b h y (fun t ht => ?_) (fun t ht => ?_)
  · rw [outsAt5_A V c t ht]; frame_out
    refine (loop_le (ms5_3 t).view _ _ (iblk5 V c 0 t) (iblk5 V c 2 t) (iblk5 V c 1 t) rfl (fun k => trip5 _ c _ _ _ _ _ _ _ _ _ _ _ _ _ _ _ _ _ k _) _ b h y).trans ?_
    refine and_congr (le_of_same (start_read (ms5_3 t).view b h)) (forall_congr' fun r => le_of_same ?_)
    exact offer_block _ _ _ _ _ _ _ (blk5_0 V c t) (blk5_2 V c t) (blk5_1 V c t) r b h
  · rw [outsAt5_B V c t ht]; frame_out
    refine (List.append_nil _ ▸ loop_le (ms5_3 t).view _ _ (iblk5 V c 0 t) (iblk5 V c 2 t) (iblk5 V c 1 t) rfl (fun k => trip5 _ c _ _ _ _ _ _ _ _ _ _ _ _ _ _ _ _ _ k _) [] b h y).trans ?_
    rw [Memref.IsWhole.read_unread]
    refine and_congr Iff.rfl (forall_congr' fun r => le_of_same ?_)
    exact offer_block _ _ _ _ _ _ _ (blk5_0 V c t) (blk5_2 V c t) (blk5_1 V c t) r b h

/-- The second readout's sums. -/
theorem sum5 (c : Dev nD) : IsSum ((dat5 V c).arrAt 4 cfg5.N) (V c main_v312) (V c main_v17) (V c main_v328) := by
  intro b h
  have e : (dat5 V c).arrAt 4 cfg5.N = (outsAt5 V c 4 (by decide)).2.1 := by
    refine (dat5 V c).arrAt_eq_of_after_last 4 t5_4 (by decide +kernel) _ fun j => ?_
    blk_simp; rw [after5_4]; rfl
  rw [e]
  refine sum_points N_5 (fun n hn => ((outsAt5 V c n hn).2.1 (ix2 b h) : EReal)) _ (fun t ht => ?_) (fun t ht => ?_)
  · rw [outsAt5_A V c t ht]; frame_out
    refine (pay6_apply _ _ _ _ b h).trans (congrArg₂ (· + ·) (pay2_apply b h) (Finset.sum_congr rfl fun r _ => ?_))
    rw [blk5_0 V c t, blk5_1 V c t, blk5_2 V c t]
  · rw [outsAt5_B V c t ht]; frame_out
    refine (pay6_apply _ _ _ _ b h).trans (congrArg₂ (· + ·) rfl (Finset.sum_congr rfl fun r _ => ?_))
    rw [blk5_0 V c t, blk5_1 V c t, blk5_2 V c t]

/-- The second readout's counts. -/
theorem count5 (c : Dev nD) : IsCount ((dat5 V c).arrAt 5 cfg5.N) (V c main_v17) (V c main_v328) := by
  intro b
  have e : (dat5 V c).arrAt 5 cfg5.N = (outsAt5 V c 4 (by decide)).2.2 := by
    refine (dat5 V c).arrAt_eq_of_after_last 5 t5_4 (by decide +kernel) _ fun j => ?_
    blk_simp; rw [after5_5]; rfl
  rw [e]
  refine sum_points N_5 (fun n hn => ((outsAt5 V c n hn).2.2 (ix2 0 b) : EReal)) _ (fun t ht => ?_) (fun t ht => ?_)
  · rw [outsAt5_A V c t ht]; frame_out
    refine (pay7_apply _ _ _ b).trans (congrArg₂ (· + ·) (pay3_apply b) (Finset.sum_congr rfl fun r _ => ?_))
    rw [blk5_1 V c t, blk5_2 V c t]
  · rw [outsAt5_B V c t ht]; frame_out
    refine (pay7_apply _ _ _ b).trans (congrArg₂ (· + ·) rfl (Finset.sum_congr rfl fun r _ => ?_))
    rw [blk5_1 V c t, blk5_2 V c t]

end Cert.Gnn.Readout

end
-- ==== Proof.Reads1.lean ====
/-
  What the host operations around layer 1's kernels leave: each stretch read at the buffers the later steps use, from
  any contents `V` before it.
-/
module

public import proofs.«01_k».proof.Proof.Model
public import proofs.«01_k».proof.Proof.Gen.KernelIdeal.Launch
public import Idealize.ShloMosaic.Lib.StableHlo.RunRead

@[expose] public section

set_option maxRecDepth 8000

noncomputable section

namespace Cert.Gnn.Reads1

open Idealize.ShloMosaic Idealize.ShloMosaic.StableHlo Cert.KernelIdeal Cert.KernelIdeal.Gen

variable (V : Valuation τ sig (Elt Ideal))

/-- The contents after the first stretch. -/
abbrev top : Valuation τ sig (Elt Ideal) := after hostOps0_2 (after hostOps0_1 (after hostOps0 V))

/-- The edges' sources. -/
theorem src_read : top V (Proc.devRef .tc main_v1) = srcOf (V (Proc.devRef .tc main_arg1)) := by after_reads_simp; rfl
/-- The edges' targets. -/
theorem dst_read : top V (Proc.devRef .tc main_v3) = dstOf (V (Proc.devRef .tc main_arg1)) := by after_reads_simp; rfl
/-- The graphs' first positions. -/
theorem start_read : top V (Proc.devRef .tc main_v10) = segStart (V (Proc.devRef .tc main_arg2)) := by after_reads_simp; rfl
/-- The membership of the nodes in the graphs. -/
theorem member_read : top V (Proc.devRef .tc main_v17) = member (V (Proc.devRef .tc main_arg2)) := by after_reads_simp; rfl
/-- The first mask keeps every node. -/
theorem ones_read : top V (Proc.devRef .tc main_v18) = splatN 0x3F800000#32 := by after_reads_simp; rfl
/-- The first weights are one. -/
theorem edges_read : top V (Proc.devRef .tc main_v19) = splatE 0x3F800000#32 := by after_reads_simp; rfl

/-- The contents after the stretch before the epilogue. -/
abbrev mid : Valuation τ sig (Elt Ideal) := after hostOps1_2 (after hostOps1_1 (after hostOps1 V))
/-- The contents after the stretch before the readout. -/
abbrev low : Valuation τ sig (Elt Ideal) :=
  after hostOps2_6 (after hostOps2_5 (after hostOps2_4 (after hostOps2_3 (after hostOps2_2 (after hostOps2_1 (after hostOps2 V))))))
/-- The contents before the nodes are ordered, within that stretch. -/
abbrev low3 : Valuation τ sig (Elt Ideal) := after hostOps2_3 (after hostOps2_2 (after hostOps2_1 (after hostOps2 V)))

/-- The choice between a degree and one, at its three operands. -/
theorem choice_read : after hostOps1_2 (after hostOps1_1 V) (Proc.devRef .tc main_v27) = select (V (Proc.devRef .tc main_v26)) (V (Proc.devRef .tc main_v24))
    (broadcastInDim S10000 ![] Facts₀.bcast_S_S10000 (id (V (Proc.devRef .tc main_cst_5)))) := by after_reads_simp; rfl
/-- The degrees before the epilogue. -/
theorem deg_read : mid V (Proc.devRef .tc main_v27) = degSafe (V (Proc.devRef .tc main_v3)) (V (Proc.devRef .tc main_v19)) (V (Proc.devRef .tc main_v18)) :=
  (choice_read (after hostOps1 V)).trans (by after_reads_simp; rfl)
/-- The edges' coefficients before the epilogue. -/
theorem coef_read : mid V (Proc.devRef .tc main_v44) = coef (Host.rsqrt (mid V (Proc.devRef .tc main_v27))) (V (Proc.devRef .tc main_v1)) (V (Proc.devRef .tc main_v3)) (V (Proc.devRef .tc main_v19)) := by
  after_reads_simp; rfl
/-- The neighbours' sums before the epilogue. -/
theorem agg_read : mid V (Proc.devRef .tc main_v57) = agg (V (Proc.devRef .tc main_v20)) (coef (Host.rsqrt (mid V (Proc.devRef .tc main_v27))) (V (Proc.devRef .tc main_v1)) (V (Proc.devRef .tc main_v3)) (V (Proc.devRef .tc main_v19))) (V (Proc.devRef .tc main_v1)) (V (Proc.devRef .tc main_v3)) := by
  after_reads_simp; rfl
/-- The nodes' own scales before the epilogue, a column. -/
theorem scale_read : mid V (Proc.devRef .tc main_v59) = col (Host.divf (F := Ideal) (V (Proc.devRef .tc main_v18)) (mid V (Proc.devRef .tc main_v27))) := by
  after_reads_simp; rfl
/-- The mask before the epilogue, a column. -/
theorem maskCol_read : mid V (Proc.devRef .tc main_v60) = col (V (Proc.devRef .tc main_v18)) := by after_reads_simp; rfl
/-- The bias before the epilogue, a row. -/
theorem bias_read : mid V (Proc.devRef .tc main_v61) = shapeCast S1x128 ((V (Proc.devRef .tc main_arg4)) : A S128) Facts₀.shapeCasts_S128_S1x128 := by after_reads_simp; rfl

/-- The scores before the readout. -/
theorem score_read : low V (Proc.devRef .tc main_v82) = scoreVec (shapeCast S10000 (proj (V (Proc.devRef .tc main_v62)) (V (Proc.devRef .tc main_arg9))) Facts₀.shapeCasts_S10000x1_S10000) (V (Proc.devRef .tc main_v44)) (V (Proc.devRef .tc main_v1)) (V (Proc.devRef .tc main_v3)) (V (Proc.devRef .tc main_v18)) (V (Proc.devRef .tc main_v27))
    (shapeCast S_ ((V (Proc.devRef .tc main_arg10)) : A S1) Facts₀.shapeCasts_S1_S_) := by after_reads_simp; rfl
/-- The nodes by score, from the scores. -/
theorem idx_read : low3 V (Proc.devRef .tc main_v87) = byScore (negScore (low V (Proc.devRef .tc main_v82)) (V (Proc.devRef .tc main_v18))) := by after_reads_simp; rfl
/-- The mask of the nodes kept, from the nodes by score. -/
theorem mask_read_at : low V (Proc.devRef .tc main_v145) = keepMask (order (low3 V (Proc.devRef .tc main_v87)) (V (Proc.devRef .tc main_arg2))) (V (Proc.devRef .tc main_arg2)) (V (Proc.devRef .tc main_v10)) (V (Proc.devRef .tc main_v18)) := by
  generalize hU : low3 V = U
  rw [show (V (Proc.devRef .tc main_arg2)) = (U (Proc.devRef .tc main_arg2)) from by subst hU; after_reads_simp, show (V (Proc.devRef .tc main_v10)) = (U (Proc.devRef .tc main_v10)) from by subst hU; after_reads_simp,
    show (V (Proc.devRef .tc main_v18)) = (U (Proc.devRef .tc main_v18)) from by subst hU; after_reads_simp]
  show after hostOps2_6 (after hostOps2_5 (after hostOps2_4 (low3 V))) (Proc.devRef .tc main_v145) = _
  rw [hU]
  after_reads_simp; rfl
/-- The mask of the nodes kept, from the scores. -/
theorem mask_read : low V (Proc.devRef .tc main_v145) = newMask (low V (Proc.devRef .tc main_v82)) (V (Proc.devRef .tc main_arg2)) (V (Proc.devRef .tc main_v10)) (V (Proc.devRef .tc main_v18)) := by
  rw [mask_read_at, idx_read]; rfl
/-- The features pooled, from the scores and the new mask. -/
theorem feat_read : low V (Proc.devRef .tc main_v152) = newFeat (V (Proc.devRef .tc main_v62)) (low V (Proc.devRef .tc main_v82)) (low V (Proc.devRef .tc main_v145)) := by after_reads_simp; rfl
/-- The edges' new weights, from the new mask. -/
theorem edge_read : low V (Proc.devRef .tc main_v167) = newEdge (low V (Proc.devRef .tc main_v145)) (V (Proc.devRef .tc main_v1)) (V (Proc.devRef .tc main_v3)) := by after_reads_simp; rfl
/-- The new mask as a column. -/
theorem newCol_read : low V (Proc.devRef .tc main_v168) = col (low V (Proc.devRef .tc main_v145)) := by after_reads_simp; rfl
/-- The layer's readout, from the readout kernel's three results. -/
theorem readout_read : after hostOps3_2 (after hostOps3_1 (after hostOps3 V)) (Proc.devRef .tc main_v179) = readoutOf (V (Proc.devRef .tc main_v169_0)) (V (Proc.devRef .tc main_v169_1)) (shapeCast S128 ((V (Proc.devRef .tc main_v169_2)) : A S1x128) Facts₀.shapeCasts_S1x128_S128) := by
  after_reads_simp; rfl

end Cert.Gnn.Reads1

end
-- ==== Proof.Readout1.lean ====
/-
  What the readout kernel of the first layer leaves: the maxima, the sums and the counts over all nodes.
-/
module

public import proofs.«01_k».proof.Proof.Readout

@[expose] public section

set_option maxRecDepth 16384

noncomputable section

namespace Cert.Gnn.Readout

open Cert.Gnn.Words Cert.Gnn.Running Cert.Gnn.Trips Idealize.ShloMosaic Idealize.ShloMosaic.TcCoe Cert.KernelIdeal Cert.KernelIdeal.Gen

variable (V : (c : Dev nD) → (b : Ref sig .tc) → Buf (Elt Ideal) ((c : Thread nD τ).loc b))

/-- The blocks of the first readout at a grid point, -/
theorem idx2 : ∀ t : Fin cfg2.N, win2_0.index t = ![t.val, 0] ∧ win2_1.index t = ![t.val, 0] ∧ win2_2.index t = ![t.val, 0]
    ∧ win2_3.index t = ![0, 0] ∧ win2_4.index t = ![0, 0] ∧ win2_5.index t = ![0, 0] :=
  (by decide +kernel : ∀ t : Fin grid2.N, _)
/-- its features, -/
theorem blk2_0 (c : Dev nD) (t : Fin cfg2.N) (r : Fin 2000) (h : Fin 128) : (iblk2 V c 0 t : A S2000x128) (ix2 r h) = (V c main_v152 : A S10000x128) (ix2 (nodeOf (t.cast N_2) r) h) := by
  blk_point [iblk2, idx2 t]
/-- its mask -/
theorem blk2_1 (c : Dev nD) (t : Fin cfg2.N) (r : Fin 2000) : (iblk2 V c 1 t : A S2000x1) (ix2 r 0) = (V c main_v168 : A S10000x1) (ix2 (nodeOf (t.cast N_2) r) 0) := by
  blk_point [iblk2, idx2 t]
/-- and its membership. -/
theorem blk2_2 (c : Dev nD) (t : Fin cfg2.N) (r : Fin 2000) (h : Fin 128) : (iblk2 V c 2 t : A S2000x128) (ix2 r h) = (V c main_v17 : A S10000x128) (ix2 (nodeOf (t.cast N_2) r) h) := by
  blk_point [iblk2, idx2 t]

/-- The first readout's maxima. -/
theorem max2 (c : Dev nD) : IsMax ((dat2 V c).arrAt 3 cfg2.N) (V c main_v152) (V c main_v17) (V c main_v168) := by
  intro b h y
  have e : (dat2 V c).arrAt 3 cfg2.N = (outsAt2 V c 4 (by decide)).1 := by
    refine (dat2 V c).arrAt_eq_of_after_last 3 t2_4 (by decide +kernel) _ fun j => ?_
    blk_simp; rw [after2_3]; rfl
  rw [e]
  refine max_points N_2 (fun n hn => ((outsAt2 V c n hn).1 (ix2 b h) : EReal)) _ _ _ b h y (fun t ht => ?_) (fun t ht => ?_)
  · rw [outsAt2_A V c t ht]; frame_out
    refine (loop_le (ms2_3 t).view _ _ (iblk2 V c 0 t) (iblk2 V c 2 t) (iblk2 V c 1 t) rfl (fun k => trip2 _ c _ _ _ _ _ _ _ _ _ _ _ _ _ _ _ _ _ k _) _ b h y).trans ?_
    refine and_congr (le_of_same (start_read (ms2_3 t).view b h)) (forall_congr' fun r => le_of_same ?_)
    exact offer_block _ _ _ _ _ _ _ (blk2_0 V c t) (blk2_2 V c t) (blk2_1 V c t) r b h
  · rw [outsAt2_B V c t ht]; frame_out
    refine (List.append_nil _ ▸ loop_le (ms2_3 t).view _ _ (iblk2 V c 0 t) (iblk2 V c 2 t) (iblk2 V c 1 t) rfl (fun k => trip2 _ c _ _ _ _ _ _ _ _ _ _ _ _ _ _ _ _ _ k _) [] b h y).trans ?_
    rw [Memref.IsWhole.read_unread]
    refine and_congr Iff.rfl (forall_congr' fun r => le_of_same ?_)
    exact offer_block _ _ _ _ _ _ _ (blk2_0 V c t) (blk2_2 V c t) (blk2_1 V c t) r b h

/-- The first readout's sums. -/
theorem sum2 (c : Dev nD) : IsSum ((dat2 V c).arrAt 4 cfg2.N) (V c main_v152) (V c main_v17) (V c main_v168) := by
  intro b h
  have e : (dat2 V c).arrAt 4 cfg2.N = (outsAt2 V c 4 (by decide)).2.1 := by
    refine (dat2 V c).arrAt_eq_of_after_last 4 t2_4 (by decide +kernel) _ fun j => ?_
    blk_simp; rw [after2_4]; rfl
  rw [e]
  refine sum_points N_2 (fun n hn => ((outsAt2 V c n hn).2.1 (ix2 b h) : EReal)) _ (fun t ht => ?_) (fun t ht => ?_)
  · rw [outsAt2_A V c t ht]; frame_out
    refine (pay6_apply _ _ _ _ b h).trans (congrArg₂ (· + ·) (pay2_apply b h) (Finset.sum_congr rfl fun r _ => ?_))
    rw [blk2_0 V c t, blk2_1 V c t, blk2_2 V c t]
  · rw [outsAt2_B V c t ht]; frame_out
    refine (pay6_apply _ _ _ _ b h).trans (congrArg₂ (· + ·) rfl (Finset.sum_congr rfl fun r _ => ?_))
    rw [blk2_0 V c t, blk2_1 V c t, blk2_2 V c t]

/-- The first readout's counts. -/
theorem count2 (c : Dev nD) : IsCount ((dat2 V c).arrAt 5 cfg2.N) (V c main_v17) (V c main_v168) := by
  intro b
  have e : (dat2 V c).arrAt 5 cfg2.N = (outsAt2 V c 4 (by decide)).2.2 := by
    refine (dat2 V c).arrAt_eq_of_after_last 5 t2_4 (by decide +kernel) _ fun j => ?_
    blk_simp; rw [after2_5]; rfl
  rw [e]
  refine sum_points N_2 (fun n hn => ((outsAt2 V c n hn).2.2 (ix2 0 b) : EReal)) _ (fun t ht => ?_) (fun t ht => ?_)
  · rw [outsAt2_A V c t ht]; frame_out
    refine (pay7_apply _ _ _ b).trans (congrArg₂ (· + ·) (pay3_apply b) (Finset.sum_congr rfl fun r _ => ?_))
    rw [blk2_1 V c t, blk2_2 V c t]
  · rw [outsAt2_B V c t ht]; frame_out
    refine (pay7_apply _ _ _ b).trans (congrArg₂ (· + ·) rfl (Finset.sum_congr rfl fun r _ => ?_))
    rw [blk2_1 V c t, blk2_2 V c t]

end Cert.Gnn.Readout

end
-- ==== Proof.Layer1.lean ====
/-
  Layer 1 on the kernel's side: from contents that hold what the layer is given to contents that hold what it leaves.
-/
module

public import proofs.«01_k».proof.Proof.Carry
public import proofs.«01_k».proof.Proof.Reads1
public import proofs.«01_k».proof.Proof.Matmul
public import proofs.«01_k».proof.Proof.Readout1
public import proofs.«01_k».proof.Proof.Gen.KernelIdeal.Frame.Fold0

@[expose] public section

set_option maxRecDepth 16384

noncomputable section

namespace Cert.Gnn.Layer1

open Idealize.ShloMosaic Idealize.ShloMosaic.TcCoe Idealize.ShloMosaic.StableHlo Cert.KernelIdeal Cert.KernelIdeal.Gen

variable (m : (l : Loc nD τ sig) → Buf (Elt Ideal) l) (ρ : Dev nD → PrngReg) (c : Dev nD)

/-- The shared buffers are no output of the layer's kernels and written by none of its host operations. -/
theorem apart : ∀ r ∈ shared, ((∀ w : Fin cfg0.W, Pipeline.arrRef spec0 w = r → (cfg0.win w).isOut = false)
      ∧ (∀ w : Fin cfg1.W, Pipeline.arrRef spec1 w = r → (cfg1.win w).isOut = false) ∧ (∀ w : Fin cfg2.W, Pipeline.arrRef spec2 w = r → (cfg2.win w).isOut = false))
    ∧ (r ∉ hostOps1_W ∧ r ∉ hostOps1_1_W ∧ r ∉ hostOps1_2_W)
    ∧ (r ∉ hostOps2_W ∧ r ∉ hostOps2_1_W ∧ r ∉ hostOps2_2_W ∧ r ∉ hostOps2_3_W ∧ r ∉ hostOps2_4_W ∧ r ∉ hostOps2_5_W ∧ r ∉ hostOps2_6_W)
    ∧ (r ∉ hostOps3_W ∧ r ∉ hostOps3_1_W ∧ r ∉ hostOps3_2_W) := by decide +kernel

/-- A buffer the stretch before the epilogue does not write. -/
theorem mid_keep (r : Ref sig .tc) (h : r ∉ hostOps1_W ∧ r ∉ hostOps1_1_W ∧ r ∉ hostOps1_2_W) : W7 m ρ c (Proc.devRef .tc r) = W4 m ρ c (Proc.devRef .tc r) :=
  (W7_of m ρ c r h.2.2).trans ((W6_of m ρ c r h.2.1).trans (W5_of m ρ c r h.1))
/-- A buffer the stretch before the readout does not write. -/
theorem low_keep (r : Ref sig .tc) (h : r ∉ hostOps2_W ∧ r ∉ hostOps2_1_W ∧ r ∉ hostOps2_2_W ∧ r ∉ hostOps2_3_W ∧ r ∉ hostOps2_4_W ∧ r ∉ hostOps2_5_W ∧ r ∉ hostOps2_6_W) :
    W15 m ρ c (Proc.devRef .tc r) = W8 m ρ c (Proc.devRef .tc r) :=
  (W15_of m ρ c r h.2.2.2.2.2.2).trans ((W14_of m ρ c r h.2.2.2.2.2.1).trans ((W13_of m ρ c r h.2.2.2.2.1).trans ((W12_of m ρ c r h.2.2.2.1).trans
    ((W11_of m ρ c r h.2.2.1).trans ((W10_of m ρ c r h.2.1).trans (W9_of m ρ c r h.1))))))
/-- A buffer the stretch after the readout does not write. -/
theorem out_keep (r : Ref sig .tc) (h : r ∉ hostOps3_W ∧ r ∉ hostOps3_1_W ∧ r ∉ hostOps3_2_W) : W19 m ρ c (Proc.devRef .tc r) = W16 m ρ c (Proc.devRef .tc r) :=
  (W19_of m ρ c r h.2.2).trans ((W18_of m ρ c r h.2.1).trans (W17_of m ρ c r h.1))

/-- What layer 1 is given. -/
abbrev inp : Given := (args m c).in1

/-- Before the product the shared buffers hold. -/
theorem holds0 : Holds (W3 m ρ c) (inp m c) :=
  ⟨(Reads1.src_read (W0 m ρ c)).trans rfl, (Reads1.dst_read (W0 m ρ c)).trans rfl, (Reads1.start_read (W0 m ρ c)).trans rfl, (Reads1.member_read (W0 m ρ c)).trans rfl⟩
/-- Every node counts at first. -/
theorem mask0 : W3 m ρ c (Proc.devRef .tc main_v18) = (inp m c).mask := Reads1.ones_read (W0 m ρ c)
/-- Every edge weighs one at first. -/
theorem ew0 : W3 m ρ c (Proc.devRef .tc main_v19) = (inp m c).ew := Reads1.edges_read (W0 m ρ c)
/-- The nodes' features. -/
theorem x0 : W3 m ρ c (Proc.devRef .tc main_arg0) = (inp m c).x := W3_args m ρ c main_arg0 (by decide +kernel)

/-- After the product the shared buffers hold. -/
theorem holds1 : Holds (W4 m ρ c) (inp m c) := (holds0 m ρ c).of_eq fun r h => W4_of m ρ c r (apart r h).1.1
/-- Before the epilogue the shared buffers hold. -/
theorem holds4 : Holds (W7 m ρ c) (inp m c) := (holds1 m ρ c).of_eq fun r h => mid_keep m ρ c r (apart r h).2.1
/-- After the epilogue the shared buffers hold. -/
theorem holds5 : Holds (W8 m ρ c) (inp m c) := (holds4 m ρ c).of_eq fun r h => W8_of m ρ c r (apart r h).1.2.1
/-- Before the readout the shared buffers hold. -/
theorem holds12 : Holds (W15 m ρ c) (inp m c) := (holds5 m ρ c).of_eq fun r h => low_keep m ρ c r (apart r h).2.2.1
/-- After the readout the shared buffers hold. -/
theorem holds13 : Holds (W16 m ρ c) (inp m c) := (holds12 m ρ c).of_eq fun r h => W16_of m ρ c r (apart r h).1.2.2
/-- After the layer the shared buffers hold. -/
theorem holds16 : Holds (W19 m ρ c) (inp m c) := (holds13 m ρ c).of_eq fun r h => out_keep m ρ c r (apart r h).2.2.2

/-- The mask, after the product. -/
theorem mask1 : W4 m ρ c (Proc.devRef .tc main_v18) = (inp m c).mask := (W4_of m ρ c main_v18 (by decide +kernel)).trans (mask0 m ρ c)
/-- The edges' weights, after the product. -/
theorem ew1 : W4 m ρ c (Proc.devRef .tc main_v19) = (inp m c).ew := (W4_of m ρ c main_v19 (by decide +kernel)).trans (ew0 m ρ c)
/-- The product. -/
theorem feat1 : W4 m ρ c (Proc.devRef .tc main_v20) = feat (inp m c).x (inp m c).W :=
  (W4_arr m ρ c 2).trans ((Matmul.final0 (V3 m ρ) c).trans (congrArg₂ feat (x0 m ρ c) (W3_args m ρ c main_arg3 (by decide +kernel))))

/-- The mask, after the epilogue. -/
theorem mask5 : W8 m ρ c (Proc.devRef .tc main_v18) = (inp m c).mask :=
  (W8_of m ρ c main_v18 (by decide +kernel)).trans ((mid_keep m ρ c main_v18 (by decide +kernel)).trans (mask1 m ρ c))
/-- The degrees, the coefficients and the convolution. -/
theorem conv : W7 m ρ c (Proc.devRef .tc main_v27) = (inp m c).d ∧ W7 m ρ c (Proc.devRef .tc main_v44) = (inp m c).q ∧ W8 m ρ c (Proc.devRef .tc main_v62) = (inp m c).h :=
  (inp m c).conv_of (holds1 m ρ c).src (holds1 m ρ c).dst (ew1 m ρ c) (mask1 m ρ c) (W4_args m ρ c main_arg4 (by decide +kernel)) (feat1 m ρ c)
    (mid_keep m ρ c main_v20 (by decide +kernel)) (Reads1.deg_read (W4 m ρ c)) (Reads1.coef_read (W4 m ρ c)) (Reads1.agg_read (W4 m ρ c))
    (Reads1.scale_read (W4 m ρ c)) (Reads1.maskCol_read (W4 m ρ c)) (Reads1.bias_read (W4 m ρ c))
    ((W8_arr m ρ c 5).trans (Epilogue.final1 (V7 m ρ) c))
/-- The new mask, the pooled features, the edges' new weights and the new mask as a column. -/
theorem pool : W15 m ρ c (Proc.devRef .tc main_v145) = (inp m c).mask' ∧ W15 m ρ c (Proc.devRef .tc main_v152) = (inp m c).x'
    ∧ W15 m ρ c (Proc.devRef .tc main_v167) = (inp m c).ew' ∧ W15 m ρ c (Proc.devRef .tc main_v168) = col (inp m c).mask' :=
  (inp m c).pool_of (holds5 m ρ c).src (holds5 m ρ c).dst (holds5 m ρ c).start (W8_args m ρ c main_arg2 (by decide +kernel)) (mask5 m ρ c)
    (W8_args m ρ c main_arg9 (by decide +kernel)) (W8_args m ρ c main_arg10 (by decide +kernel))
    ((W8_of m ρ c main_v27 (by decide +kernel)).trans (conv m ρ c).1) ((W8_of m ρ c main_v44 (by decide +kernel)).trans (conv m ρ c).2.1) (conv m ρ c).2.2
    (Reads1.score_read (W8 m ρ c)) (Reads1.mask_read (W8 m ρ c)) (Reads1.feat_read (W8 m ρ c)) (Reads1.edge_read (W8 m ρ c)) (Reads1.newCol_read (W8 m ρ c))
/-- The readout from the kernel's three arrays. -/
theorem readout13 : readoutOf (W16 m ρ c (Proc.devRef .tc main_v169_0)) (W16 m ρ c (Proc.devRef .tc main_v169_1)) (shapeCast S128 (W16 m ρ c (Proc.devRef .tc main_v169_2) : A S1x128) Facts₀.shapeCasts_S1x128_S128)
    = (inp m c).out := by
  rw [show W16 m ρ c (Proc.devRef .tc main_v169_0) = _ from W16_arr m ρ c 3, show W16 m ρ c (Proc.devRef .tc main_v169_1) = _ from W16_arr m ρ c 4,
    show W16 m ρ c (Proc.devRef .tc main_v169_2) = _ from W16_arr m ρ c 5]
  exact (inp m c).out_of (pool m ρ c).2.1 (holds12 m ρ c).mem (pool m ρ c).2.2.2 (Readout.max2 (V15 m ρ) c) (Readout.sum2 (V15 m ρ) c) (Readout.count2 (V15 m ρ) c)
/-- The readout, after the layer. -/
theorem out16 : W19 m ρ c (Proc.devRef .tc main_v179) = (inp m c).out := (Reads1.readout_read (W16 m ρ c)).trans (readout13 m ρ c)
/-- The new mask, after the layer. -/
theorem mask16 : W19 m ρ c (Proc.devRef .tc main_v145) = (inp m c).mask' :=
  (out_keep m ρ c main_v145 (by decide +kernel)).trans ((W16_of m ρ c main_v145 (by decide +kernel)).trans (pool m ρ c).1)
/-- The edges' new weights, after the layer. -/
theorem ew16 : W19 m ρ c (Proc.devRef .tc main_v167) = (inp m c).ew' :=
  (out_keep m ρ c main_v167 (by decide +kernel)).trans ((W16_of m ρ c main_v167 (by decide +kernel)).trans (pool m ρ c).2.2.1)
/-- The pooled features, after the layer. -/
theorem x16 : W19 m ρ c (Proc.devRef .tc main_v152) = (inp m c).x' :=
  (out_keep m ρ c main_v152 (by decide +kernel)).trans ((W16_of m ρ c main_v152 (by decide +kernel)).trans (pool m ρ c).2.1)

end Cert.Gnn.Layer1

end
-- ==== Proof.Layer2.lean ====
/-
  Layer 2 on the kernel's side: from contents that hold what the layer is given to contents that hold what it leaves.
-/
module

public import proofs.«01_k».proof.Proof.Carry
public import proofs.«01_k».proof.Proof.Reads2
public import proofs.«01_k».proof.Proof.Matmul
public import proofs.«01_k».proof.Proof.Readout2
public import proofs.«01_k».proof.Proof.Gen.KernelIdeal.Frame.Fold0
public import proofs.«01_k».proof.Proof.Layer1

@[expose] public section

set_option maxRecDepth 16384

noncomputable section

namespace Cert.Gnn.Layer2

open Idealize.ShloMosaic Idealize.ShloMosaic.TcCoe Idealize.ShloMosaic.StableHlo Cert.KernelIdeal Cert.KernelIdeal.Gen

variable (m : (l : Loc nD τ sig) → Buf (Elt Ideal) l) (ρ : Dev nD → PrngReg) (c : Dev nD)

/-- The shared buffers are no output of the layer's kernels and written by none of its host operations. -/
theorem apart : ∀ r ∈ shared, ((∀ w : Fin cfg3.W, Pipeline.arrRef spec3 w = r → (cfg3.win w).isOut = false)
      ∧ (∀ w : Fin cfg4.W, Pipeline.arrRef spec4 w = r → (cfg4.win w).isOut = false) ∧ (∀ w : Fin cfg5.W, Pipeline.arrRef spec5 w = r → (cfg5.win w).isOut = false))
    ∧ (r ∉ hostOps4_W ∧ r ∉ hostOps4_1_W ∧ r ∉ hostOps4_2_W)
    ∧ (r ∉ hostOps5_W ∧ r ∉ hostOps5_1_W ∧ r ∉ hostOps5_2_W ∧ r ∉ hostOps5_3_W ∧ r ∉ hostOps5_4_W ∧ r ∉ hostOps5_5_W ∧ r ∉ hostOps5_6_W)
    ∧ (r ∉ hostOps6_W ∧ r ∉ hostOps6_1_W ∧ r ∉ hostOps6_2_W) := by decide +kernel

/-- A buffer the stretch before the epilogue does not write. -/
theorem mid_keep (r : Ref sig .tc) (h : r ∉ hostOps4_W ∧ r ∉ hostOps4_1_W ∧ r ∉ hostOps4_2_W) : W23 m ρ c (Proc.devRef .tc r) = W20 m ρ c (Proc.devRef .tc r) :=
  (W23_of m ρ c r h.2.2).trans ((W22_of m ρ c r h.2.1).trans (W21_of m ρ c r h.1))
/-- A buffer the stretch before the readout does not write. -/
theorem low_keep (r : Ref sig .tc) (h : r ∉ hostOps5_W ∧ r ∉ hostOps5_1_W ∧ r ∉ hostOps5_2_W ∧ r ∉ hostOps5_3_W ∧ r ∉ hostOps5_4_W ∧ r ∉ hostOps5_5_W ∧ r ∉ hostOps5_6_W) :
    W31 m ρ c (Proc.devRef .tc r) = W24 m ρ c (Proc.devRef .tc r) :=
  (W31_of m ρ c r h.2.2.2.2.2.2).trans ((W30_of m ρ c r h.2.2.2.2.2.1).trans ((W29_of m ρ c r h.2.2.2.2.1).trans ((W28_of m ρ c r h.2.2.2.1).trans
    ((W27_of m ρ c r h.2.2.1).trans ((W26_of m ρ c r h.2.1).trans (W25_of m ρ c r h.1))))))
/-- A buffer the stretch after the readout does not write. -/
theorem out_keep (r : Ref sig .tc) (h : r ∉ hostOps6_W ∧ r ∉ hostOps6_1_W ∧ r ∉ hostOps6_2_W) : W35 m ρ c (Proc.devRef .tc r) = W32 m ρ c (Proc.devRef .tc r) :=
  (W35_of m ρ c r h.2.2).trans ((W34_of m ρ c r h.2.1).trans (W33_of m ρ c r h.1))

/-- What layer 2 is given. -/
abbrev inp : Given := (args m c).in2

/-- Before the product the shared buffers hold. -/
theorem holds0 : Holds (W19 m ρ c) (inp m c) := (Layer1.holds16 m ρ c).next _ _ _ _
/-- The mask is the layer before's. -/
theorem mask0 : W19 m ρ c (Proc.devRef .tc main_v145) = (inp m c).mask := Layer1.mask16 m ρ c
/-- The edges' weights are the layer before's. -/
theorem ew0 : W19 m ρ c (Proc.devRef .tc main_v167) = (inp m c).ew := Layer1.ew16 m ρ c
/-- The features are the layer before's. -/
theorem x0 : W19 m ρ c (Proc.devRef .tc main_v152) = (inp m c).x := Layer1.x16 m ρ c

/-- After the product the shared buffers hold. -/
theorem holds1 : Holds (W20 m ρ c) (inp m c) := (holds0 m ρ c).of_eq fun r h => W20_of m ρ c r (apart r h).1.1
/-- Before the epilogue the shared buffers hold. -/
theorem holds4 : Holds (W23 m ρ c) (inp m c) := (holds1 m ρ c).of_eq fun r h => mid_keep m ρ c r (apart r h).2.1
/-- After the epilogue the shared buffers hold. -/
theorem holds5 : Holds (W24 m ρ c) (inp m c) := (holds4 m ρ c).of_eq fun r h => W24_of m ρ c r (apart r h).1.2.1
/-- Before the readout the shared buffers hold. -/
theorem holds12 : Holds (W31 m ρ c) (inp m c) := (holds5 m ρ c).of_eq fun r h => low_keep m ρ c r (apart r h).2.2.1
/-- After the readout the shared buffers hold. -/
theorem holds13 : Holds (W32 m ρ c) (inp m c) := (holds12 m ρ c).of_eq fun r h => W32_of m ρ c r (apart r h).1.2.2
/-- After the layer the shared buffers hold. -/
theorem holds16 : Holds (W35 m ρ c) (inp m c) := (holds13 m ρ c).of_eq fun r h => out_keep m ρ c r (apart r h).2.2.2

/-- The mask, after the product. -/
theorem mask1 : W20 m ρ c (Proc.devRef .tc main_v145) = (inp m c).mask := (W20_of m ρ c main_v145 (by decide +kernel)).trans (mask0 m ρ c)
/-- The edges' weights, after the product. -/
theorem ew1 : W20 m ρ c (Proc.devRef .tc main_v167) = (inp m c).ew := (W20_of m ρ c main_v167 (by decide +kernel)).trans (ew0 m ρ c)
/-- The product. -/
theorem feat1 : W20 m ρ c (Proc.devRef .tc main_v180) = feat (inp m c).x (inp m c).W :=
  (W20_arr m ρ c 2).trans ((Matmul.final3 (V19 m ρ) c).trans (congrArg₂ feat (x0 m ρ c) (W19_args m ρ c main_arg5 (by decide +kernel))))

/-- The mask, after the epilogue. -/
theorem mask5 : W24 m ρ c (Proc.devRef .tc main_v145) = (inp m c).mask :=
  (W24_of m ρ c main_v145 (by decide +kernel)).trans ((mid_keep m ρ c main_v145 (by decide +kernel)).trans (mask1 m ρ c))
/-- The degrees, the coefficients and the convolution. -/
theorem conv : W23 m ρ c (Proc.devRef .tc main_v187) = (inp m c).d ∧ W23 m ρ c (Proc.devRef .tc main_v204) = (inp m c).q ∧ W24 m ρ c (Proc.devRef .tc main_v222) = (inp m c).h :=
  (inp m c).conv_of (holds1 m ρ c).src (holds1 m ρ c).dst (ew1 m ρ c) (mask1 m ρ c) (W20_args m ρ c main_arg6 (by decide +kernel)) (feat1 m ρ c)
    (mid_keep m ρ c main_v180 (by decide +kernel)) (Reads2.deg_read (W20 m ρ c)) (Reads2.coef_read (W20 m ρ c)) (Reads2.agg_read (W20 m ρ c))
    (Reads2.scale_read (W20 m ρ c)) (Reads2.maskCol_read (W20 m ρ c)) (Reads2.bias_read (W20 m ρ c))
    ((W24_arr m ρ c 5).trans (Epilogue.final4 (V23 m ρ) c))
/-- The new mask, the pooled features, the edges' new weights and the new mask as a column. -/
theorem pool : W31 m ρ c (Proc.devRef .tc main_v305) = (inp m c).mask' ∧ W31 m ρ c (Proc.devRef .tc main_v312) = (inp m c).x'
    ∧ W31 m ρ c (Proc.devRef .tc main_v327) = (inp m c).ew' ∧ W31 m ρ c (Proc.devRef .tc main_v328) = col (inp m c).mask' :=
  (inp m c).pool_of (holds5 m ρ c).src (holds5 m ρ c).dst (holds5 m ρ c).start (W24_args m ρ c main_arg2 (by decide +kernel)) (mask5 m ρ c)
    (W24_args m ρ c main_arg11 (by decide +kernel)) (W24_args m ρ c main_arg12 (by decide +kernel))
    ((W24_of m ρ c main_v187 (by decide +kernel)).trans (conv m ρ c).1) ((W24_of m ρ c main_v204 (by decide +kernel)).trans (conv m ρ c).2.1) (conv m ρ c).2.2
    (Reads2.score_read (W24 m ρ c)) (Reads2.mask_read (W24 m ρ c)) (Reads2.feat_read (W24 m ρ c)) (Reads2.edge_read (W24 m ρ c)) (Reads2.newCol_read (W24 m ρ c))
/-- The readout from the kernel's three arrays. -/
theorem readout13 : readoutOf (W32 m ρ c (Proc.devRef .tc main_v329_0)) (W32 m ρ c (Proc.devRef .tc main_v329_1)) (shapeCast S128 (W32 m ρ c (Proc.devRef .tc main_v329_2) : A S1x128) Facts₀.shapeCasts_S1x128_S128)
    = (inp m c).out := by
  rw [show W32 m ρ c (Proc.devRef .tc main_v329_0) = _ from W32_arr m ρ c 3, show W32 m ρ c (Proc.devRef .tc main_v329_1) = _ from W32_arr m ρ c 4,
    show W32 m ρ c (Proc.devRef .tc main_v329_2) = _ from W32_arr m ρ c 5]
  exact (inp m c).out_of (pool m ρ c).2.1 (holds12 m ρ c).mem (pool m ρ c).2.2.2 (Readout.max5 (V31 m ρ) c) (Readout.sum5 (V31 m ρ) c) (Readout.count5 (V31 m ρ) c)
/-- The readout, after the layer. -/
theorem out16 : W35 m ρ c (Proc.devRef .tc main_v339) = (inp m c).out := (Reads2.readout_read (W32 m ρ c)).trans (readout13 m ρ c)
/-- The new mask, after the layer. -/
theorem mask16 : W35 m ρ c (Proc.devRef .tc main_v305) = (inp m c).mask' :=
  (out_keep m ρ c main_v305 (by decide +kernel)).trans ((W32_of m ρ c main_v305 (by decide +kernel)).trans (pool m ρ c).1)
/-- The edges' new weights, after the layer. -/
theorem ew16 : W35 m ρ c (Proc.devRef .tc main_v327) = (inp m c).ew' :=
  (out_keep m ρ c main_v327 (by decide +kernel)).trans ((W32_of m ρ c main_v327 (by decide +kernel)).trans (pool m ρ c).2.2.1)
/-- The pooled features, after the layer. -/
theorem x16 : W35 m ρ c (Proc.devRef .tc main_v312) = (inp m c).x' :=
  (out_keep m ρ c main_v312 (by decide +kernel)).trans ((W32_of m ρ c main_v312 (by decide +kernel)).trans (pool m ρ c).2.1)

end Cert.Gnn.Layer2

end
-- ==== Proof.Layer3.lean ====
/-
  Layer 3 on the kernel's side: from contents that hold what the layer is given to contents that hold what it leaves.
-/
module

public import proofs.«01_k».proof.Proof.Carry
public import proofs.«01_k».proof.Proof.Reads3
public import proofs.«01_k».proof.Proof.Matmul
public import proofs.«01_k».proof.Proof.Readout3
public import proofs.«01_k».proof.Proof.Gen.KernelIdeal.Frame.Fold0
public import proofs.«01_k».proof.Proof.Layer2

@[expose] public section

set_option maxRecDepth 16384

noncomputable section

namespace Cert.Gnn.Layer3

open Idealize.ShloMosaic Idealize.ShloMosaic.TcCoe Idealize.ShloMosaic.StableHlo Cert.KernelIdeal Cert.KernelIdeal.Gen

variable (m : (l : Loc nD τ sig) → Buf (Elt Ideal) l) (ρ : Dev nD → PrngReg) (c : Dev nD)

/-- The shared buffers are no output of the layer's kernels and written by none of its host operations. -/
theorem apart : ∀ r ∈ shared, ((∀ w : Fin cfg6.W, Pipeline.arrRef spec6 w = r → (cfg6.win w).isOut = false)
      ∧ (∀ w : Fin cfg7.W, Pipeline.arrRef spec7 w = r → (cfg7.win w).isOut = false) ∧ (∀ w : Fin cfg8.W, Pipeline.arrRef spec8 w = r → (cfg8.win w).isOut = false))
    ∧ (r ∉ hostOps7_W ∧ r ∉ hostOps7_1_W ∧ r ∉ hostOps7_2_W)
    ∧ (r ∉ hostOps8_W ∧ r ∉ hostOps8_1_W ∧ r ∉ hostOps8_2_W ∧ r ∉ hostOps8_3_W ∧ r ∉ hostOps8_4_W ∧ r ∉ hostOps8_5_W ∧ r ∉ hostOps8_6_W) := by decide +kernel

/-- A buffer the stretch before the epilogue does not write. -/
theorem mid_keep (r : Ref sig .tc) (h : r ∉ hostOps7_W ∧ r ∉ hostOps7_1_W ∧ r ∉ hostOps7_2_W) : W39 m ρ c (Proc.devRef .tc r) = W36 m ρ c (Proc.devRef .tc r) :=
  (W39_of m ρ c r h.2.2).trans ((W38_of m ρ c r h.2.1).trans (W37_of m ρ c r h.1))
/-- A buffer the stretch before the readout does not write. -/
theorem low_keep (r : Ref sig .tc) (h : r ∉ hostOps8_W ∧ r ∉ hostOps8_1_W ∧ r ∉ hostOps8_2_W ∧ r ∉ hostOps8_3_W ∧ r ∉ hostOps8_4_W ∧ r ∉ hostOps8_5_W ∧ r ∉ hostOps8_6_W) :
    W47 m ρ c (Proc.devRef .tc r) = W40 m ρ c (Proc.devRef .tc r) :=
  (W47_of m ρ c r h.2.2.2.2.2.2).trans ((W46_of m ρ c r h.2.2.2.2.2.1).trans ((W45_of m ρ c r h.2.2.2.2.1).trans ((W44_of m ρ c r h.2.2.2.1).trans
    ((W43_of m ρ c r h.2.2.1).trans ((W42_of m ρ c r h.2.1).trans (W41_of m ρ c r h.1))))))

/-- What layer 3 is given. -/
abbrev inp : Given := (args m c).in3

/-- Before the product the shared buffers hold. -/
theorem holds0 : Holds (W35 m ρ c) (inp m c) := (Layer2.holds16 m ρ c).next _ _ _ _
/-- The mask is the layer before's. -/
theorem mask0 : W35 m ρ c (Proc.devRef .tc main_v305) = (inp m c).mask := Layer2.mask16 m ρ c
/-- The edges' weights are the layer before's. -/
theorem ew0 : W35 m ρ c (Proc.devRef .tc main_v327) = (inp m c).ew := Layer2.ew16 m ρ c
/-- The features are the layer before's. -/
theorem x0 : W35 m ρ c (Proc.devRef .tc main_v312) = (inp m c).x := Layer2.x16 m ρ c

/-- After the product the shared buffers hold. -/
theorem holds1 : Holds (W36 m ρ c) (inp m c) := (holds0 m ρ c).of_eq fun r h => W36_of m ρ c r (apart r h).1.1
/-- Before the epilogue the shared buffers hold. -/
theorem holds4 : Holds (W39 m ρ c) (inp m c) := (holds1 m ρ c).of_eq fun r h => mid_keep m ρ c r (apart r h).2.1
/-- After the epilogue the shared buffers hold. -/
theorem holds5 : Holds (W40 m ρ c) (inp m c) := (holds4 m ρ c).of_eq fun r h => W40_of m ρ c r (apart r h).1.2.1
/-- Before the readout the shared buffers hold. -/
theorem holds12 : Holds (W47 m ρ c) (inp m c) := (holds5 m ρ c).of_eq fun r h => low_keep m ρ c r (apart r h).2.2
/-- After the readout the shared buffers hold. -/
theorem holds13 : Holds (W48 m ρ c) (inp m c) := (holds12 m ρ c).of_eq fun r h => W48_of m ρ c r (apart r h).1.2.2

/-- The mask, after the product. -/
theorem mask1 : W36 m ρ c (Proc.devRef .tc main_v305) = (inp m c).mask := (W36_of m ρ c main_v305 (by decide +kernel)).trans (mask0 m ρ c)
/-- The edges' weights, after the product. -/
theorem ew1 : W36 m ρ c (Proc.devRef .tc main_v327) = (inp m c).ew := (W36_of m ρ c main_v327 (by decide +kernel)).trans (ew0 m ρ c)
/-- The product. -/
theorem feat1 : W36 m ρ c (Proc.devRef .tc main_v340) = feat (inp m c).x (inp m c).W :=
  (W36_arr m ρ c 2).trans ((Matmul.final6 (V35 m ρ) c).trans (congrArg₂ feat (x0 m ρ c) (W35_args m ρ c main_arg7 (by decide +kernel))))

/-- The mask, after the epilogue. -/
theorem mask5 : W40 m ρ c (Proc.devRef .tc main_v305) = (inp m c).mask :=
  (W40_of m ρ c main_v305 (by decide +kernel)).trans ((mid_keep m ρ c main_v305 (by decide +kernel)).trans (mask1 m ρ c))
/-- The degrees, the coefficients and the convolution. -/
theorem conv : W39 m ρ c (Proc.devRef .tc main_v347) = (inp m c).d ∧ W39 m ρ c (Proc.devRef .tc main_v364) = (inp m c).q ∧ W40 m ρ c (Proc.devRef .tc main_v382) = (inp m c).h :=
  (inp m c).conv_of (holds1 m ρ c).src (holds1 m ρ c).dst (ew1 m ρ c) (mask1 m ρ c) (W36_args m ρ c main_arg8 (by decide +kernel)) (feat1 m ρ c)
    (mid_keep m ρ c main_v340 (by decide +kernel)) (Reads3.deg_read (W36 m ρ c)) (Reads3.coef_read (W36 m ρ c)) (Reads3.agg_read (W36 m ρ c))
    (Reads3.scale_read (W36 m ρ c)) (Reads3.maskCol_read (W36 m ρ c)) (Reads3.bias_read (W36 m ρ c))
    ((W40_arr m ρ c 5).trans (Epilogue.final7 (V39 m ρ) c))
/-- The new mask, the pooled features, the edges' new weights and the new mask as a column. -/
theorem pool : W47 m ρ c (Proc.devRef .tc main_v465) = (inp m c).mask' ∧ W47 m ρ c (Proc.devRef .tc main_v472) = (inp m c).x'
    ∧ W47 m ρ c (Proc.devRef .tc main_v487) = (inp m c).ew' ∧ W47 m ρ c (Proc.devRef .tc main_v488) = col (inp m c).mask' :=
  (inp m c).pool_of (holds5 m ρ c).src (holds5 m ρ c).dst (holds5 m ρ c).start (W40_args m ρ c main_arg2 (by decide +kernel)) (mask5 m ρ c)
    (W40_args m ρ c main_arg13 (by decide +kernel)) (W40_args m ρ c main_arg14 (by decide +kernel))
    ((W40_of m ρ c main_v347 (by decide +kernel)).trans (conv m ρ c).1) ((W40_of m ρ c main_v364 (by decide +kernel)).trans (conv m ρ c).2.1) (conv m ρ c).2.2
    (Reads3.score_read (W40 m ρ c)) (Reads3.mask_read (W40 m ρ c)) (Reads3.feat_read (W40 m ρ c)) (Reads3.edge_read (W40 m ρ c)) (Reads3.newCol_read (W40 m ρ c))
/-- The readout from the kernel's three arrays. -/
theorem readout13 : readoutOf (W48 m ρ c (Proc.devRef .tc main_v489_0)) (W48 m ρ c (Proc.devRef .tc main_v489_1)) (shapeCast S128 (W48 m ρ c (Proc.devRef .tc main_v489_2) : A S1x128) Facts₀.shapeCasts_S1x128_S128)
    = (inp m c).out := by
  rw [show W48 m ρ c (Proc.devRef .tc main_v489_0) = _ from W48_arr m ρ c 3, show W48 m ρ c (Proc.devRef .tc main_v489_1) = _ from W48_arr m ρ c 4,
    show W48 m ρ c (Proc.devRef .tc main_v489_2) = _ from W48_arr m ρ c 5]
  exact (inp m c).out_of (pool m ρ c).2.1 (holds12 m ρ c).mem (pool m ρ c).2.2.2 (Readout.max8 (V47 m ρ) c) (Readout.sum8 (V47 m ρ) c) (Readout.count8 (V47 m ρ) c)

end Cert.Gnn.Layer3

end
-- ==== Proof.Reads4.lean ====
/-
  What the host operations before the classifier's kernel leave, and the slice after it, read from any contents `V` before.
-/
module

public import proofs.«01_k».proof.Proof.Model
public import proofs.«01_k».proof.Proof.Gen.KernelIdeal.Launch
public import Idealize.ShloMosaic.Lib.StableHlo.RunRead

@[expose] public section

set_option maxRecDepth 8000

noncomputable section

namespace Cert.Gnn.Reads4

open Idealize.ShloMosaic Idealize.ShloMosaic.StableHlo Cert.KernelIdeal Cert.KernelIdeal.Gen

variable (V : Valuation τ sig (Elt Ideal))

/-- The contents after the stretch before the classifier's kernel. -/
abbrev last : Valuation τ sig (Elt Ideal) :=
  after hostOps9_6 (after hostOps9_5 (after hostOps9_4 (after hostOps9_3 (after hostOps9_2 (after hostOps9_1 (after hostOps9 V))))))

/-- The three layers' readouts, added. -/
theorem sum_read : last V (Proc.devRef .tc main_v501) = addf (addf (V (Proc.devRef .tc main_v179)) (V (Proc.devRef .tc main_v339)))
    (readoutOf (V (Proc.devRef .tc main_v489_0)) (V (Proc.devRef .tc main_v489_1)) (shapeCast S128 (V (Proc.devRef .tc main_v489_2) : A S1x128) Facts₀.shapeCasts_S1x128_S128)) := by
  after_reads_simp; rfl
/-- The last weights, padded to 128 columns. -/
theorem pad_read : last V (Proc.devRef .tc main_v502) = pad S64x128 ![0, 0] ![0, 118] ![0, 0] (V (Proc.devRef .tc main_arg19) : A S64x10) (sitofp (F := Ideal) .f32 (constantI S_ 32 0#32))
    Facts₀.pads_S64x10_S64x128_000_01180 Facts₀.h_S_ := by
  after_reads_simp; rfl
/-- The last bias, padded to 128 entries, a row. -/
theorem padRow_read : last V (Proc.devRef .tc main_v506) = shapeCast S1x128 (pad S128 ![0] ![118] ![0] (V (Proc.devRef .tc main_arg20) : A S10) (sitofp (F := Ideal) .f32 (constantI S_ 32 0#32))
    Facts₀.pads_S10_S128_01180 Facts₀.h_S_) Facts₀.shapeCasts_S128_S1x128 := by
  after_reads_simp; rfl
/-- The first bias, a row. -/
theorem row1_read : last V (Proc.devRef .tc main_v504) = shapeCast S1x128 (V (Proc.devRef .tc main_arg16) : A S128) Facts₀.shapeCasts_S128_S1x128 := by
  after_reads_simp; rfl
/-- The second bias, a row. -/
theorem row2_read : last V (Proc.devRef .tc main_v505) = shapeCast S1x64 (V (Proc.devRef .tc main_arg18) : A S64) Facts₀.shapeCasts_S64_S1x64 := by
  after_reads_simp; rfl
/-- The result is the kernel's first ten columns. -/
theorem result_read : after hostOps10 V (Proc.devRef .tc main_v508) = extractStridedSlice S128x10 ![0, 0] (V (Proc.devRef .tc main_v507) : A S128x128) Facts₀.slices_S128x128_S128x10_0_0 := by
  after_reads_simp

end Cert.Gnn.Reads4

end
-- ==== Proof.Mlp.lean ====
/-
  What the classifier kernel leaves: its body's value over the arrays it is given, its grid being one point.
-/
module

public import proofs.«01_k».proof.Proof.Model
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Gnn.Mlp

open Idealize.ShloMosaic Idealize.ShloMosaic.TcCoe Cert.KernelIdeal Cert.KernelIdeal.Gen

/-- The body's value over its seven arrays. -/
def body (z : A S128x256) (W₁ : A S256x128) (b₁ : A S1x128) (W₂ : A S128x64) (b₂ : A S1x64) (W₃ : A S64x128) (b₃ : A S1x128) : A S128x128 :=
  k9_pay1 (F := Ideal) (k9_pay2 z W₁ b₁ W₂ b₂ W₃ b₃) (k9_pay5 z W₁ b₁ W₂ b₂ W₃ b₃) (k9_pay6 z W₁ b₁ W₂ b₂ W₃ b₃)

variable (V : (c : Dev nD) → (b : Ref sig .tc) → Buf (Elt Ideal) ((c : Thread nD τ).loc b))

/-- Every window's block is its array's first. -/
theorem idx9 : ∀ t : Fin cfg9.N, win9_0.index t = ![0, 0] ∧ win9_1.index t = ![0, 0] ∧ win9_2.index t = ![0, 0]
    ∧ win9_3.index t = ![0, 0] ∧ win9_4.index t = ![0, 0] ∧ win9_5.index t = ![0, 0] ∧ win9_6.index t = ![0, 0] ∧ win9_7.index t = ![0, 0] :=
  (by decide +kernel : ∀ t : Fin grid9.N, _)

/-- The pooled features' block is the whole of them. -/
theorem blk9_0 (c : Dev nD) (t : Fin cfg9.N) : iblk9 V c 0 t = V c main_v501 := by
  funext j
  blk_point [iblk9, idx9 t]
/-- The first weights' block. -/
theorem blk9_1 (c : Dev nD) (t : Fin cfg9.N) : iblk9 V c 1 t = V c main_arg15 := by
  funext j
  blk_point [iblk9, idx9 t]
/-- The first bias's block. -/
theorem blk9_2 (c : Dev nD) (t : Fin cfg9.N) : iblk9 V c 2 t = V c main_v504 := by
  funext j
  blk_point [iblk9, idx9 t]
/-- The second weights' block. -/
theorem blk9_3 (c : Dev nD) (t : Fin cfg9.N) : iblk9 V c 3 t = V c main_arg17 := by
  funext j
  blk_point [iblk9, idx9 t]
/-- The second bias's block. -/
theorem blk9_4 (c : Dev nD) (t : Fin cfg9.N) : iblk9 V c 4 t = V c main_v505 := by
  funext j
  blk_point [iblk9, idx9 t]
/-- The last weights' block. -/
theorem blk9_5 (c : Dev nD) (t : Fin cfg9.N) : iblk9 V c 5 t = V c main_v502 := by
  funext j
  blk_point [iblk9, idx9 t]
/-- The last bias's block. -/
theorem blk9_6 (c : Dev nD) (t : Fin cfg9.N) : iblk9 V c 6 t = V c main_v506 := by
  funext j
  blk_point [iblk9, idx9 t]

/-- The classifier kernel. -/
theorem final9 (c : Dev nD) : (dat9 V c).arrAt 7 cfg9.N
    = body (V c main_v501) (V c main_arg15) (V c main_v504) (V c main_arg17) (V c main_v505) (V c main_v502) (V c main_v506) := by
  refine (dat9 V c).arrAt_eq_of_covers 7 _ (by decide +kernel) fun t _ y => ?_
  blk_simp
  rw [after9_7, blk9_0, blk9_1, blk9_2, blk9_3, blk9_4, blk9_5, blk9_6]; frame_out
  show body (V c main_v501) (V c main_arg15) (V c main_v504) (V c main_arg17) (V c main_v505) (V c main_v502) (V c main_v506) y = _
  generalize body (V c main_v501) (V c main_arg15) (V c main_v504) (V c main_arg17) (V c main_v505) (V c main_v502) (V c main_v506) = G
  blk_point [idx9 t]

end Cert.Gnn.Mlp

end
-- ==== Proof.Softmax.lean ====
/-
  The classifier kernel's value at its first ten columns is the logarithm of the softmax of the ten outputs: the columns
  past them are kept out of the sum, and the number taken off before the exponential, a real one, does not matter.
-/
module

public import proofs.«01_k».proof.Proof.Model
public import proofs.«01_k».proof.Proof.Words
public import proofs.«01_k».proof.Proof.Running
public import proofs.«01_k».proof.Proof.Finite
public import proofs.«01_k».proof.Proof.Mlp

@[expose] public section

set_option maxRecDepth 20000

noncomputable section

namespace Cert.Gnn.Softmax

open Idealize.ShloMosaic Cert.KernelIdeal Cert.KernelIdeal.Gen Cert.Gnn.Words Cert.Gnn.Finite

/-- Over reals, taking `m` or `M` off first gives the same logarithm of the softmax. -/
theorem shift_eq (l : Fin 10 → ℝ) (m M : ℝ) (j : Fin 10) :
    (l j : EReal) - ((m : EReal) + Ideal.log (∑ k, Ideal.exp ((l k : EReal) - (m : EReal))))
      = ((l j : EReal) - (M : EReal)) - Ideal.log (∑ k, Ideal.exp ((l k : EReal) - (M : EReal))) := by
  have hs : ∀ c : ℝ, ∑ k, Ideal.exp ((l k : EReal) - (c : EReal)) = ((∑ k, Real.exp (l k - c) : ℝ) : EReal) := fun c => by
    induction (Finset.univ : Finset (Fin 10)) using Finset.cons_induction with
    | empty => simp
    | cons a s ha ih => rw [Finset.sum_cons, Finset.sum_cons, EReal.coe_add, ih, ← EReal.coe_sub]; rfl
  have hp : ∀ c : ℝ, 0 < ∑ k, Real.exp (l k - c) := fun c => Finset.sum_pos (fun k _ => Real.exp_pos _) ⟨0, Finset.mem_univ _⟩
  have hl : ∀ c : ℝ, Ideal.log ((∑ k, Real.exp (l k - c) : ℝ) : EReal) = ((Real.log (∑ k, Real.exp (l k - c)) : ℝ) : EReal) := fun c => if_neg (hp c).not_ge
  rw [hs, hs, hl, hl, ← EReal.coe_add, ← EReal.coe_sub, ← EReal.coe_sub, ← EReal.coe_sub, EReal.coe_eq_coe_iff]
  have e : ∑ k, Real.exp (l k - m) = Real.exp (M - m) * ∑ k, Real.exp (l k - M) := by
    rw [Finset.mul_sum]
    exact Finset.sum_congr rfl fun k _ => by rw [← Real.exp_add]; congr 1; ring
  rw [e, Real.log_mul (Real.exp_pos _).ne' (hp M).ne', Real.log_exp]; ring

/-- A sum over the 128 columns that keeps the first ten. -/
theorem sum_ten (f : Fin 128 → EReal) : (∑ k : Fin 128, if k.val < 10 then f k else 0) = ∑ k : Fin 10, f (Fin.castLE (by decide) k) := by
  rw [← Finset.sum_filter]
  refine (Finset.sum_bij (fun k _ => Fin.castLE (by decide : 10 ≤ 128) k) ?_ ?_ ?_ ?_).symm
  · exact fun k _ => Finset.mem_filter.mpr ⟨Finset.mem_univ _, k.isLt⟩
  · exact fun a _ b _ h => Fin.castLE_injective _ h
  · exact fun b hb => ⟨⟨b.val, (Finset.mem_filter.mp hb).2⟩, Finset.mem_univ _, rfl⟩
  · exact fun _ _ => rfl

/-- A largest value over finitely many reals, from minus infinity, is real. -/
theorem real_fold {n : ℕ} (f : Fin (n + 1) → EReal) (h : ∀ k, IsReal (f k)) : IsReal (Finset.fold max ⊥ f Finset.univ) := by
  have e : ∀ s : Finset (Fin (n + 1)), s.Nonempty → IsReal (Finset.fold max ⊥ f s) := fun s hs => by
    induction hs using Finset.Nonempty.cons_induction with
    | singleton a => rw [Finset.fold_singleton, max_eq_left bot_le]; exact h a
    | cons a s ha _ ih => rw [Finset.fold_cons]; exact (h a).max ih
  exact e _ ⟨0, Finset.mem_univ _⟩

/-- The kernel's outputs before the softmax, 128 columns. -/
def outs (z : A S128x256) (W₁ : A S256x128) (b₁ : A S128) (W₂ : A S128x64) (b₂ : A S64) (W₃ : A Cert.ReferenceIdeal.S64x10) (b₃ : A Cert.ReferenceIdeal.S10) (p : A S_) : A S128x128 :=
  k9_pay2 (F := Ideal) z W₁ (shapeCast S1x128 b₁ Facts₀.shapeCasts_S128_S1x128) W₂ (shapeCast S1x64 b₂ Facts₀.shapeCasts_S64_S1x64)
      (pad S64x128 ![0, 0] ![0, 118] ![0, 0] W₃ p Facts₀.pads_S64x10_S64x128_000_01180 Facts₀.h_S_)
      (shapeCast S1x128 (pad S128 ![0] ![118] ![0] b₃ p Facts₀.pads_S10_S128_01180 Facts₀.h_S_) Facts₀.shapeCasts_S128_S1x128)
/-- The first ten are the classifier's outputs. -/
theorem outputs_eq (z : A S128x256) (W₁ : A S256x128) (b₁ : A S128) (W₂ : A S128x64) (b₂ : A S64) (W₃ : A Cert.ReferenceIdeal.S64x10) (b₃ : A Cert.ReferenceIdeal.S10) (p : A S_) (b : Fin 128) (j : Fin 10) :
    (outs z W₁ b₁ W₂ b₂ W₃ b₃ p (ix2 b (Fin.castLE (by decide) j)) : EReal)
    = (logits (hidden z W₁ b₁ W₂ b₂) W₃ b₃ (ix2 b j) : EReal) := by
  pointwise [outs, k9_pay2, logits, hidden]
  have hj : (Fin.castLE (by decide : 10 ≤ 128) j).val < 10 := j.isLt
  simp only [dif_pos hj]
  rfl

/-- A choice by whether a column is among the first ten. -/
theorem column (k : Fin 128) (x y : EReal) :
    Scalar.select (IntOp.cmpi CmpIPredicate.slt (BitVec.ofNat 32 k.val) 10#32) x y = if k.val < 10 then x else y := by
  have h : ∀ k : Fin 128, (BitVec.ofNat 32 k.val).slt 10#32 = decide (k.val < 10) := by decide
  by_cases hk : k.val < 10 <;> simp [Scalar.select, IntOp.cmpi, h, hk]

/-- A row's largest entry, with the stand-in for minus infinity past the first ten. -/
def top (g : Fin 128 → EReal) : EReal := Finset.fold max ⊥ (fun k => if k.val < 10 then g k else low) Finset.univ

/-- The body's value at one of the first ten columns, from the outputs before the softmax. -/
theorem body_apply (z : A S128x256) (W₁ : A S256x128) (b₁ : A S1x128) (W₂ : A S128x64) (b₂ : A S1x64) (W₃ : A S64x128) (b₃ : A S1x128) (b j : Fin 128)
    (g : Fin 128 → EReal) (hg : ∀ k, (k9_pay2 (F := Ideal) z W₁ b₁ W₂ b₂ W₃ b₃ (ix2 b k) : EReal) = g k) :
    (Mlp.body z W₁ b₁ W₂ b₂ W₃ b₃ (ix2 b j) : EReal) = g j - (top g + Ideal.log (∑ k : Fin 10, Ideal.exp (g (Fin.castLE (by decide) k) - top g))) := by
  have ht : Finset.fold max (Ideal.ofBits FTy.f32 0xFF800000#32) (fun k : Fin 128 => Scalar.select (IntOp.cmpi CmpIPredicate.slt (BitVec.ofNat 32 k.val) 10#32)
      (g k) (Ideal.ofBits FTy.f32 0xF149F2CA#32)) Finset.univ = top g := by
    rw [bot_word]; unfold top low; simp only [column]
  unfold Mlp.body
  pointwise [k9_pay1, k9_pay6, k9_pay5, k9_pay4, k9_pay3]
  simp only [hg, ht]
  rw [← sum_ten (fun k => Ideal.exp (g k - top g))]
  refine congrArg (fun s => g j - (top g + Ideal.log s)) (Finset.sum_congr rfl fun k _ => ?_)
  rw [column, column]
  split_ifs <;> rfl

/-- The reference's logarithm of the softmax at an index. -/
theorem logSoftmax_apply (l : A Cert.ReferenceIdeal.S128x10) (b : Fin 128) (j : Fin 10) (M : EReal) (hM : Finset.fold max ⊥ (fun k => (l (ix2 b k) : EReal)) Finset.univ = M) :
    (logSoftmax l (ix2 b j) : EReal) = ((l (ix2 b j) : EReal) - M) - Ideal.log (∑ k, Ideal.exp ((l (ix2 b k) : EReal) - M)) := by
  pointwise [logSoftmax, shifted]
  rw [bot_word, max_eq_right bot_le, hM]

/-- One row of both, from entries that agree on the first ten columns and are real there. -/
theorem row_eq (g : Fin 128 → EReal) (l : Fin 10 → EReal) (h : ∀ k, IsReal (l k)) (hg : ∀ k, g (Fin.castLE (by decide) k) = l k) (j : Fin 10) :
    g (Fin.castLE (by decide) j) - (top g + Ideal.log (∑ k : Fin 10, Ideal.exp (g (Fin.castLE (by decide) k) - top g)))
      = (l j - Finset.fold max ⊥ l Finset.univ) - Ideal.log (∑ k, Ideal.exp (l k - Finset.fold max ⊥ l Finset.univ)) := by
  obtain ⟨M, hM⟩ := real_fold l h
  obtain ⟨m, hm⟩ : IsReal (top g) := real_fold _ fun k => by
    split_ifs with hk
    · exact hg ⟨k.val, hk⟩ ▸ h ⟨k.val, hk⟩
    · exact ⟨_, low_real.choose_spec.1⟩
  choose r hr using h
  simp only [hg]
  rw [hM, hm]
  simp only [hr]
  exact shift_eq r m M j

/-- The classifier kernel's first ten columns are the logarithm of the softmax of the outputs, once these are real. -/
theorem result_eq (z : A S128x256) (W₁ : A S256x128) (b₁ : A S128) (W₂ : A S128x64) (b₂ : A S64) (W₃ : A Cert.ReferenceIdeal.S64x10) (b₃ : A Cert.ReferenceIdeal.S10) (p : A S_)
    (h : AllReal (logits (hidden z W₁ b₁ W₂ b₂) W₃ b₃)) :
    extractStridedSlice S128x10 ![0, 0] (Mlp.body z W₁ (shapeCast S1x128 b₁ Facts₀.shapeCasts_S128_S1x128) W₂ (shapeCast S1x64 b₂ Facts₀.shapeCasts_S64_S1x64)
      (pad S64x128 ![0, 0] ![0, 118] ![0, 0] W₃ p Facts₀.pads_S64x10_S64x128_000_01180 Facts₀.h_S_)
      (shapeCast S1x128 (pad S128 ![0] ![118] ![0] b₃ p Facts₀.pads_S10_S128_01180 Facts₀.h_S_) Facts₀.shapeCasts_S128_S1x128)) Facts₀.slices_S128x128_S128x10_0_0
    = logSoftmax (logits (hidden z W₁ b₁ W₂ b₂) W₃ b₃) := by
  refine ext2 fun b j => ?_
  show (_ : EReal) = _
  have ho := outputs_eq z W₁ b₁ W₂ b₂ W₃ b₃ p b
  generalize logits (hidden z W₁ b₁ W₂ b₂) W₃ b₃ = l at h ho ⊢
  have hc : ∀ G : A S128x128, (extractStridedSlice S128x10 ![0, 0] G Facts₀.slices_S128x128_S128x10_0_0 (ix2 b j) : EReal) = (G (ix2 b (Fin.castLE (by decide) j)) : EReal) := fun G => by
    pointwise
    rfl
  rw [hc, body_apply _ _ _ _ _ _ _ b _ (fun k => outs z W₁ b₁ W₂ b₂ W₃ b₃ p (ix2 b k)) (fun _ => rfl), logSoftmax_apply l b j _ rfl]
  exact row_eq (fun k => outs z W₁ b₁ W₂ b₂ W₃ b₃ p (ix2 b k)) (fun k => (l (ix2 b k) : EReal)) (fun k => h _) ho j

end Cert.Gnn.Softmax

end
-- ==== Proof.Kernel.lean ====
/-
  The kernel's result is the network's, where the ten outputs are real.
-/
module

public import proofs.«01_k».proof.Proof.Layer3
public import proofs.«01_k».proof.Proof.Reads4
public import proofs.«01_k».proof.Proof.Softmax

@[expose] public section

set_option maxRecDepth 16384

noncomputable section

namespace Cert.Gnn.Whole

open Idealize.ShloMosaic Idealize.ShloMosaic.TcCoe Idealize.ShloMosaic.StableHlo Cert.KernelIdeal Cert.KernelIdeal.Gen

variable (m : (l : Loc nD τ sig) → Buf (Elt Ideal) l) (ρ : Dev nD → PrngReg) (c : Dev nD)

/-- A buffer layer 3 leaves alone. -/
theorem keep3 (r : Ref sig .tc) (h : ((∀ w : Fin cfg6.W, Pipeline.arrRef spec6 w = r → (cfg6.win w).isOut = false)
      ∧ (∀ w : Fin cfg7.W, Pipeline.arrRef spec7 w = r → (cfg7.win w).isOut = false) ∧ (∀ w : Fin cfg8.W, Pipeline.arrRef spec8 w = r → (cfg8.win w).isOut = false))
    ∧ (r ∉ hostOps7_W ∧ r ∉ hostOps7_1_W ∧ r ∉ hostOps7_2_W)
    ∧ (r ∉ hostOps8_W ∧ r ∉ hostOps8_1_W ∧ r ∉ hostOps8_2_W ∧ r ∉ hostOps8_3_W ∧ r ∉ hostOps8_4_W ∧ r ∉ hostOps8_5_W ∧ r ∉ hostOps8_6_W)) :
    W48 m ρ c (Proc.devRef .tc r) = W35 m ρ c (Proc.devRef .tc r) :=
  (W48_of m ρ c r h.1.2.2).trans ((Layer3.low_keep m ρ c r h.2.2).trans ((W40_of m ρ c r h.1.2.1).trans ((Layer3.mid_keep m ρ c r h.2.1).trans (W36_of m ρ c r h.1.1))))
/-- Layer 1's readout before the classifier. -/
theorem out1 : W48 m ρ c (Proc.devRef .tc main_v179) = (args m c).in1.out :=
  (keep3 m ρ c main_v179 (by decide +kernel)).trans ((Layer2.out_keep m ρ c main_v179 (by decide +kernel)).trans ((W32_of m ρ c main_v179 (by decide +kernel)).trans
    ((Layer2.low_keep m ρ c main_v179 (by decide +kernel)).trans ((W24_of m ρ c main_v179 (by decide +kernel)).trans
      ((Layer2.mid_keep m ρ c main_v179 (by decide +kernel)).trans ((W20_of m ρ c main_v179 (by decide +kernel)).trans (Layer1.out16 m ρ c)))))))
/-- Layer 2's readout before the classifier. -/
theorem out2 : W48 m ρ c (Proc.devRef .tc main_v339) = (args m c).in2.out := (keep3 m ρ c main_v339 (by decide +kernel)).trans (Layer2.out16 m ρ c)
/-- The sum of the readouts. -/
theorem z : W55 m ρ c (Proc.devRef .tc main_v501) = (args m c).z :=
  (Reads4.sum_read (W48 m ρ c)).trans (by rw [out1, out2, Layer3.readout13]; rfl)

/-- What the classifier's kernel leaves. -/
theorem body : W56 m ρ c (Proc.devRef .tc main_v507) = Mlp.body (args m c).z (args m c).l₁ (shapeCast S1x128 (args m c).c₁ Facts₀.shapeCasts_S128_S1x128) (args m c).l₂
    (shapeCast S1x64 (args m c).c₂ Facts₀.shapeCasts_S64_S1x64)
    (pad S64x128 ![0, 0] ![0, 118] ![0, 0] (args m c).l₃ (sitofp (F := Ideal) .f32 (constantI S_ 32 0#32)) Facts₀.pads_S64x10_S64x128_000_01180 Facts₀.h_S_)
    (shapeCast S1x128 (pad S128 ![0] ![118] ![0] (args m c).c₃ (sitofp (F := Ideal) .f32 (constantI S_ 32 0#32)) Facts₀.pads_S10_S128_01180 Facts₀.h_S_) Facts₀.shapeCasts_S128_S1x128) :=
  (W56_arr m ρ c 7).trans ((Mlp.final9 (V55 m ρ) c).trans (by
    show Mlp.body (W55 m ρ c (Proc.devRef .tc main_v501)) (W55 m ρ c (Proc.devRef .tc main_arg15)) (W55 m ρ c (Proc.devRef .tc main_v504)) (W55 m ρ c (Proc.devRef .tc main_arg17))
      (W55 m ρ c (Proc.devRef .tc main_v505)) (W55 m ρ c (Proc.devRef .tc main_v502)) (W55 m ρ c (Proc.devRef .tc main_v506)) = _
    rw [z, W55_args m ρ c main_arg15 (by decide +kernel), W55_args m ρ c main_arg17 (by decide +kernel),
      show W55 m ρ c (Proc.devRef .tc main_v504) = _ from Reads4.row1_read (W48 m ρ c), show W55 m ρ c (Proc.devRef .tc main_v505) = _ from Reads4.row2_read (W48 m ρ c),
      show W55 m ρ c (Proc.devRef .tc main_v502) = _ from Reads4.pad_read (W48 m ρ c), show W55 m ρ c (Proc.devRef .tc main_v506) = _ from Reads4.padRow_read (W48 m ρ c),
      W48_args m ρ c main_arg16 (by decide +kernel), W48_args m ρ c main_arg18 (by decide +kernel), W48_args m ρ c main_arg19 (by decide +kernel), W48_args m ρ c main_arg20 (by decide +kernel)]
    rfl))

/-- The kernel's result, where the ten outputs are real. -/
theorem result (h : Finite.AllReal (args m c).outputs) : W57 m ρ c (Proc.devRef .tc main_v508) = (args m c).result :=
  (Reads4.result_read (W56 m ρ c)).trans (by rw [body]; exact Softmax.result_eq _ _ _ _ _ _ _ _ h)

end Cert.Gnn.Whole

end
-- ==== Proof.Ref.lean ====
/-
  The reference's result in the words of the model: each value its run names, as one function of values named earlier.
-/
module

public import proofs.«01_k».proof.Proof.Model
public import proofs.«01_k».proof.Proof.Gen.ReferenceIdeal.Run

@[expose] public section

set_option maxRecDepth 8000

noncomputable section

namespace Cert.Gnn.Ref

open Idealize.ShloMosaic Cert.ReferenceIdeal Cert.ReferenceIdeal.Value

variable (V : Valuation τ sig (Elt Ideal))

/-- The edges' sources. -/
theorem src_eq : res_main_v1 V = srcOf (V (Proc.devRef .tc main_arg1)) := rfl
/-- The edges' targets. -/
theorem dst_eq : res_main_v3 V = dstOf (V (Proc.devRef .tc main_arg1)) := rfl
/-- The graphs' first positions. -/
theorem start_eq : res_main_v10 V = segStart (V (Proc.devRef .tc main_arg2)) := rfl
/-- The first mask keeps every node. -/
theorem ones_eq : res_main_v11 V = splatN 0x3F800000#32 := rfl
/-- The first weights are one. -/
theorem edges_eq : res_main_v12 V = splatE 0x3F800000#32 := rfl

/-- Layer 1's convolution. -/
theorem conv1_eq : res_main_v64 V = conv (V (Proc.devRef .tc main_arg0)) (V (Proc.devRef .tc main_arg3)) (V (Proc.devRef .tc main_arg4)) (res_main_v1 V) (res_main_v3 V) (res_main_v12 V) (res_main_v11 V) := rfl
/-- Layer 1's scores. -/
theorem score1_eq : res_main_v113 V = score (res_main_v64 V) (V (Proc.devRef .tc main_arg9)) (V (Proc.devRef .tc main_arg10)) (res_main_v1 V) (res_main_v3 V) (res_main_v12 V) (res_main_v11 V) := rfl
/-- Layer 1's mask of the nodes kept. -/
theorem mask1_eq : res_main_v176 V = newMask (res_main_v113 V) (V (Proc.devRef .tc main_arg2)) (res_main_v10 V) (res_main_v11 V) := rfl
/-- Layer 1's pooled features. -/
theorem feat1_eq : res_main_v183 V = newFeat (res_main_v64 V) (res_main_v113 V) (res_main_v176 V) := rfl
/-- Layer 1's edge weights. -/
theorem edge1_eq : res_main_v198 V = newEdge (res_main_v176 V) (res_main_v1 V) (res_main_v3 V) := rfl

/-- Layer 2's convolution. -/
theorem conv2_eq : res_main_v282 V = conv (res_main_v183 V) (V (Proc.devRef .tc main_arg5)) (V (Proc.devRef .tc main_arg6)) (res_main_v1 V) (res_main_v3 V) (res_main_v198 V) (res_main_v176 V) := rfl
/-- Layer 2's scores. -/
theorem score2_eq : res_main_v331 V = score (res_main_v282 V) (V (Proc.devRef .tc main_arg11)) (V (Proc.devRef .tc main_arg12)) (res_main_v1 V) (res_main_v3 V) (res_main_v198 V) (res_main_v176 V) := rfl
/-- Layer 2's mask of the nodes kept. -/
theorem mask2_eq : res_main_v394 V = newMask (res_main_v331 V) (V (Proc.devRef .tc main_arg2)) (res_main_v10 V) (res_main_v176 V) := rfl
/-- Layer 2's pooled features. -/
theorem feat2_eq : res_main_v401 V = newFeat (res_main_v282 V) (res_main_v331 V) (res_main_v394 V) := rfl
/-- Layer 2's edge weights. -/
theorem edge2_eq : res_main_v416 V = newEdge (res_main_v394 V) (res_main_v1 V) (res_main_v3 V) := rfl

/-- Layer 3's convolution. -/
theorem conv3_eq : res_main_v500 V = conv (res_main_v401 V) (V (Proc.devRef .tc main_arg7)) (V (Proc.devRef .tc main_arg8)) (res_main_v1 V) (res_main_v3 V) (res_main_v416 V) (res_main_v394 V) := rfl
/-- Layer 3's scores. -/
theorem score3_eq : res_main_v549 V = score (res_main_v500 V) (V (Proc.devRef .tc main_arg13)) (V (Proc.devRef .tc main_arg14)) (res_main_v1 V) (res_main_v3 V) (res_main_v416 V) (res_main_v394 V) := rfl
/-- Layer 3's mask of the nodes kept. -/
theorem mask3_eq : res_main_v612 V = newMask (res_main_v549 V) (V (Proc.devRef .tc main_arg2)) (res_main_v10 V) (res_main_v394 V) := rfl
/-- Layer 3's pooled features. -/
theorem feat3_eq : res_main_v619 V = newFeat (res_main_v500 V) (res_main_v549 V) (res_main_v612 V) := rfl

/-- The classifier's second hidden layer, from the three layers' readouts. -/
theorem hidden_eq : res_main_v677 V = hidden (addf (addf (readout (res_main_v183 V) (res_main_v176 V) (V (Proc.devRef .tc main_arg2))) (readout (res_main_v401 V) (res_main_v394 V) (V (Proc.devRef .tc main_arg2))))
    (readout (res_main_v619 V) (res_main_v612 V) (V (Proc.devRef .tc main_arg2)))) (V (Proc.devRef .tc main_arg15)) (V (Proc.devRef .tc main_arg16)) (V (Proc.devRef .tc main_arg17)) (V (Proc.devRef .tc main_arg18)) := rfl
/-- The classifier's outputs. -/
theorem logits_eq : res_main_v682 V = logits (res_main_v677 V) (V (Proc.devRef .tc main_arg19)) (V (Proc.devRef .tc main_arg20)) := rfl
/-- The outputs less their row's largest. -/
theorem shifted_eq : res_main_call30_v5 V = shifted (res_main_v682 V) := rfl

end Cert.Gnn.Ref

end
-- ==== Proof.RefNet.lean ====
/-
  The reference's result is the network's.
-/
module

public import proofs.«01_k».proof.Proof.Layer
public import proofs.«01_k».proof.Proof.Ref

@[expose] public section

set_option maxRecDepth 16384

noncomputable section

namespace Cert.Gnn.RefNet

open Idealize.ShloMosaic Cert.ReferenceIdeal Cert.ReferenceIdeal.Value Cert.Gnn.Ref

variable (V : Valuation τ sig (Elt Ideal))

/-- The network's arrays as contents hold them. -/
def args : Args := ⟨V (Proc.devRef .tc main_arg0), V (Proc.devRef .tc main_arg1), V (Proc.devRef .tc main_arg2), V (Proc.devRef .tc main_arg3), V (Proc.devRef .tc main_arg4), V (Proc.devRef .tc main_arg5), V (Proc.devRef .tc main_arg6), V (Proc.devRef .tc main_arg7), V (Proc.devRef .tc main_arg8), V (Proc.devRef .tc main_arg9), V (Proc.devRef .tc main_arg10), V (Proc.devRef .tc main_arg11), V (Proc.devRef .tc main_arg12), V (Proc.devRef .tc main_arg13), V (Proc.devRef .tc main_arg14), V (Proc.devRef .tc main_arg15), V (Proc.devRef .tc main_arg16), V (Proc.devRef .tc main_arg17), V (Proc.devRef .tc main_arg18), V (Proc.devRef .tc main_arg19), V (Proc.devRef .tc main_arg20)⟩

/-- Layer 1's convolution. -/
theorem h1 : res_main_v64 V = (args V).in1.h := (conv1_eq V).trans (by rw [src_eq, dst_eq, edges_eq, ones_eq]; rfl)
/-- Layer 1's scores. -/
theorem s1 : res_main_v113 V = (args V).in1.s := (score1_eq V).trans (by rw [h1, src_eq, dst_eq, edges_eq, ones_eq]; rfl)
/-- Layer 1's mask. -/
theorem m1 : res_main_v176 V = (args V).in1.mask' := (mask1_eq V).trans (by rw [s1, start_eq, ones_eq]; rfl)
/-- Layer 1's features. -/
theorem x1 : res_main_v183 V = (args V).in1.x' := (feat1_eq V).trans (by rw [h1, s1, m1]; rfl)
/-- Layer 1's edges' weights. -/
theorem e1 : res_main_v198 V = (args V).in1.ew' := (edge1_eq V).trans (by rw [m1, src_eq, dst_eq]; rfl)
/-- Layer 2's convolution. -/
theorem h2 : res_main_v282 V = (args V).in2.h := (conv2_eq V).trans (by rw [x1]; rw [src_eq, dst_eq, e1, m1]; rfl)
/-- Layer 2's scores. -/
theorem s2 : res_main_v331 V = (args V).in2.s := (score2_eq V).trans (by rw [h2, src_eq, dst_eq, e1, m1]; rfl)
/-- Layer 2's mask. -/
theorem m2 : res_main_v394 V = (args V).in2.mask' := (mask2_eq V).trans (by rw [s2, start_eq, m1]; rfl)
/-- Layer 2's features. -/
theorem x2 : res_main_v401 V = (args V).in2.x' := (feat2_eq V).trans (by rw [h2, s2, m2]; rfl)
/-- Layer 2's edges' weights. -/
theorem e2 : res_main_v416 V = (args V).in2.ew' := (edge2_eq V).trans (by rw [m2, src_eq, dst_eq]; rfl)
/-- Layer 3's convolution. -/
theorem h3 : res_main_v500 V = (args V).in3.h := (conv3_eq V).trans (by rw [x2]; rw [src_eq, dst_eq, e2, m2]; rfl)
/-- Layer 3's scores. -/
theorem s3 : res_main_v549 V = (args V).in3.s := (score3_eq V).trans (by rw [h3, src_eq, dst_eq, e2, m2]; rfl)
/-- Layer 3's mask. -/
theorem m3 : res_main_v612 V = (args V).in3.mask' := (mask3_eq V).trans (by rw [s3, start_eq, m2]; rfl)
/-- Layer 3's features. -/
theorem x3 : res_main_v619 V = (args V).in3.x' := (feat3_eq V).trans (by rw [h3, s3, m3]; rfl)

/-- The ten outputs. -/
theorem outputs : res_main_v682 V = (args V).outputs := (logits_eq V).trans (by rw [hidden_eq, x1, x2, x3, m1, m2, m3]; rfl)

end Cert.Gnn.RefNet

end
-- ==== Proof.Pre.lean ====
/-
  The precondition read back: where it holds, the features, the weights and the biases it names are real.
-/
module

public import proofs.«01_k».proof.Defs
public import proofs.«01_k».proof.Proof.Carry
public import proofs.«01_k».proof.Proof.Words
public import proofs.«01_k».proof.Proof.Gen.Pre_finite
public import Idealize.ShloMosaic.Lib.ReduceAll
public import Idealize.ShloMosaic.Lib.Affine

@[expose] public section

set_option maxRecDepth 16384

noncomputable section

namespace Cert.Gnn.Pre

open Idealize.ShloMosaic Idealize.ShloMosaic.TcCoe Cert.Gnn.Finite

/-- An extended real of magnitude below infinity is real. -/
theorem isReal_of_lt (x : EReal) (h : max x (-x) < ⊤) : IsReal x := by
  induction x with
  | bot => simp at h
  | top => simp at h
  | coe r => exact ⟨r, rfl⟩

/-- An array all of whose magnitudes compare below infinity is real. -/
theorem allReal_of_test {S T : Shape} {ax : List (Fin S.rank)} [Subsingleton T.Idx] (a : FVec Ideal S .f32) (t : FVec Ideal S .f32) (ht : ∀ j, (t j : EReal) = ⊤)
    (init : IVec T 1) (hr : S.ReducesTo ax T) (hu : 0 < T.numel) (j : T.Idx)
    (e : Host.reduce IntOp.andi (cmpf .olt (Host.absf a) t) init hr hu j = 1#1) : AllReal a := fun i => by
  have h := Host.reduce_andi_all _ init hr hu j e i
  refine isReal_of_lt _ ?_
  have h2 : BitVec.ofBool (decide ((max (a i : EReal) (-(a i : EReal)) : EReal) < (t i : EReal))) = 1#1 := h
  by_contra hn
  rw [← ht i] at hn
  rw [decide_eq_false hn] at h2
  exact absurd h2 (by decide)

/-- The bound the precondition compares against is infinite everywhere. -/
theorem bound_top {S : Shape} (d : Fin Cert.Pre_finite.S_.rank → Fin S.rank) (h : Cert.Pre_finite.S_.BroadcastsInDim S d) (j : S.Idx) :
    (broadcastInDim S d h (constant (F := Ideal) Cert.Pre_finite.S_ .f32 0x7F800000#32) j : EReal) = ⊤ := Words.top_word

/-- Where the precondition holds, the arrays it names are real. -/
theorem reals (m : (l : Loc Cert.KernelIdeal.nD Cert.KernelIdeal.τ Cert.KernelIdeal.sig) → Buf (Elt Ideal) l) (h : Cert.Pre_KernelIdeal_finite m) (c : Dev Cert.KernelIdeal.nD) :
    AllReal (args m c).x ∧ AllReal (args m c).W₁ ∧ AllReal (args m c).b₁ ∧ AllReal (args m c).W₂ ∧ AllReal (args m c).b₂ ∧ AllReal (args m c).W₃ ∧ AllReal (args m c).b₃ ∧ AllReal (args m c).l₁ ∧ AllReal (args m c).c₁ ∧ AllReal (args m c).l₂ ∧ AllReal (args m c).c₂ ∧ AllReal (args m c).l₃ ∧ AllReal (args m c).c₃ := by
  have e := congrFun (h c) (fun k => k.elim0)
  obtain ⟨e11, h12⟩ := IntOp.andi_eq_one.1 e
  obtain ⟨e10, h11⟩ := IntOp.andi_eq_one.1 e11
  obtain ⟨e9, h10⟩ := IntOp.andi_eq_one.1 e10
  obtain ⟨e8, h9⟩ := IntOp.andi_eq_one.1 e9
  obtain ⟨e7, h8⟩ := IntOp.andi_eq_one.1 e8
  obtain ⟨e6, h7⟩ := IntOp.andi_eq_one.1 e7
  obtain ⟨e5, h6⟩ := IntOp.andi_eq_one.1 e6
  obtain ⟨e4, h5⟩ := IntOp.andi_eq_one.1 e5
  obtain ⟨e3, h4⟩ := IntOp.andi_eq_one.1 e4
  obtain ⟨e2, h3⟩ := IntOp.andi_eq_one.1 e3
  obtain ⟨e1, h2⟩ := IntOp.andi_eq_one.1 e2
  obtain ⟨e0, h1⟩ := IntOp.andi_eq_one.1 e1
  exact ⟨allReal_of_test _ _ (bound_top _ _) _ _ _ _ e0, allReal_of_test _ _ (bound_top _ _) _ _ _ _ h1, allReal_of_test _ _ (bound_top _ _) _ _ _ _ h2, allReal_of_test _ _ (bound_top _ _) _ _ _ _ h3, allReal_of_test _ _ (bound_top _ _) _ _ _ _ h4, allReal_of_test _ _ (bound_top _ _) _ _ _ _ h5, allReal_of_test _ _ (bound_top _ _) _ _ _ _ h6, allReal_of_test _ _ (bound_top _ _) _ _ _ _ h7, allReal_of_test _ _ (bound_top _ _) _ _ _ _ h8, allReal_of_test _ _ (bound_top _ _) _ _ _ _ h9, allReal_of_test _ _ (bound_top _ _) _ _ _ _ h10, allReal_of_test _ _ (bound_top _ _) _ _ _ _ h11, allReal_of_test _ _ (bound_top _ _) _ _ _ _ h12⟩

end Cert.Gnn.Pre

end
-- ==== Proof.Algebraic.lean ====
/-
  The kernel and the reference end with the same array, where the features, weights and biases are real.
-/
module

public import proofs.«01_k».proof.Defs
public import proofs.«01_k».proof.Proof.Run
public import proofs.«01_k».proof.Proof.Kernel
public import proofs.«01_k».proof.Proof.RefNet
public import proofs.«01_k».proof.Proof.Pre

@[expose] public section

set_option maxRecDepth 16384

noncomputable section

namespace Cert.Gnn

open Idealize.ShloMosaic Idealize.ShloMosaic.StableHlo Idealize.ShloMosaic.TcCoe Idealize.SL.Sem

/-- The arguments outlive the launch. -/
theorem args_last : ∀ a ∈ Cert.KernelIdeal.Gen.argRefs, ¬ (Proc.devRef .tc a : DevRef Cert.KernelIdeal.τ Cert.KernelIdeal.sig).isScoped := by decide +kernel

/-- The kernel ends with the network's result, where the ten outputs are real. -/
theorem kernel_run (m : (l : Loc Cert.KernelIdeal.nD Cert.KernelIdeal.τ Cert.KernelIdeal.sig) → Buf (Elt Ideal) l) (g : Dev Cert.KernelIdeal.nD → PrngReg)
    (h : ∀ c, Finite.AllReal (args m c).outputs) :
    θ_run Cert.KernelIdeal.defs (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v508) = (args m c).result
      ∧ ∀ a ∈ Cert.KernelIdeal.Gen.argRefs, r.2.mem ((c.tc : Thread Cert.KernelIdeal.nD Cert.KernelIdeal.τ).loc a) = m ((c.tc : Thread Cert.KernelIdeal.nD Cert.KernelIdeal.τ).loc a)) :=
  (θ_run Cert.KernelIdeal.defs _ _).mono
    (fun r e c => ⟨(e c _ (Cert.KernelIdeal.Gen.mem_uc Cert.KernelIdeal.main_v508 (by decide))).trans (Whole.result m g c (h c)),
      fun a ha => (e c _ (Cert.KernelIdeal.Gen.mem_uc a (args_last a ha))).trans (Cert.KernelIdeal.Gen.W57_args m g c a ha)⟩)
    (Run.run m g)

/-- The reference ends with the network's result. -/
theorem reference_result (m : (l : Loc Cert.ReferenceIdeal.nD Cert.ReferenceIdeal.τ Cert.ReferenceIdeal.sig) → Buf (Elt Ideal) l) (c : Dev Cert.ReferenceIdeal.nD) :
    logSoftmax (Cert.ReferenceIdeal.Value.res_main_v682 (launchContents m c)) = (RefNet.args (launchContents m c)).result := by
  rw [RefNet.outputs]; rfl

/-- The two programs' arguments agree, so the network's arrays do. -/
theorem args_eq (a b : Args) (h : a.x = b.x ∧ a.e = b.e ∧ a.batch = b.batch ∧ a.W₁ = b.W₁ ∧ a.b₁ = b.b₁ ∧ a.W₂ = b.W₂ ∧ a.b₂ = b.b₂ ∧ a.W₃ = b.W₃ ∧ a.b₃ = b.b₃ ∧ a.p₁ = b.p₁ ∧ a.pb₁ = b.pb₁ ∧ a.p₂ = b.p₂ ∧ a.pb₂ = b.pb₂ ∧ a.p₃ = b.p₃ ∧ a.pb₃ = b.pb₃ ∧ a.l₁ = b.l₁ ∧ a.c₁ = b.c₁ ∧ a.l₂ = b.l₂ ∧ a.c₂ = b.c₂ ∧ a.l₃ = b.l₃ ∧ a.c₃ = b.c₃) : a = b := by
  cases a; cases b; rw [Args.mk.injEq]; exact h

/-- The value claim. -/
theorem algebraic : @Cert.algebraic_KernelIdeal_ReferenceIdeal_pre_finite Cert.KernelIdeal.Gen.facts Cert.ReferenceIdeal.Gen.facts Cert.Pre_finite.Gen.facts :=
  fun m g m' g' hp hm =>
  ⟨fun c => (args m c).result,
    (θ_run Cert.KernelIdeal.defs _ _).mono (fun r e c => ⟨(e c).1, (e c).2 Cert.KernelIdeal.main_arg0 (by decide +kernel),
      (e c).2 Cert.KernelIdeal.main_arg1 (by decide +kernel),
      (e c).2 Cert.KernelIdeal.main_arg2 (by decide +kernel),
      (e c).2 Cert.KernelIdeal.main_arg3 (by decide +kernel),
      (e c).2 Cert.KernelIdeal.main_arg4 (by decide +kernel),
      (e c).2 Cert.KernelIdeal.main_arg5 (by decide +kernel),
      (e c).2 Cert.KernelIdeal.main_arg6 (by decide +kernel),
      (e c).2 Cert.KernelIdeal.main_arg7 (by decide +kernel),
      (e c).2 Cert.KernelIdeal.main_arg8 (by decide +kernel),
      (e c).2 Cert.KernelIdeal.main_arg9 (by decide +kernel),
      (e c).2 Cert.KernelIdeal.main_arg10 (by decide +kernel),
      (e c).2 Cert.KernelIdeal.main_arg11 (by decide +kernel),
      (e c).2 Cert.KernelIdeal.main_arg12 (by decide +kernel),
      (e c).2 Cert.KernelIdeal.main_arg13 (by decide +kernel),
      (e c).2 Cert.KernelIdeal.main_arg14 (by decide +kernel),
      (e c).2 Cert.KernelIdeal.main_arg15 (by decide +kernel),
      (e c).2 Cert.KernelIdeal.main_arg16 (by decide +kernel),
      (e c).2 Cert.KernelIdeal.main_arg17 (by decide +kernel),
      (e c).2 Cert.KernelIdeal.main_arg18 (by decide +kernel),
      (e c).2 Cert.KernelIdeal.main_arg19 (by decide +kernel),
      (e c).2 Cert.KernelIdeal.main_arg20 (by decide +kernel)⟩)
      (kernel_run m g fun c => (args m c).real (Pre.reals m hp c)),
    (θ_run Cert.ReferenceIdeal.defs _ _).mono (fun r e c => ⟨(e c).1.trans ((reference_result m' c).trans (congrArg Args.result (args_eq _ _ (hm c)))), (e c).2⟩)
      (Cert.ReferenceIdeal.Value.run (F := Ideal) m' g')⟩

end Cert.Gnn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference's frame: its run leaves every argument as launched, and it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Everything claimed. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, Cert.Gnn.algebraic⟩

end Cert.Proof

end
